-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def preserves_Kernel_KernelIdeal : Prop :=
  True

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v342) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_queries_keys : Cert.Pre_finite_queries_keys.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_queries_keys.lean ====
abbrev S2x8448x8x64 : Shape := ⟨4, ![2, 8448, 8, 64]⟩
abbrev S2x8448x8x32 : Shape := ⟨4, ![2, 8448, 8, 32]⟩
abbrev S2x8448x32 : Shape := ⟨3, ![2, 8448, 32]⟩
abbrev S2x8192x8x64 : Shape := ⟨4, ![2, 8192, 8, 64]⟩
abbrev S2x8192x8x32 : Shape := ⟨4, ![2, 8192, 8, 32]⟩
abbrev S2x8192x8x96 : Shape := ⟨4, ![2, 8192, 8, 96]⟩
abbrev S2x8448x1x32 : Shape := ⟨4, ![2, 8448, 1, 32]⟩
abbrev S2x8448x8x96 : Shape := ⟨4, ![2, 8448, 8, 96]⟩
abbrev S2x16640x8x96 : Shape := ⟨4, ![2, 16640, 8, 96]⟩
abbrev S_ : Shape := ⟨0, ![]⟩

class Facts : Prop where
  slices_S2x8448x8x64_S2x8192x8x64_0_0_0_0 : S2x8448x8x64.Slices ![0, 0, 0, 0] S2x8192x8x64
  slices_S2x8448x8x32_S2x8192x8x32_0_0_0_0 : S2x8448x8x32.Slices ![0, 0, 0, 0] S2x8192x8x32
  concatenates_S2x8192x8x64_S2x8192x8x32_S2x8192x8x96_d3 : Shape.Concatenates [S2x8192x8x64, S2x8192x8x32] S2x8192x8x96 3
  bcast_S2x8448x32_S2x8448x1x32_0_1_3 : S2x8448x32.BroadcastsInDim S2x8448x1x32 (![0, 1, 3] : Fin 3 → Fin S2x8448x1x32.rank)
  bcast_S2x8448x1x32_S2x8448x8x32_0_1_2_3 : S2x8448x1x32.BroadcastsInDim S2x8448x8x32 (![0, 1, 2, 3] : Fin 4 → Fin S2x8448x8x32.rank)
  concatenates_S2x8448x8x64_S2x8448x8x32_S2x8448x8x96_d3 : Shape.Concatenates [S2x8448x8x64, S2x8448x8x32] S2x8448x8x96 3
  concatenates_S2x8192x8x96_S2x8448x8x96_S2x16640x8x96_d1 : Shape.Concatenates [S2x8192x8x96, S2x8448x8x96] S2x16640x8x96 1
  bcast_S_S2x16640x8x96 : S_.BroadcastsInDim S2x16640x8x96 (![] : Fin 0 → Fin S2x16640x8x96.rank)

variable [Facts]

def fn {F : FTy → Type} [FloatOps F] (main_arg0 : FVec F S2x8448x8x64 .f32) (main_arg1 : FVec F S2x8448x8x32 .f32) (main_arg2 : FVec F S2x8448x8x64 .f32) (main_arg3 : FVec F S2x8448x32 .f32) (main_arg4 : FVec F S2x8448x8x64 .f32) : IVec S2x16640x8x96 1 :=
  let main_v0 : FVec F S2x8192x8x64 .f32 := (extractStridedSlice S2x8192x8x64 ![0, 0, 0, 0] · slices_S2x8448x8x64_S2x8192x8x64_0_0_0_0) main_arg0
  let main_v1 : FVec F S2x8192x8x32 .f32 := (extractStridedSlice S2x8192x8x32 ![0, 0, 0, 0] · slices_S2x8448x8x32_S2x8192x8x32_0_0_0_0) main_arg1
  let main_v2 : FVec F S2x8192x8x96 .f32 := (fun a b => concatenate S2x8192x8x96 3 [⟨S2x8192x8x64, a⟩, ⟨S2x8192x8x32, b⟩] concatenates_S2x8192x8x64_S2x8192x8x32_S2x8192x8x96_d3) main_v0 main_v1
  let main_v3 : FVec F S2x8448x1x32 .f32 := broadcastInDim S2x8448x1x32 ![0, 1, 3] bcast_S2x8448x32_S2x8448x1x32_0_1_3 main_arg3
  let main_v4 : FVec F S2x8448x8x32 .f32 := broadcastInDim S2x8448x8x32 ![0, 1, 2, 3] bcast_S2x8448x1x32_S2x8448x8x32_0_1_2_3 main_v3
  let main_v5 : FVec F S2x8448x8x96 .f32 := (fun a b => concatenate S2x8448x8x96 3 [⟨S2x8448x8x64, a⟩, ⟨S2x8448x8x32, b⟩] concatenates_S2x8448x8x64_S2x8448x8x32_S2x8448x8x96_d3) main_arg2 main_v4
  let main_v6 : FVec F S2x16640x8x96 .f32 := (fun a b => concatenate S2x16640x8x96 1 [⟨S2x8192x8x96, a⟩, ⟨S2x8448x8x96, b⟩] concatenates_S2x8192x8x96_S2x8448x8x96_S2x16640x8x96_d1) main_v2 main_v5
  let main_v7 : FVec F S2x16640x8x96 .f32 := Host.absf main_v6
  let main_cst : FVec F S_ .f32 := constant S_ .f32 0x7F800000#32
  let main_v8 : FVec F S2x16640x8x96 .f32 := broadcastInDim S2x16640x8x96 ![] bcast_S_S2x16640x8x96 main_cst
  let main_v9 : IVec S2x16640x8x96 1 := cmpf .olt main_v7 main_v8
  main_v9
-- ==== Kernel.lean ====
abbrev S2x8448x8x64 : Shape := ⟨4, ![2, 8448, 8, 64]⟩
abbrev S2x8448x8x32 : Shape := ⟨4, ![2, 8448, 8, 32]⟩
abbrev S2x8448x32 : Shape := ⟨3, ![2, 8448, 32]⟩
abbrev S_ : Shape := ⟨0, ![]⟩
abbrev S2x8448x8x128 : Shape := ⟨4, ![2, 8448, 8, 128]⟩
abbrev S2x8448x1024 : Shape := ⟨3, ![2, 8448, 1024]⟩
abbrev S2x1024x8448 : Shape := ⟨3, ![2, 1024, 8448]⟩
abbrev S2x8448x1x32 : Shape := ⟨4, ![2, 8448, 1, 32]⟩
abbrev S2x8448x8x1 : Shape := ⟨4, ![2, 8448, 8, 1]⟩
abbrev S2x8448x8x15 : Shape := ⟨4, ![2, 8448, 8, 15]⟩
abbrev S2x8448x8x80 : Shape := ⟨4, ![2, 8448, 8, 80]⟩
abbrev S2x8448x640 : Shape := ⟨3, ![2, 8448, 640]⟩
abbrev S2x640x8448 : Shape := ⟨3, ![2, 640, 8448]⟩
abbrev S2x512x8192 : Shape := ⟨3, ![2, 512, 8192]⟩
abbrev S1x256x1024 : Shape := ⟨3, ![1, 256, 1024]⟩
abbrev S1x8448x256 : Shape := ⟨3, ![1, 8448, 256]⟩
abbrev S1x160x8448 : Shape := ⟨3, ![1, 160, 8448]⟩
abbrev S1x128x1024 : Shape := ⟨3, ![1, 128, 1024]⟩
abbrev S1x128x256 : Shape := ⟨3, ![1, 128, 256]⟩
abbrev S128x256 : Shape := ⟨2, ![128, 256]⟩
abbrev S1x256 : Shape := ⟨2, ![1, 256]⟩
abbrev S80x256 : Shape := ⟨2, ![80, 256]⟩
abbrev S256x256 : Shape := ⟨2, ![256, 256]⟩
abbrev S1x256x128 : Shape := ⟨3, ![1, 256, 128]⟩
abbrev S256x128 : Shape := ⟨2, ![256, 128]⟩
abbrev S256 : Shape := ⟨1, ![256]⟩
abbrev S1x80x256 : Shape := ⟨3, ![1, 80, 256]⟩
abbrev S64x256 : Shape := ⟨2, ![64, 256]⟩

abbrev nBuf : Space → Nat
  | .hbm => 31
  | .vmem => 8
  | .smem => 0
  | _ => 0

abbrev bufTy : (tb : Table) → Fin (tcTables nBuf tb) → BufTy
  | .hbm, ⟨0, _⟩ => ⟨S2x8448x8x64, .f32⟩
  | .hbm, ⟨1, _⟩ => ⟨S2x8448x8x32, .f32⟩
  | .hbm, ⟨2, _⟩ => ⟨S2x8448x8x64, .f32⟩
  | .hbm, ⟨3, _⟩ => ⟨S2x8448x32, .f32⟩
  | .hbm, ⟨4, _⟩ => ⟨S2x8448x8x64, .f32⟩
  | .hbm, ⟨5, _⟩ => ⟨S_, .f32⟩
  | .hbm, ⟨6, _⟩ => ⟨S2x8448x8x32, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x8448x8x128, .f32⟩
  | .hbm, ⟨12, _⟩ => ⟨S2x8448x8x128, .f32⟩
  | .hbm, ⟨13, _⟩ => ⟨S2x8448x8x128, .f32⟩
  | .hbm, ⟨14, _⟩ => ⟨S2x8448x1024, .f32⟩
  | .hbm, ⟨15, _⟩ => ⟨S2x1024x8448, .f32⟩
  | .hbm, ⟨16, _⟩ => ⟨S2x1024x8448, .bf16⟩
  | .hbm, ⟨17, _⟩ => ⟨S2x8448x1x32, .f32⟩
  | .hbm, ⟨18, _⟩ => ⟨S2x8448x8x32, .f32⟩
  | .hbm, ⟨19, _⟩ => ⟨S2x8448x8x128, .f32⟩
  | .hbm, ⟨20, _⟩ => ⟨S2x8448x1024, .f32⟩
  | .hbm, ⟨21, _⟩ => ⟨S2x8448x1024, .bf16⟩
  | .hbm, ⟨22, _⟩ => ⟨S_, .f32⟩
  | .hbm, ⟨23, _⟩ => ⟨S2x8448x8x1, .f32⟩
  | .hbm, ⟨24, _⟩ => ⟨S_, .f32⟩
  | .hbm, ⟨25, _⟩ => ⟨S2x8448x8x15, .f32⟩
  | .hbm, ⟨26, _⟩ => ⟨S2x8448x8x80, .f32⟩
  | .hbm, ⟨27, _⟩ => ⟨S2x8448x640, .f32⟩
  | .hbm, ⟨28, _⟩ => ⟨S2x640x8448, .f32⟩
  | .hbm, ⟨29, _⟩ => ⟨S2x640x8448, .bf16⟩
  | .hbm, ⟨30, _⟩ => ⟨S2x512x8192, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x160x8448, .bf16⟩
  | .local _ .vmem, ⟨5, _⟩ => ⟨S1x160x8448, .bf16⟩
  | .local _ .vmem, ⟨6, _⟩ => ⟨S1x128x1024, .bf16⟩
  | .local _ .vmem, ⟨7, _⟩ => ⟨S1x128x1024, .bf16⟩
  | _, _ => ⟨S2x8448x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_mult1 : BitVec 32 :=
  let c0_i32 : BitVec 32 := 0#32
  c0_i32
def k0_mult2 : BitVec 32 :=
  let c1_i32 : BitVec 32 := 1#32
  let c256_i32 : BitVec 32 := 256#32
  let v39 : BitVec 32 := Scalar.muli c1_i32 c256_i32
  v39
def k0_off1 (c1_i32 : BitVec 32) : Fin 3 → Nat :=
  let c0_19 : Index := 0#32
  let c256_i32 : BitVec 32 := 256#32
  let v39 : BitVec 32 := Scalar.muli c1_i32 c256_i32
  let v40 : BitVec 32 := v39
  let v41 : Index := Scalar.indexCast v40
  let c0_20 : Index := 0#32
  ![0, v41.toNat, 0]
def k0_off2 (c1_i32 : BitVec 32) : Fin 3 → Nat :=
  let c0_22 : Index := 0#32
  let c256_i32 : BitVec 32 := 256#32
  let v39 : BitVec 32 := Scalar.muli c1_i32 c256_i32
  let v40 : BitVec 32 := v39
  let v45 : Index := Scalar.indexCast v40
  let c128_23 : Index := 128#32
  ![0, v45.toNat, 128]
def k0_mult3 : BitVec 32 :=
  let c1_i32 : BitVec 32 := 1#32
  let c2_i32 : BitVec 32 := 2#32
  let v49 : BitVec 32 := Scalar.subi c1_i32 c2_i32
  let c0_i32_25 : BitVec 32 := 0#32
  let v50 : BitVec 32 := Scalar.maxsi v49 c0_i32_25
  let c256_i32_26 : BitVec 32 := 256#32
  let v51 : BitVec 32 := Scalar.muli v50 c256_i32_26
  v51
def k0_off3 (c1_i32 : BitVec 32) : Fin 3 → Nat :=
  let c0_27 : Index := 0#32
  let c0_28 : Index := 0#32
  let c2_i32 : BitVec 32 := 2#32
  let v49 : BitVec 32 := Scalar.subi c1_i32 c2_i32
  let c0_i32_25 : BitVec 32 := 0#32
  let v50 : BitVec 32 := Scalar.maxsi v49 c0_i32_25
  let c256_i32_26 : BitVec 32 := 256#32
  let v51 : BitVec 32 := Scalar.muli v50 c256_i32_26
  let v52 : BitVec 32 := v51
  let v55 : Index := Scalar.indexCast v52
  ![0, 0, v55.toNat]
def k0_off4 (c1_i32 : BitVec 32) : Fin 3 → Nat :=
  let c0_30 : Index := 0#32
  let c80 : Index := 80#32
  let c2_i32 : BitVec 32 := 2#32
  let v49 : BitVec 32 := Scalar.subi c1_i32 c2_i32
  let c0_i32_25 : BitVec 32 := 0#32
  let v50 : BitVec 32 := Scalar.maxsi v49 c0_i32_25
  let c256_i32_26 : BitVec 32 := 256#32
  let v51 : BitVec 32 := Scalar.muli v50 c256_i32_26
  let v52 : BitVec 32 := v51
  let v62 : Index := Scalar.indexCast v52
  ![0, 80, v62.toNat]
def k0_mult4 : BitVec 32 :=
  let c2_i32_32 : BitVec 32 := 2#32
  let c256_i32_35 : BitVec 32 := 256#32
  let v85 : BitVec 32 := Scalar.muli c2_i32_32 c256_i32_35
  v85
def k0_mult5 : BitVec 32 :=
  let c2_i32_32 : BitVec 32 := 2#32
  let c2_i32_42 : BitVec 32 := 2#32
  let v95 : BitVec 32 := Scalar.subi c2_i32_32 c2_i32_42
  let c0_i32_43 : BitVec 32 := 0#32
  let v96 : BitVec 32 := Scalar.maxsi v95 c0_i32_43
  let c256_i32_44 : BitVec 32 := 256#32
  let v97 : BitVec 32 := Scalar.muli v96 c256_i32_44
  v97
def k0_mult6 : BitVec 32 :=
  let c3_i32 : BitVec 32 := 3#32
  let c256_i32_53 : BitVec 32 := 256#32
  let v131 : BitVec 32 := Scalar.muli c3_i32 c256_i32_53
  v131
def k0_mult7 : BitVec 32 :=
  let c3_i32 : BitVec 32 := 3#32
  let c2_i32_60 : BitVec 32 := 2#32
  let v141 : BitVec 32 := Scalar.subi c3_i32 c2_i32_60
  let c0_i32_61 : BitVec 32 := 0#32
  let v142 : BitVec 32 := Scalar.maxsi v141 c0_i32_61
  let c256_i32_62 : BitVec 32 := 256#32
  let v143 : BitVec 32 := Scalar.muli v142 c256_i32_62
  v143
def k0_mult8 : BitVec 32 :=
  let c4_i32 : BitVec 32 := 4#32
  let c256_i32_71 : BitVec 32 := 256#32
  let v177 : BitVec 32 := Scalar.muli c4_i32 c256_i32_71
  v177
def k0_mult9 : BitVec 32 :=
  let c4_i32 : BitVec 32 := 4#32
  let c2_i32_78 : BitVec 32 := 2#32
  let v187 : BitVec 32 := Scalar.subi c4_i32 c2_i32_78
  let c0_i32_79 : BitVec 32 := 0#32
  let v188 : BitVec 32 := Scalar.maxsi v187 c0_i32_79
  let c256_i32_80 : BitVec 32 := 256#32
  let v189 : BitVec 32 := Scalar.muli v188 c256_i32_80
  v189
def k0_mult10 : BitVec 32 :=
  let c5_i32 : BitVec 32 := 5#32
  let c256_i32_89 : BitVec 32 := 256#32
  let v223 : BitVec 32 := Scalar.muli c5_i32 c256_i32_89
  v223
def k0_mult11 : BitVec 32 :=
  let c5_i32 : BitVec 32 := 5#32
  let c2_i32_96 : BitVec 32 := 2#32
  let v233 : BitVec 32 := Scalar.subi c5_i32 c2_i32_96
  let c0_i32_97 : BitVec 32 := 0#32
  let v234 : BitVec 32 := Scalar.maxsi v233 c0_i32_97
  let c256_i32_98 : BitVec 32 := 256#32
  let v235 : BitVec 32 := Scalar.muli v234 c256_i32_98
  v235
def k0_mult12 : BitVec 32 :=
  let c6_i32 : BitVec 32 := 6#32
  let c256_i32_107 : BitVec 32 := 256#32
  let v269 : BitVec 32 := Scalar.muli c6_i32 c256_i32_107
  v269
def k0_mult13 : BitVec 32 :=
  let c6_i32 : BitVec 32 := 6#32
  let c2_i32_114 : BitVec 32 := 2#32
  let v279 : BitVec 32 := Scalar.subi c6_i32 c2_i32_114
  let c0_i32_115 : BitVec 32 := 0#32
  let v280 : BitVec 32 := Scalar.maxsi v279 c0_i32_115
  let c256_i32_116 : BitVec 32 := 256#32
  let v281 : BitVec 32 := Scalar.muli v280 c256_i32_116
  v281
def k0_mult14 : BitVec 32 :=
  let c7_i32 : BitVec 32 := 7#32
  let c256_i32_125 : BitVec 32 := 256#32
  let v315 : BitVec 32 := Scalar.muli c7_i32 c256_i32_125
  v315
def k0_mult15 : BitVec 32 :=
  let c7_i32 : BitVec 32 := 7#32
  let c2_i32_132 : BitVec 32 := 2#32
  let v325 : BitVec 32 := Scalar.subi c7_i32 c2_i32_132
  let c0_i32_133 : BitVec 32 := 0#32
  let v326 : BitVec 32 := Scalar.maxsi v325 c0_i32_133
  let c256_i32_134 : BitVec 32 := 256#32
  let v327 : BitVec 32 := Scalar.muli v326 c256_i32_134
  v327
def k0_mult16 : BitVec 32 :=
  let c8_i32 : BitVec 32 := 8#32
  let c256_i32_143 : BitVec 32 := 256#32
  let v361 : BitVec 32 := Scalar.muli c8_i32 c256_i32_143
  v361
def k0_mult17 : BitVec 32 :=
  let c8_i32 : BitVec 32 := 8#32
  let c2_i32_150 : BitVec 32 := 2#32
  let v371 : BitVec 32 := Scalar.subi c8_i32 c2_i32_150
  let c0_i32_151 : BitVec 32 := 0#32
  let v372 : BitVec 32 := Scalar.maxsi v371 c0_i32_151
  let c256_i32_152 : BitVec 32 := 256#32
  let v373 : BitVec 32 := Scalar.muli v372 c256_i32_152
  v373
def k0_mult18 : BitVec 32 :=
  let c9_i32 : BitVec 32 := 9#32
  let c256_i32_161 : BitVec 32 := 256#32
  let v407 : BitVec 32 := Scalar.muli c9_i32 c256_i32_161
  v407
def k0_mult19 : BitVec 32 :=
  let c9_i32 : BitVec 32 := 9#32
  let c2_i32_168 : BitVec 32 := 2#32
  let v417 : BitVec 32 := Scalar.subi c9_i32 c2_i32_168
  let c0_i32_169 : BitVec 32 := 0#32
  let v418 : BitVec 32 := Scalar.maxsi v417 c0_i32_169
  let c256_i32_170 : BitVec 32 := 256#32
  let v419 : BitVec 32 := Scalar.muli v418 c256_i32_170
  v419
def k0_mult20 : BitVec 32 :=
  let c10_i32 : BitVec 32 := 10#32
  let c256_i32_179 : BitVec 32 := 256#32
  let v453 : BitVec 32 := Scalar.muli c10_i32 c256_i32_179
  v453
def k0_mult21 : BitVec 32 :=
  let c10_i32 : BitVec 32 := 10#32
  let c2_i32_186 : BitVec 32 := 2#32
  let v463 : BitVec 32 := Scalar.subi c10_i32 c2_i32_186
  let c0_i32_187 : BitVec 32 := 0#32
  let v464 : BitVec 32 := Scalar.maxsi v463 c0_i32_187
  let c256_i32_188 : BitVec 32 := 256#32
  let v465 : BitVec 32 := Scalar.muli v464 c256_i32_188
  v465
def k0_mult22 : BitVec 32 :=
  let c11_i32 : BitVec 32 := 11#32
  let c256_i32_197 : BitVec 32 := 256#32
  let v499 : BitVec 32 := Scalar.muli c11_i32 c256_i32_197
  v499
def k0_mult23 : BitVec 32 :=
  let c11_i32 : BitVec 32 := 11#32
  let c2_i32_204 : BitVec 32 := 2#32
  let v509 : BitVec 32 := Scalar.subi c11_i32 c2_i32_204
  let c0_i32_205 : BitVec 32 := 0#32
  let v510 : BitVec 32 := Scalar.maxsi v509 c0_i32_205
  let c256_i32_206 : BitVec 32 := 256#32
  let v511 : BitVec 32 := Scalar.muli v510 c256_i32_206
  v511
def k0_mult24 : BitVec 32 :=
  let c12_i32 : BitVec 32 := 12#32
  let c256_i32_215 : BitVec 32 := 256#32
  let v545 : BitVec 32 := Scalar.muli c12_i32 c256_i32_215
  v545
def k0_mult25 : BitVec 32 :=
  let c12_i32 : BitVec 32 := 12#32
  let c2_i32_222 : BitVec 32 := 2#32
  let v555 : BitVec 32 := Scalar.subi c12_i32 c2_i32_222
  let c0_i32_223 : BitVec 32 := 0#32
  let v556 : BitVec 32 := Scalar.maxsi v555 c0_i32_223
  let c256_i32_224 : BitVec 32 := 256#32
  let v557 : BitVec 32 := Scalar.muli v556 c256_i32_224
  v557
def k0_mult26 : BitVec 32 :=
  let c13_i32 : BitVec 32 := 13#32
  let c256_i32_233 : BitVec 32 := 256#32
  let v591 : BitVec 32 := Scalar.muli c13_i32 c256_i32_233
  v591
def k0_mult27 : BitVec 32 :=
  let c13_i32 : BitVec 32 := 13#32
  let c2_i32_240 : BitVec 32 := 2#32
  let v601 : BitVec 32 := Scalar.subi c13_i32 c2_i32_240
  let c0_i32_241 : BitVec 32 := 0#32
  let v602 : BitVec 32 := Scalar.maxsi v601 c0_i32_241
  let c256_i32_242 : BitVec 32 := 256#32
  let v603 : BitVec 32 := Scalar.muli v602 c256_i32_242
  v603
def k0_mult28 : BitVec 32 :=
  let c14_i32 : BitVec 32 := 14#32
  let c256_i32_251 : BitVec 32 := 256#32
  let v637 : BitVec 32 := Scalar.muli c14_i32 c256_i32_251
  v637
def k0_mult29 : BitVec 32 :=
  let c14_i32 : BitVec 32 := 14#32
  let c2_i32_258 : BitVec 32 := 2#32
  let v647 : BitVec 32 := Scalar.subi c14_i32 c2_i32_258
  let c0_i32_259 : BitVec 32 := 0#32
  let v648 : BitVec 32 := Scalar.maxsi v647 c0_i32_259
  let c256_i32_260 : BitVec 32 := 256#32
  let v649 : BitVec 32 := Scalar.muli v648 c256_i32_260
  v649
def k0_mult30 : BitVec 32 :=
  let c15_i32 : BitVec 32 := 15#32
  let c256_i32_269 : BitVec 32 := 256#32
  let v683 : BitVec 32 := Scalar.muli c15_i32 c256_i32_269
  v683
def k0_mult31 : BitVec 32 :=
  let c15_i32 : BitVec 32 := 15#32
  let c2_i32_276 : BitVec 32 := 2#32
  let v693 : BitVec 32 := Scalar.subi c15_i32 c2_i32_276
  let c0_i32_277 : BitVec 32 := 0#32
  let v694 : BitVec 32 := Scalar.maxsi v693 c0_i32_277
  let c256_i32_278 : BitVec 32 := 256#32
  let v695 : BitVec 32 := Scalar.muli v694 c256_i32_278
  v695
def k0_mult32 : BitVec 32 :=
  let c16_i32 : BitVec 32 := 16#32
  let c256_i32_287 : BitVec 32 := 256#32
  let v729 : BitVec 32 := Scalar.muli c16_i32 c256_i32_287
  v729
def k0_mult33 : BitVec 32 :=
  let c16_i32 : BitVec 32 := 16#32
  let c2_i32_294 : BitVec 32 := 2#32
  let v739 : BitVec 32 := Scalar.subi c16_i32 c2_i32_294
  let c0_i32_295 : BitVec 32 := 0#32
  let v740 : BitVec 32 := Scalar.maxsi v739 c0_i32_295
  let c256_i32_296 : BitVec 32 := 256#32
  let v741 : BitVec 32 := Scalar.muli v740 c256_i32_296
  v741
def k0_mult34 : BitVec 32 :=
  let c17_i32 : BitVec 32 := 17#32
  let c256_i32_305 : BitVec 32 := 256#32
  let v775 : BitVec 32 := Scalar.muli c17_i32 c256_i32_305
  v775
def k0_mult35 : BitVec 32 :=
  let c17_i32 : BitVec 32 := 17#32
  let c2_i32_312 : BitVec 32 := 2#32
  let v785 : BitVec 32 := Scalar.subi c17_i32 c2_i32_312
  let c0_i32_313 : BitVec 32 := 0#32
  let v786 : BitVec 32 := Scalar.maxsi v785 c0_i32_313
  let c256_i32_314 : BitVec 32 := 256#32
  let v787 : BitVec 32 := Scalar.muli v786 c256_i32_314
  v787
def k0_mult36 : BitVec 32 :=
  let c18_i32 : BitVec 32 := 18#32
  let c256_i32_323 : BitVec 32 := 256#32
  let v821 : BitVec 32 := Scalar.muli c18_i32 c256_i32_323
  v821
def k0_mult37 : BitVec 32 :=
  let c18_i32 : BitVec 32 := 18#32
  let c2_i32_330 : BitVec 32 := 2#32
  let v831 : BitVec 32 := Scalar.subi c18_i32 c2_i32_330
  let c0_i32_331 : BitVec 32 := 0#32
  let v832 : BitVec 32 := Scalar.maxsi v831 c0_i32_331
  let c256_i32_332 : BitVec 32 := 256#32
  let v833 : BitVec 32 := Scalar.muli v832 c256_i32_332
  v833
def k0_mult38 : BitVec 32 :=
  let c19_i32 : BitVec 32 := 19#32
  let c256_i32_341 : BitVec 32 := 256#32
  let v867 : BitVec 32 := Scalar.muli c19_i32 c256_i32_341
  v867
def k0_mult39 : BitVec 32 :=
  let c19_i32 : BitVec 32 := 19#32
  let c2_i32_348 : BitVec 32 := 2#32
  let v877 : BitVec 32 := Scalar.subi c19_i32 c2_i32_348
  let c0_i32_349 : BitVec 32 := 0#32
  let v878 : BitVec 32 := Scalar.maxsi v877 c0_i32_349
  let c256_i32_350 : BitVec 32 := 256#32
  let v879 : BitVec 32 := Scalar.muli v878 c256_i32_350
  v879
def k0_mult40 : BitVec 32 :=
  let c20_i32 : BitVec 32 := 20#32
  let c256_i32_359 : BitVec 32 := 256#32
  let v913 : BitVec 32 := Scalar.muli c20_i32 c256_i32_359
  v913
def k0_mult41 : BitVec 32 :=
  let c20_i32 : BitVec 32 := 20#32
  let c2_i32_366 : BitVec 32 := 2#32
  let v923 : BitVec 32 := Scalar.subi c20_i32 c2_i32_366
  let c0_i32_367 : BitVec 32 := 0#32
  let v924 : BitVec 32 := Scalar.maxsi v923 c0_i32_367
  let c256_i32_368 : BitVec 32 := 256#32
  let v925 : BitVec 32 := Scalar.muli v924 c256_i32_368
  v925
def k0_mult42 : BitVec 32 :=
  let c21_i32 : BitVec 32 := 21#32
  let c256_i32_377 : BitVec 32 := 256#32
  let v959 : BitVec 32 := Scalar.muli c21_i32 c256_i32_377
  v959
def k0_mult43 : BitVec 32 :=
  let c21_i32 : BitVec 32 := 21#32
  let c2_i32_384 : BitVec 32 := 2#32
  let v969 : BitVec 32 := Scalar.subi c21_i32 c2_i32_384
  let c0_i32_385 : BitVec 32 := 0#32
  let v970 : BitVec 32 := Scalar.maxsi v969 c0_i32_385
  let c256_i32_386 : BitVec 32 := 256#32
  let v971 : BitVec 32 := Scalar.muli v970 c256_i32_386
  v971
def k0_mult44 : BitVec 32 :=
  let c22_i32 : BitVec 32 := 22#32
  let c256_i32_395 : BitVec 32 := 256#32
  let v1005 : BitVec 32 := Scalar.muli c22_i32 c256_i32_395
  v1005
def k0_mult45 : BitVec 32 :=
  let c22_i32 : BitVec 32 := 22#32
  let c2_i32_402 : BitVec 32 := 2#32
  let v1015 : BitVec 32 := Scalar.subi c22_i32 c2_i32_402
  let c0_i32_403 : BitVec 32 := 0#32
  let v1016 : BitVec 32 := Scalar.maxsi v1015 c0_i32_403
  let c256_i32_404 : BitVec 32 := 256#32
  let v1017 : BitVec 32 := Scalar.muli v1016 c256_i32_404
  v1017
def k0_mult46 : BitVec 32 :=
  let c23_i32 : BitVec 32 := 23#32
  let c256_i32_413 : BitVec 32 := 256#32
  let v1051 : BitVec 32 := Scalar.muli c23_i32 c256_i32_413
  v1051
def k0_mult47 : BitVec 32 :=
  let c23_i32 : BitVec 32 := 23#32
  let c2_i32_420 : BitVec 32 := 2#32
  let v1061 : BitVec 32 := Scalar.subi c23_i32 c2_i32_420
  let c0_i32_421 : BitVec 32 := 0#32
  let v1062 : BitVec 32 := Scalar.maxsi v1061 c0_i32_421
  let c256_i32_422 : BitVec 32 := 256#32
  let v1063 : BitVec 32 := Scalar.muli v1062 c256_i32_422
  v1063
def k0_mult48 : BitVec 32 :=
  let c24_i32 : BitVec 32 := 24#32
  let c256_i32_431 : BitVec 32 := 256#32
  let v1097 : BitVec 32 := Scalar.muli c24_i32 c256_i32_431
  v1097
def k0_mult49 : BitVec 32 :=
  let c24_i32 : BitVec 32 := 24#32
  let c2_i32_438 : BitVec 32 := 2#32
  let v1107 : BitVec 32 := Scalar.subi c24_i32 c2_i32_438
  let c0_i32_439 : BitVec 32 := 0#32
  let v1108 : BitVec 32 := Scalar.maxsi v1107 c0_i32_439
  let c256_i32_440 : BitVec 32 := 256#32
  let v1109 : BitVec 32 := Scalar.muli v1108 c256_i32_440
  v1109
def k0_mult50 : BitVec 32 :=
  let c25_i32 : BitVec 32 := 25#32
  let c256_i32_449 : BitVec 32 := 256#32
  let v1143 : BitVec 32 := Scalar.muli c25_i32 c256_i32_449
  v1143
def k0_mult51 : BitVec 32 :=
  let c25_i32 : BitVec 32 := 25#32
  let c2_i32_456 : BitVec 32 := 2#32
  let v1153 : BitVec 32 := Scalar.subi c25_i32 c2_i32_456
  let c0_i32_457 : BitVec 32 := 0#32
  let v1154 : BitVec 32 := Scalar.maxsi v1153 c0_i32_457
  let c256_i32_458 : BitVec 32 := 256#32
  let v1155 : BitVec 32 := Scalar.muli v1154 c256_i32_458
  v1155
def k0_mult52 : BitVec 32 :=
  let c26_i32 : BitVec 32 := 26#32
  let c256_i32_467 : BitVec 32 := 256#32
  let v1189 : BitVec 32 := Scalar.muli c26_i32 c256_i32_467
  v1189
def k0_mult53 : BitVec 32 :=
  let c26_i32 : BitVec 32 := 26#32
  let c2_i32_474 : BitVec 32 := 2#32
  let v1199 : BitVec 32 := Scalar.subi c26_i32 c2_i32_474
  let c0_i32_475 : BitVec 32 := 0#32
  let v1200 : BitVec 32 := Scalar.maxsi v1199 c0_i32_475
  let c256_i32_476 : BitVec 32 := 256#32
  let v1201 : BitVec 32 := Scalar.muli v1200 c256_i32_476
  v1201
def k0_mult54 : BitVec 32 :=
  let c27_i32 : BitVec 32 := 27#32
  let c256_i32_485 : BitVec 32 := 256#32
  let v1235 : BitVec 32 := Scalar.muli c27_i32 c256_i32_485
  v1235
def k0_mult55 : BitVec 32 :=
  let c27_i32 : BitVec 32 := 27#32
  let c2_i32_492 : BitVec 32 := 2#32
  let v1245 : BitVec 32 := Scalar.subi c27_i32 c2_i32_492
  let c0_i32_493 : BitVec 32 := 0#32
  let v1246 : BitVec 32 := Scalar.maxsi v1245 c0_i32_493
  let c256_i32_494 : BitVec 32 := 256#32
  let v1247 : BitVec 32 := Scalar.muli v1246 c256_i32_494
  v1247
def k0_mult56 : BitVec 32 :=
  let c28_i32 : BitVec 32 := 28#32
  let c256_i32_503 : BitVec 32 := 256#32
  let v1281 : BitVec 32 := Scalar.muli c28_i32 c256_i32_503
  v1281
def k0_mult57 : BitVec 32 :=
  let c28_i32 : BitVec 32 := 28#32
  let c2_i32_510 : BitVec 32 := 2#32
  let v1291 : BitVec 32 := Scalar.subi c28_i32 c2_i32_510
  let c0_i32_511 : BitVec 32 := 0#32
  let v1292 : BitVec 32 := Scalar.maxsi v1291 c0_i32_511
  let c256_i32_512 : BitVec 32 := 256#32
  let v1293 : BitVec 32 := Scalar.muli v1292 c256_i32_512
  v1293
def k0_mult58 : BitVec 32 :=
  let c29_i32 : BitVec 32 := 29#32
  let c256_i32_521 : BitVec 32 := 256#32
  let v1327 : BitVec 32 := Scalar.muli c29_i32 c256_i32_521
  v1327
def k0_mult59 : BitVec 32 :=
  let c29_i32 : BitVec 32 := 29#32
  let c2_i32_528 : BitVec 32 := 2#32
  let v1337 : BitVec 32 := Scalar.subi c29_i32 c2_i32_528
  let c0_i32_529 : BitVec 32 := 0#32
  let v1338 : BitVec 32 := Scalar.maxsi v1337 c0_i32_529
  let c256_i32_530 : BitVec 32 := 256#32
  let v1339 : BitVec 32 := Scalar.muli v1338 c256_i32_530
  v1339
def k0_mult60 : BitVec 32 :=
  let c30_i32 : BitVec 32 := 30#32
  let c256_i32_539 : BitVec 32 := 256#32
  let v1373 : BitVec 32 := Scalar.muli c30_i32 c256_i32_539
  v1373
def k0_mult61 : BitVec 32 :=
  let c30_i32 : BitVec 32 := 30#32
  let c2_i32_546 : BitVec 32 := 2#32
  let v1383 : BitVec 32 := Scalar.subi c30_i32 c2_i32_546
  let c0_i32_547 : BitVec 32 := 0#32
  let v1384 : BitVec 32 := Scalar.maxsi v1383 c0_i32_547
  let c256_i32_548 : BitVec 32 := 256#32
  let v1385 : BitVec 32 := Scalar.muli v1384 c256_i32_548
  v1385
def k0_mult62 : BitVec 32 :=
  let c31_i32 : BitVec 32 := 31#32
  let c256_i32_557 : BitVec 32 := 256#32
  let v1419 : BitVec 32 := Scalar.muli c31_i32 c256_i32_557
  v1419
def k0_mult63 : BitVec 32 :=
  let c31_i32 : BitVec 32 := 31#32
  let c2_i32_564 : BitVec 32 := 2#32
  let v1429 : BitVec 32 := Scalar.subi c31_i32 c2_i32_564
  let c0_i32_565 : BitVec 32 := 0#32
  let v1430 : BitVec 32 := Scalar.maxsi v1429 c0_i32_565
  let c256_i32_566 : BitVec 32 := 256#32
  let v1431 : BitVec 32 := Scalar.muli v1430 c256_i32_566
  v1431
def k0_mult64 : BitVec 32 :=
  let c32_i32 : BitVec 32 := 32#32
  let c256_i32_575 : BitVec 32 := 256#32
  let v1465 : BitVec 32 := Scalar.muli c32_i32 c256_i32_575
  v1465
def k0_mult65 : BitVec 32 :=
  let c32_i32 : BitVec 32 := 32#32
  let c2_i32_582 : BitVec 32 := 2#32
  let v1475 : BitVec 32 := Scalar.subi c32_i32 c2_i32_582
  let c0_i32_583 : BitVec 32 := 0#32
  let v1476 : BitVec 32 := Scalar.maxsi v1475 c0_i32_583
  let c256_i32_584 : BitVec 32 := 256#32
  let v1477 : BitVec 32 := Scalar.muli v1476 c256_i32_584
  v1477
def k0_mult66 : BitVec 32 :=
  let c0_i32_605 : BitVec 32 := 0#32
  c0_i32_605
def k0_mult67 : BitVec 32 :=
  let c31_i32_612 : BitVec 32 := 31#32
  let c0_i32_613 : BitVec 32 := 0#32
  let v1514 : BitVec 32 := Scalar.maxsi c31_i32_612 c0_i32_613
  let c256_i32_614 : BitVec 32 := 256#32
  let v1515 : BitVec 32 := Scalar.muli v1514 c256_i32_614
  v1515
def k0_off5 (c31_i32_612 : BitVec 32) : Fin 3 → Nat :=
  let c0_615 : Index := 0#32
  let c0_616 : Index := 0#32
  let c0_i32_613 : BitVec 32 := 0#32
  let v1514 : BitVec 32 := Scalar.maxsi c31_i32_612 c0_i32_613
  let c256_i32_614 : BitVec 32 := 256#32
  let v1515 : BitVec 32 := Scalar.muli v1514 c256_i32_614
  let v1516 : BitVec 32 := v1515
  let v1519 : Index := Scalar.indexCast v1516
  ![0, 0, v1519.toNat]
def k0_off6 (c31_i32_612 : BitVec 32) : Fin 3 → Nat :=
  let c0_618 : Index := 0#32
  let c80_619 : Index := 80#32
  let c0_i32_613 : BitVec 32 := 0#32
  let v1514 : BitVec 32 := Scalar.maxsi c31_i32_612 c0_i32_613
  let c256_i32_614 : BitVec 32 := 256#32
  let v1515 : BitVec 32 := Scalar.muli v1514 c256_i32_614
  let v1516 : BitVec 32 := v1515
  let v1526 : Index := Scalar.indexCast v1516
  ![0, 80, v1526.toNat]
def k0_mult68 : BitVec 32 :=
  let c32_i32_623 : BitVec 32 := 32#32
  let c0_i32_624 : BitVec 32 := 0#32
  let v1549 : BitVec 32 := Scalar.maxsi c32_i32_623 c0_i32_624
  let c256_i32_625 : BitVec 32 := 256#32
  let v1550 : BitVec 32 := Scalar.muli v1549 c256_i32_625
  v1550
def k0_mult69 : BitVec 32 :=
  let c1_i32_635 : BitVec 32 := 1#32
  let c256_i32_638 : BitVec 32 := 256#32
  let v1597 : BitVec 32 := Scalar.muli c1_i32_635 c256_i32_638
  v1597
def k0_mult70 : BitVec 32 :=
  let c1_i32_635 : BitVec 32 := 1#32
  let c2_i32_645 : BitVec 32 := 2#32
  let v1607 : BitVec 32 := Scalar.subi c1_i32_635 c2_i32_645
  let c0_i32_646 : BitVec 32 := 0#32
  let v1608 : BitVec 32 := Scalar.maxsi v1607 c0_i32_646
  let c256_i32_647 : BitVec 32 := 256#32
  let v1609 : BitVec 32 := Scalar.muli v1608 c256_i32_647
  v1609
def k0_mult71 : BitVec 32 :=
  let c2_i32_654 : BitVec 32 := 2#32
  let c256_i32_657 : BitVec 32 := 256#32
  let v1643 : BitVec 32 := Scalar.muli c2_i32_654 c256_i32_657
  v1643
def k0_mult72 : BitVec 32 :=
  let c2_i32_654 : BitVec 32 := 2#32
  let c2_i32_664 : BitVec 32 := 2#32
  let v1653 : BitVec 32 := Scalar.subi c2_i32_654 c2_i32_664
  let c0_i32_665 : BitVec 32 := 0#32
  let v1654 : BitVec 32 := Scalar.maxsi v1653 c0_i32_665
  let c256_i32_666 : BitVec 32 := 256#32
  let v1655 : BitVec 32 := Scalar.muli v1654 c256_i32_666
  v1655
def k0_mult73 : BitVec 32 :=
  let c3_i32_673 : BitVec 32 := 3#32
  let c256_i32_676 : BitVec 32 := 256#32
  let v1689 : BitVec 32 := Scalar.muli c3_i32_673 c256_i32_676
  v1689
def k0_mult74 : BitVec 32 :=
  let c3_i32_673 : BitVec 32 := 3#32
  let c2_i32_683 : BitVec 32 := 2#32
  let v1699 : BitVec 32 := Scalar.subi c3_i32_673 c2_i32_683
  let c0_i32_684 : BitVec 32 := 0#32
  let v1700 : BitVec 32 := Scalar.maxsi v1699 c0_i32_684
  let c256_i32_685 : BitVec 32 := 256#32
  let v1701 : BitVec 32 := Scalar.muli v1700 c256_i32_685
  v1701
def k0_mult75 : BitVec 32 :=
  let c4_i32_692 : BitVec 32 := 4#32
  let c256_i32_695 : BitVec 32 := 256#32
  let v1735 : BitVec 32 := Scalar.muli c4_i32_692 c256_i32_695
  v1735
def k0_mult76 : BitVec 32 :=
  let c4_i32_692 : BitVec 32 := 4#32
  let c2_i32_702 : BitVec 32 := 2#32
  let v1745 : BitVec 32 := Scalar.subi c4_i32_692 c2_i32_702
  let c0_i32_703 : BitVec 32 := 0#32
  let v1746 : BitVec 32 := Scalar.maxsi v1745 c0_i32_703
  let c256_i32_704 : BitVec 32 := 256#32
  let v1747 : BitVec 32 := Scalar.muli v1746 c256_i32_704
  v1747
def k0_mult77 : BitVec 32 :=
  let c5_i32_711 : BitVec 32 := 5#32
  let c256_i32_714 : BitVec 32 := 256#32
  let v1781 : BitVec 32 := Scalar.muli c5_i32_711 c256_i32_714
  v1781
def k0_mult78 : BitVec 32 :=
  let c5_i32_711 : BitVec 32 := 5#32
  let c2_i32_721 : BitVec 32 := 2#32
  let v1791 : BitVec 32 := Scalar.subi c5_i32_711 c2_i32_721
  let c0_i32_722 : BitVec 32 := 0#32
  let v1792 : BitVec 32 := Scalar.maxsi v1791 c0_i32_722
  let c256_i32_723 : BitVec 32 := 256#32
  let v1793 : BitVec 32 := Scalar.muli v1792 c256_i32_723
  v1793
def k0_mult79 : BitVec 32 :=
  let c6_i32_730 : BitVec 32 := 6#32
  let c256_i32_733 : BitVec 32 := 256#32
  let v1827 : BitVec 32 := Scalar.muli c6_i32_730 c256_i32_733
  v1827
def k0_mult80 : BitVec 32 :=
  let c6_i32_730 : BitVec 32 := 6#32
  let c2_i32_740 : BitVec 32 := 2#32
  let v1837 : BitVec 32 := Scalar.subi c6_i32_730 c2_i32_740
  let c0_i32_741 : BitVec 32 := 0#32
  let v1838 : BitVec 32 := Scalar.maxsi v1837 c0_i32_741
  let c256_i32_742 : BitVec 32 := 256#32
  let v1839 : BitVec 32 := Scalar.muli v1838 c256_i32_742
  v1839
def k0_mult81 : BitVec 32 :=
  let c7_i32_749 : BitVec 32 := 7#32
  let c256_i32_752 : BitVec 32 := 256#32
  let v1873 : BitVec 32 := Scalar.muli c7_i32_749 c256_i32_752
  v1873
def k0_mult82 : BitVec 32 :=
  let c7_i32_749 : BitVec 32 := 7#32
  let c2_i32_759 : BitVec 32 := 2#32
  let v1883 : BitVec 32 := Scalar.subi c7_i32_749 c2_i32_759
  let c0_i32_760 : BitVec 32 := 0#32
  let v1884 : BitVec 32 := Scalar.maxsi v1883 c0_i32_760
  let c256_i32_761 : BitVec 32 := 256#32
  let v1885 : BitVec 32 := Scalar.muli v1884 c256_i32_761
  v1885
def k0_mult83 : BitVec 32 :=
  let c8_i32_768 : BitVec 32 := 8#32
  let c256_i32_771 : BitVec 32 := 256#32
  let v1919 : BitVec 32 := Scalar.muli c8_i32_768 c256_i32_771
  v1919
def k0_mult84 : BitVec 32 :=
  let c8_i32_768 : BitVec 32 := 8#32
  let c2_i32_778 : BitVec 32 := 2#32
  let v1929 : BitVec 32 := Scalar.subi c8_i32_768 c2_i32_778
  let c0_i32_779 : BitVec 32 := 0#32
  let v1930 : BitVec 32 := Scalar.maxsi v1929 c0_i32_779
  let c256_i32_780 : BitVec 32 := 256#32
  let v1931 : BitVec 32 := Scalar.muli v1930 c256_i32_780
  v1931
def k0_mult85 : BitVec 32 :=
  let c9_i32_787 : BitVec 32 := 9#32
  let c256_i32_790 : BitVec 32 := 256#32
  let v1965 : BitVec 32 := Scalar.muli c9_i32_787 c256_i32_790
  v1965
def k0_mult86 : BitVec 32 :=
  let c9_i32_787 : BitVec 32 := 9#32
  let c2_i32_797 : BitVec 32 := 2#32
  let v1975 : BitVec 32 := Scalar.subi c9_i32_787 c2_i32_797
  let c0_i32_798 : BitVec 32 := 0#32
  let v1976 : BitVec 32 := Scalar.maxsi v1975 c0_i32_798
  let c256_i32_799 : BitVec 32 := 256#32
  let v1977 : BitVec 32 := Scalar.muli v1976 c256_i32_799
  v1977
def k0_mult87 : BitVec 32 :=
  let c10_i32_806 : BitVec 32 := 10#32
  let c256_i32_809 : BitVec 32 := 256#32
  let v2011 : BitVec 32 := Scalar.muli c10_i32_806 c256_i32_809
  v2011
def k0_mult88 : BitVec 32 :=
  let c10_i32_806 : BitVec 32 := 10#32
  let c2_i32_816 : BitVec 32 := 2#32
  let v2021 : BitVec 32 := Scalar.subi c10_i32_806 c2_i32_816
  let c0_i32_817 : BitVec 32 := 0#32
  let v2022 : BitVec 32 := Scalar.maxsi v2021 c0_i32_817
  let c256_i32_818 : BitVec 32 := 256#32
  let v2023 : BitVec 32 := Scalar.muli v2022 c256_i32_818
  v2023
def k0_mult89 : BitVec 32 :=
  let c11_i32_825 : BitVec 32 := 11#32
  let c256_i32_828 : BitVec 32 := 256#32
  let v2057 : BitVec 32 := Scalar.muli c11_i32_825 c256_i32_828
  v2057
def k0_mult90 : BitVec 32 :=
  let c11_i32_825 : BitVec 32 := 11#32
  let c2_i32_835 : BitVec 32 := 2#32
  let v2067 : BitVec 32 := Scalar.subi c11_i32_825 c2_i32_835
  let c0_i32_836 : BitVec 32 := 0#32
  let v2068 : BitVec 32 := Scalar.maxsi v2067 c0_i32_836
  let c256_i32_837 : BitVec 32 := 256#32
  let v2069 : BitVec 32 := Scalar.muli v2068 c256_i32_837
  v2069
def k0_mult91 : BitVec 32 :=
  let c12_i32_844 : BitVec 32 := 12#32
  let c256_i32_847 : BitVec 32 := 256#32
  let v2103 : BitVec 32 := Scalar.muli c12_i32_844 c256_i32_847
  v2103
def k0_mult92 : BitVec 32 :=
  let c12_i32_844 : BitVec 32 := 12#32
  let c2_i32_854 : BitVec 32 := 2#32
  let v2113 : BitVec 32 := Scalar.subi c12_i32_844 c2_i32_854
  let c0_i32_855 : BitVec 32 := 0#32
  let v2114 : BitVec 32 := Scalar.maxsi v2113 c0_i32_855
  let c256_i32_856 : BitVec 32 := 256#32
  let v2115 : BitVec 32 := Scalar.muli v2114 c256_i32_856
  v2115
def k0_mult93 : BitVec 32 :=
  let c13_i32_863 : BitVec 32 := 13#32
  let c256_i32_866 : BitVec 32 := 256#32
  let v2149 : BitVec 32 := Scalar.muli c13_i32_863 c256_i32_866
  v2149
def k0_mult94 : BitVec 32 :=
  let c13_i32_863 : BitVec 32 := 13#32
  let c2_i32_873 : BitVec 32 := 2#32
  let v2159 : BitVec 32 := Scalar.subi c13_i32_863 c2_i32_873
  let c0_i32_874 : BitVec 32 := 0#32
  let v2160 : BitVec 32 := Scalar.maxsi v2159 c0_i32_874
  let c256_i32_875 : BitVec 32 := 256#32
  let v2161 : BitVec 32 := Scalar.muli v2160 c256_i32_875
  v2161
def k0_mult95 : BitVec 32 :=
  let c14_i32_882 : BitVec 32 := 14#32
  let c256_i32_885 : BitVec 32 := 256#32
  let v2195 : BitVec 32 := Scalar.muli c14_i32_882 c256_i32_885
  v2195
def k0_mult96 : BitVec 32 :=
  let c14_i32_882 : BitVec 32 := 14#32
  let c2_i32_892 : BitVec 32 := 2#32
  let v2205 : BitVec 32 := Scalar.subi c14_i32_882 c2_i32_892
  let c0_i32_893 : BitVec 32 := 0#32
  let v2206 : BitVec 32 := Scalar.maxsi v2205 c0_i32_893
  let c256_i32_894 : BitVec 32 := 256#32
  let v2207 : BitVec 32 := Scalar.muli v2206 c256_i32_894
  v2207
def k0_mult97 : BitVec 32 :=
  let c15_i32_901 : BitVec 32 := 15#32
  let c256_i32_904 : BitVec 32 := 256#32
  let v2241 : BitVec 32 := Scalar.muli c15_i32_901 c256_i32_904
  v2241
def k0_mult98 : BitVec 32 :=
  let c15_i32_901 : BitVec 32 := 15#32
  let c2_i32_911 : BitVec 32 := 2#32
  let v2251 : BitVec 32 := Scalar.subi c15_i32_901 c2_i32_911
  let c0_i32_912 : BitVec 32 := 0#32
  let v2252 : BitVec 32 := Scalar.maxsi v2251 c0_i32_912
  let c256_i32_913 : BitVec 32 := 256#32
  let v2253 : BitVec 32 := Scalar.muli v2252 c256_i32_913
  v2253
def k0_mult99 : BitVec 32 :=
  let c16_i32_920 : BitVec 32 := 16#32
  let c256_i32_923 : BitVec 32 := 256#32
  let v2287 : BitVec 32 := Scalar.muli c16_i32_920 c256_i32_923
  v2287
def k0_mult100 : BitVec 32 :=
  let c16_i32_920 : BitVec 32 := 16#32
  let c2_i32_930 : BitVec 32 := 2#32
  let v2297 : BitVec 32 := Scalar.subi c16_i32_920 c2_i32_930
  let c0_i32_931 : BitVec 32 := 0#32
  let v2298 : BitVec 32 := Scalar.maxsi v2297 c0_i32_931
  let c256_i32_932 : BitVec 32 := 256#32
  let v2299 : BitVec 32 := Scalar.muli v2298 c256_i32_932
  v2299
def k0_mult101 : BitVec 32 :=
  let c17_i32_939 : BitVec 32 := 17#32
  let c256_i32_942 : BitVec 32 := 256#32
  let v2333 : BitVec 32 := Scalar.muli c17_i32_939 c256_i32_942
  v2333
def k0_mult102 : BitVec 32 :=
  let c17_i32_939 : BitVec 32 := 17#32
  let c2_i32_949 : BitVec 32 := 2#32
  let v2343 : BitVec 32 := Scalar.subi c17_i32_939 c2_i32_949
  let c0_i32_950 : BitVec 32 := 0#32
  let v2344 : BitVec 32 := Scalar.maxsi v2343 c0_i32_950
  let c256_i32_951 : BitVec 32 := 256#32
  let v2345 : BitVec 32 := Scalar.muli v2344 c256_i32_951
  v2345
def k0_mult103 : BitVec 32 :=
  let c18_i32_958 : BitVec 32 := 18#32
  let c256_i32_961 : BitVec 32 := 256#32
  let v2379 : BitVec 32 := Scalar.muli c18_i32_958 c256_i32_961
  v2379
def k0_mult104 : BitVec 32 :=
  let c18_i32_958 : BitVec 32 := 18#32
  let c2_i32_968 : BitVec 32 := 2#32
  let v2389 : BitVec 32 := Scalar.subi c18_i32_958 c2_i32_968
  let c0_i32_969 : BitVec 32 := 0#32
  let v2390 : BitVec 32 := Scalar.maxsi v2389 c0_i32_969
  let c256_i32_970 : BitVec 32 := 256#32
  let v2391 : BitVec 32 := Scalar.muli v2390 c256_i32_970
  v2391
def k0_mult105 : BitVec 32 :=
  let c19_i32_977 : BitVec 32 := 19#32
  let c256_i32_980 : BitVec 32 := 256#32
  let v2425 : BitVec 32 := Scalar.muli c19_i32_977 c256_i32_980
  v2425
def k0_mult106 : BitVec 32 :=
  let c19_i32_977 : BitVec 32 := 19#32
  let c2_i32_987 : BitVec 32 := 2#32
  let v2435 : BitVec 32 := Scalar.subi c19_i32_977 c2_i32_987
  let c0_i32_988 : BitVec 32 := 0#32
  let v2436 : BitVec 32 := Scalar.maxsi v2435 c0_i32_988
  let c256_i32_989 : BitVec 32 := 256#32
  let v2437 : BitVec 32 := Scalar.muli v2436 c256_i32_989
  v2437
def k0_mult107 : BitVec 32 :=
  let c20_i32_996 : BitVec 32 := 20#32
  let c256_i32_999 : BitVec 32 := 256#32
  let v2471 : BitVec 32 := Scalar.muli c20_i32_996 c256_i32_999
  v2471
def k0_mult108 : BitVec 32 :=
  let c20_i32_996 : BitVec 32 := 20#32
  let c2_i32_1006 : BitVec 32 := 2#32
  let v2481 : BitVec 32 := Scalar.subi c20_i32_996 c2_i32_1006
  let c0_i32_1007 : BitVec 32 := 0#32
  let v2482 : BitVec 32 := Scalar.maxsi v2481 c0_i32_1007
  let c256_i32_1008 : BitVec 32 := 256#32
  let v2483 : BitVec 32 := Scalar.muli v2482 c256_i32_1008
  v2483
def k0_mult109 : BitVec 32 :=
  let c21_i32_1015 : BitVec 32 := 21#32
  let c256_i32_1018 : BitVec 32 := 256#32
  let v2517 : BitVec 32 := Scalar.muli c21_i32_1015 c256_i32_1018
  v2517
def k0_mult110 : BitVec 32 :=
  let c21_i32_1015 : BitVec 32 := 21#32
  let c2_i32_1025 : BitVec 32 := 2#32
  let v2527 : BitVec 32 := Scalar.subi c21_i32_1015 c2_i32_1025
  let c0_i32_1026 : BitVec 32 := 0#32
  let v2528 : BitVec 32 := Scalar.maxsi v2527 c0_i32_1026
  let c256_i32_1027 : BitVec 32 := 256#32
  let v2529 : BitVec 32 := Scalar.muli v2528 c256_i32_1027
  v2529
def k0_mult111 : BitVec 32 :=
  let c22_i32_1034 : BitVec 32 := 22#32
  let c256_i32_1037 : BitVec 32 := 256#32
  let v2563 : BitVec 32 := Scalar.muli c22_i32_1034 c256_i32_1037
  v2563
def k0_mult112 : BitVec 32 :=
  let c22_i32_1034 : BitVec 32 := 22#32
  let c2_i32_1044 : BitVec 32 := 2#32
  let v2573 : BitVec 32 := Scalar.subi c22_i32_1034 c2_i32_1044
  let c0_i32_1045 : BitVec 32 := 0#32
  let v2574 : BitVec 32 := Scalar.maxsi v2573 c0_i32_1045
  let c256_i32_1046 : BitVec 32 := 256#32
  let v2575 : BitVec 32 := Scalar.muli v2574 c256_i32_1046
  v2575
def k0_mult113 : BitVec 32 :=
  let c23_i32_1053 : BitVec 32 := 23#32
  let c256_i32_1056 : BitVec 32 := 256#32
  let v2609 : BitVec 32 := Scalar.muli c23_i32_1053 c256_i32_1056
  v2609
def k0_mult114 : BitVec 32 :=
  let c23_i32_1053 : BitVec 32 := 23#32
  let c2_i32_1063 : BitVec 32 := 2#32
  let v2619 : BitVec 32 := Scalar.subi c23_i32_1053 c2_i32_1063
  let c0_i32_1064 : BitVec 32 := 0#32
  let v2620 : BitVec 32 := Scalar.maxsi v2619 c0_i32_1064
  let c256_i32_1065 : BitVec 32 := 256#32
  let v2621 : BitVec 32 := Scalar.muli v2620 c256_i32_1065
  v2621
def k0_mult115 : BitVec 32 :=
  let c24_i32_1072 : BitVec 32 := 24#32
  let c256_i32_1075 : BitVec 32 := 256#32
  let v2655 : BitVec 32 := Scalar.muli c24_i32_1072 c256_i32_1075
  v2655
def k0_mult116 : BitVec 32 :=
  let c24_i32_1072 : BitVec 32 := 24#32
  let c2_i32_1082 : BitVec 32 := 2#32
  let v2665 : BitVec 32 := Scalar.subi c24_i32_1072 c2_i32_1082
  let c0_i32_1083 : BitVec 32 := 0#32
  let v2666 : BitVec 32 := Scalar.maxsi v2665 c0_i32_1083
  let c256_i32_1084 : BitVec 32 := 256#32
  let v2667 : BitVec 32 := Scalar.muli v2666 c256_i32_1084
  v2667
def k0_mult117 : BitVec 32 :=
  let c25_i32_1091 : BitVec 32 := 25#32
  let c256_i32_1094 : BitVec 32 := 256#32
  let v2701 : BitVec 32 := Scalar.muli c25_i32_1091 c256_i32_1094
  v2701
def k0_mult118 : BitVec 32 :=
  let c25_i32_1091 : BitVec 32 := 25#32
  let c2_i32_1101 : BitVec 32 := 2#32
  let v2711 : BitVec 32 := Scalar.subi c25_i32_1091 c2_i32_1101
  let c0_i32_1102 : BitVec 32 := 0#32
  let v2712 : BitVec 32 := Scalar.maxsi v2711 c0_i32_1102
  let c256_i32_1103 : BitVec 32 := 256#32
  let v2713 : BitVec 32 := Scalar.muli v2712 c256_i32_1103
  v2713
def k0_mult119 : BitVec 32 :=
  let c26_i32_1110 : BitVec 32 := 26#32
  let c256_i32_1113 : BitVec 32 := 256#32
  let v2747 : BitVec 32 := Scalar.muli c26_i32_1110 c256_i32_1113
  v2747
def k0_mult120 : BitVec 32 :=
  let c26_i32_1110 : BitVec 32 := 26#32
  let c2_i32_1120 : BitVec 32 := 2#32
  let v2757 : BitVec 32 := Scalar.subi c26_i32_1110 c2_i32_1120
  let c0_i32_1121 : BitVec 32 := 0#32
  let v2758 : BitVec 32 := Scalar.maxsi v2757 c0_i32_1121
  let c256_i32_1122 : BitVec 32 := 256#32
  let v2759 : BitVec 32 := Scalar.muli v2758 c256_i32_1122
  v2759
def k0_mult121 : BitVec 32 :=
  let c27_i32_1129 : BitVec 32 := 27#32
  let c256_i32_1132 : BitVec 32 := 256#32
  let v2793 : BitVec 32 := Scalar.muli c27_i32_1129 c256_i32_1132
  v2793
def k0_mult122 : BitVec 32 :=
  let c27_i32_1129 : BitVec 32 := 27#32
  let c2_i32_1139 : BitVec 32 := 2#32
  let v2803 : BitVec 32 := Scalar.subi c27_i32_1129 c2_i32_1139
  let c0_i32_1140 : BitVec 32 := 0#32
  let v2804 : BitVec 32 := Scalar.maxsi v2803 c0_i32_1140
  let c256_i32_1141 : BitVec 32 := 256#32
  let v2805 : BitVec 32 := Scalar.muli v2804 c256_i32_1141
  v2805
def k0_mult123 : BitVec 32 :=
  let c28_i32_1148 : BitVec 32 := 28#32
  let c256_i32_1151 : BitVec 32 := 256#32
  let v2839 : BitVec 32 := Scalar.muli c28_i32_1148 c256_i32_1151
  v2839
def k0_mult124 : BitVec 32 :=
  let c28_i32_1148 : BitVec 32 := 28#32
  let c2_i32_1158 : BitVec 32 := 2#32
  let v2849 : BitVec 32 := Scalar.subi c28_i32_1148 c2_i32_1158
  let c0_i32_1159 : BitVec 32 := 0#32
  let v2850 : BitVec 32 := Scalar.maxsi v2849 c0_i32_1159
  let c256_i32_1160 : BitVec 32 := 256#32
  let v2851 : BitVec 32 := Scalar.muli v2850 c256_i32_1160
  v2851
def k0_mult125 : BitVec 32 :=
  let c29_i32_1167 : BitVec 32 := 29#32
  let c256_i32_1170 : BitVec 32 := 256#32
  let v2885 : BitVec 32 := Scalar.muli c29_i32_1167 c256_i32_1170
  v2885
def k0_mult126 : BitVec 32 :=
  let c29_i32_1167 : BitVec 32 := 29#32
  let c2_i32_1177 : BitVec 32 := 2#32
  let v2895 : BitVec 32 := Scalar.subi c29_i32_1167 c2_i32_1177
  let c0_i32_1178 : BitVec 32 := 0#32
  let v2896 : BitVec 32 := Scalar.maxsi v2895 c0_i32_1178
  let c256_i32_1179 : BitVec 32 := 256#32
  let v2897 : BitVec 32 := Scalar.muli v2896 c256_i32_1179
  v2897
def k0_mult127 : BitVec 32 :=
  let c30_i32_1186 : BitVec 32 := 30#32
  let c256_i32_1189 : BitVec 32 := 256#32
  let v2931 : BitVec 32 := Scalar.muli c30_i32_1186 c256_i32_1189
  v2931
def k0_mult128 : BitVec 32 :=
  let c30_i32_1186 : BitVec 32 := 30#32
  let c2_i32_1196 : BitVec 32 := 2#32
  let v2941 : BitVec 32 := Scalar.subi c30_i32_1186 c2_i32_1196
  let c0_i32_1197 : BitVec 32 := 0#32
  let v2942 : BitVec 32 := Scalar.maxsi v2941 c0_i32_1197
  let c256_i32_1198 : BitVec 32 := 256#32
  let v2943 : BitVec 32 := Scalar.muli v2942 c256_i32_1198
  v2943
def k0_mult129 : BitVec 32 :=
  let c31_i32_1205 : BitVec 32 := 31#32
  let c256_i32_1208 : BitVec 32 := 256#32
  let v2977 : BitVec 32 := Scalar.muli c31_i32_1205 c256_i32_1208
  v2977
def k0_mult130 : BitVec 32 :=
  let c31_i32_1205 : BitVec 32 := 31#32
  let c2_i32_1215 : BitVec 32 := 2#32
  let v2987 : BitVec 32 := Scalar.subi c31_i32_1205 c2_i32_1215
  let c0_i32_1216 : BitVec 32 := 0#32
  let v2988 : BitVec 32 := Scalar.maxsi v2987 c0_i32_1216
  let c256_i32_1217 : BitVec 32 := 256#32
  let v2989 : BitVec 32 := Scalar.muli v2988 c256_i32_1217
  v2989
def k0_mult131 : BitVec 32 :=
  let c32_i32_1224 : BitVec 32 := 32#32
  let c256_i32_1227 : BitVec 32 := 256#32
  let v3023 : BitVec 32 := Scalar.muli c32_i32_1224 c256_i32_1227
  v3023
def k0_mult132 : BitVec 32 :=
  let c32_i32_1224 : BitVec 32 := 32#32
  let c2_i32_1234 : BitVec 32 := 2#32
  let v3033 : BitVec 32 := Scalar.subi c32_i32_1224 c2_i32_1234
  let c0_i32_1235 : BitVec 32 := 0#32
  let v3034 : BitVec 32 := Scalar.maxsi v3033 c0_i32_1235
  let c256_i32_1236 : BitVec 32 := 256#32
  let v3035 : BitVec 32 := Scalar.muli v3034 c256_i32_1236
  v3035
def k0_mult133 : BitVec 32 :=
  let c0_i32_1257 : BitVec 32 := 0#32
  c0_i32_1257
def k0_mult134 : BitVec 32 :=
  let c31_i32_1264 : BitVec 32 := 31#32
  let c0_i32_1265 : BitVec 32 := 0#32
  let v3072 : BitVec 32 := Scalar.maxsi c31_i32_1264 c0_i32_1265
  let c256_i32_1266 : BitVec 32 := 256#32
  let v3073 : BitVec 32 := Scalar.muli v3072 c256_i32_1266
  v3073
def k0_mult135 : BitVec 32 :=
  let c32_i32_1275 : BitVec 32 := 32#32
  let c0_i32_1276 : BitVec 32 := 0#32
  let v3107 : BitVec 32 := Scalar.maxsi c32_i32_1275 c0_i32_1276
  let c256_i32_1277 : BitVec 32 := 256#32
  let v3108 : BitVec 32 := Scalar.muli v3107 c256_i32_1277
  v3108
def k0_mult136 : BitVec 32 :=
  let c1_i32_1287 : BitVec 32 := 1#32
  let c256_i32_1290 : BitVec 32 := 256#32
  let v3155 : BitVec 32 := Scalar.muli c1_i32_1287 c256_i32_1290
  v3155
def k0_mult137 : BitVec 32 :=
  let c1_i32_1287 : BitVec 32 := 1#32
  let c2_i32_1297 : BitVec 32 := 2#32
  let v3165 : BitVec 32 := Scalar.subi c1_i32_1287 c2_i32_1297
  let c0_i32_1298 : BitVec 32 := 0#32
  let v3166 : BitVec 32 := Scalar.maxsi v3165 c0_i32_1298
  let c256_i32_1299 : BitVec 32 := 256#32
  let v3167 : BitVec 32 := Scalar.muli v3166 c256_i32_1299
  v3167
def k0_mult138 : BitVec 32 :=
  let c2_i32_1306 : BitVec 32 := 2#32
  let c256_i32_1309 : BitVec 32 := 256#32
  let v3201 : BitVec 32 := Scalar.muli c2_i32_1306 c256_i32_1309
  v3201
def k0_mult139 : BitVec 32 :=
  let c2_i32_1306 : BitVec 32 := 2#32
  let c2_i32_1316 : BitVec 32 := 2#32
  let v3211 : BitVec 32 := Scalar.subi c2_i32_1306 c2_i32_1316
  let c0_i32_1317 : BitVec 32 := 0#32
  let v3212 : BitVec 32 := Scalar.maxsi v3211 c0_i32_1317
  let c256_i32_1318 : BitVec 32 := 256#32
  let v3213 : BitVec 32 := Scalar.muli v3212 c256_i32_1318
  v3213
def k0_mult140 : BitVec 32 :=
  let c3_i32_1325 : BitVec 32 := 3#32
  let c256_i32_1328 : BitVec 32 := 256#32
  let v3247 : BitVec 32 := Scalar.muli c3_i32_1325 c256_i32_1328
  v3247
def k0_mult141 : BitVec 32 :=
  let c3_i32_1325 : BitVec 32 := 3#32
  let c2_i32_1335 : BitVec 32 := 2#32
  let v3257 : BitVec 32 := Scalar.subi c3_i32_1325 c2_i32_1335
  let c0_i32_1336 : BitVec 32 := 0#32
  let v3258 : BitVec 32 := Scalar.maxsi v3257 c0_i32_1336
  let c256_i32_1337 : BitVec 32 := 256#32
  let v3259 : BitVec 32 := Scalar.muli v3258 c256_i32_1337
  v3259
def k0_mult142 : BitVec 32 :=
  let c4_i32_1344 : BitVec 32 := 4#32
  let c256_i32_1347 : BitVec 32 := 256#32
  let v3293 : BitVec 32 := Scalar.muli c4_i32_1344 c256_i32_1347
  v3293
def k0_mult143 : BitVec 32 :=
  let c4_i32_1344 : BitVec 32 := 4#32
  let c2_i32_1354 : BitVec 32 := 2#32
  let v3303 : BitVec 32 := Scalar.subi c4_i32_1344 c2_i32_1354
  let c0_i32_1355 : BitVec 32 := 0#32
  let v3304 : BitVec 32 := Scalar.maxsi v3303 c0_i32_1355
  let c256_i32_1356 : BitVec 32 := 256#32
  let v3305 : BitVec 32 := Scalar.muli v3304 c256_i32_1356
  v3305
def k0_mult144 : BitVec 32 :=
  let c5_i32_1363 : BitVec 32 := 5#32
  let c256_i32_1366 : BitVec 32 := 256#32
  let v3339 : BitVec 32 := Scalar.muli c5_i32_1363 c256_i32_1366
  v3339
def k0_mult145 : BitVec 32 :=
  let c5_i32_1363 : BitVec 32 := 5#32
  let c2_i32_1373 : BitVec 32 := 2#32
  let v3349 : BitVec 32 := Scalar.subi c5_i32_1363 c2_i32_1373
  let c0_i32_1374 : BitVec 32 := 0#32
  let v3350 : BitVec 32 := Scalar.maxsi v3349 c0_i32_1374
  let c256_i32_1375 : BitVec 32 := 256#32
  let v3351 : BitVec 32 := Scalar.muli v3350 c256_i32_1375
  v3351
def k0_mult146 : BitVec 32 :=
  let c6_i32_1382 : BitVec 32 := 6#32
  let c256_i32_1385 : BitVec 32 := 256#32
  let v3385 : BitVec 32 := Scalar.muli c6_i32_1382 c256_i32_1385
  v3385
def k0_mult147 : BitVec 32 :=
  let c6_i32_1382 : BitVec 32 := 6#32
  let c2_i32_1392 : BitVec 32 := 2#32
  let v3395 : BitVec 32 := Scalar.subi c6_i32_1382 c2_i32_1392
  let c0_i32_1393 : BitVec 32 := 0#32
  let v3396 : BitVec 32 := Scalar.maxsi v3395 c0_i32_1393
  let c256_i32_1394 : BitVec 32 := 256#32
  let v3397 : BitVec 32 := Scalar.muli v3396 c256_i32_1394
  v3397
def k0_mult148 : BitVec 32 :=
  let c7_i32_1401 : BitVec 32 := 7#32
  let c256_i32_1404 : BitVec 32 := 256#32
  let v3431 : BitVec 32 := Scalar.muli c7_i32_1401 c256_i32_1404
  v3431
def k0_mult149 : BitVec 32 :=
  let c7_i32_1401 : BitVec 32 := 7#32
  let c2_i32_1411 : BitVec 32 := 2#32
  let v3441 : BitVec 32 := Scalar.subi c7_i32_1401 c2_i32_1411
  let c0_i32_1412 : BitVec 32 := 0#32
  let v3442 : BitVec 32 := Scalar.maxsi v3441 c0_i32_1412
  let c256_i32_1413 : BitVec 32 := 256#32
  let v3443 : BitVec 32 := Scalar.muli v3442 c256_i32_1413
  v3443
def k0_mult150 : BitVec 32 :=
  let c8_i32_1420 : BitVec 32 := 8#32
  let c256_i32_1423 : BitVec 32 := 256#32
  let v3477 : BitVec 32 := Scalar.muli c8_i32_1420 c256_i32_1423
  v3477
def k0_mult151 : BitVec 32 :=
  let c8_i32_1420 : BitVec 32 := 8#32
  let c2_i32_1430 : BitVec 32 := 2#32
  let v3487 : BitVec 32 := Scalar.subi c8_i32_1420 c2_i32_1430
  let c0_i32_1431 : BitVec 32 := 0#32
  let v3488 : BitVec 32 := Scalar.maxsi v3487 c0_i32_1431
  let c256_i32_1432 : BitVec 32 := 256#32
  let v3489 : BitVec 32 := Scalar.muli v3488 c256_i32_1432
  v3489
def k0_mult152 : BitVec 32 :=
  let c9_i32_1439 : BitVec 32 := 9#32
  let c256_i32_1442 : BitVec 32 := 256#32
  let v3523 : BitVec 32 := Scalar.muli c9_i32_1439 c256_i32_1442
  v3523
def k0_mult153 : BitVec 32 :=
  let c9_i32_1439 : BitVec 32 := 9#32
  let c2_i32_1449 : BitVec 32 := 2#32
  let v3533 : BitVec 32 := Scalar.subi c9_i32_1439 c2_i32_1449
  let c0_i32_1450 : BitVec 32 := 0#32
  let v3534 : BitVec 32 := Scalar.maxsi v3533 c0_i32_1450
  let c256_i32_1451 : BitVec 32 := 256#32
  let v3535 : BitVec 32 := Scalar.muli v3534 c256_i32_1451
  v3535
def k0_mult154 : BitVec 32 :=
  let c10_i32_1458 : BitVec 32 := 10#32
  let c256_i32_1461 : BitVec 32 := 256#32
  let v3569 : BitVec 32 := Scalar.muli c10_i32_1458 c256_i32_1461
  v3569
def k0_mult155 : BitVec 32 :=
  let c10_i32_1458 : BitVec 32 := 10#32
  let c2_i32_1468 : BitVec 32 := 2#32
  let v3579 : BitVec 32 := Scalar.subi c10_i32_1458 c2_i32_1468
  let c0_i32_1469 : BitVec 32 := 0#32
  let v3580 : BitVec 32 := Scalar.maxsi v3579 c0_i32_1469
  let c256_i32_1470 : BitVec 32 := 256#32
  let v3581 : BitVec 32 := Scalar.muli v3580 c256_i32_1470
  v3581
def k0_mult156 : BitVec 32 :=
  let c11_i32_1477 : BitVec 32 := 11#32
  let c256_i32_1480 : BitVec 32 := 256#32
  let v3615 : BitVec 32 := Scalar.muli c11_i32_1477 c256_i32_1480
  v3615
def k0_mult157 : BitVec 32 :=
  let c11_i32_1477 : BitVec 32 := 11#32
  let c2_i32_1487 : BitVec 32 := 2#32
  let v3625 : BitVec 32 := Scalar.subi c11_i32_1477 c2_i32_1487
  let c0_i32_1488 : BitVec 32 := 0#32
  let v3626 : BitVec 32 := Scalar.maxsi v3625 c0_i32_1488
  let c256_i32_1489 : BitVec 32 := 256#32
  let v3627 : BitVec 32 := Scalar.muli v3626 c256_i32_1489
  v3627
def k0_mult158 : BitVec 32 :=
  let c12_i32_1496 : BitVec 32 := 12#32
  let c256_i32_1499 : BitVec 32 := 256#32
  let v3661 : BitVec 32 := Scalar.muli c12_i32_1496 c256_i32_1499
  v3661
def k0_mult159 : BitVec 32 :=
  let c12_i32_1496 : BitVec 32 := 12#32
  let c2_i32_1506 : BitVec 32 := 2#32
  let v3671 : BitVec 32 := Scalar.subi c12_i32_1496 c2_i32_1506
  let c0_i32_1507 : BitVec 32 := 0#32
  let v3672 : BitVec 32 := Scalar.maxsi v3671 c0_i32_1507
  let c256_i32_1508 : BitVec 32 := 256#32
  let v3673 : BitVec 32 := Scalar.muli v3672 c256_i32_1508
  v3673
def k0_mult160 : BitVec 32 :=
  let c13_i32_1515 : BitVec 32 := 13#32
  let c256_i32_1518 : BitVec 32 := 256#32
  let v3707 : BitVec 32 := Scalar.muli c13_i32_1515 c256_i32_1518
  v3707
def k0_mult161 : BitVec 32 :=
  let c13_i32_1515 : BitVec 32 := 13#32
  let c2_i32_1525 : BitVec 32 := 2#32
  let v3717 : BitVec 32 := Scalar.subi c13_i32_1515 c2_i32_1525
  let c0_i32_1526 : BitVec 32 := 0#32
  let v3718 : BitVec 32 := Scalar.maxsi v3717 c0_i32_1526
  let c256_i32_1527 : BitVec 32 := 256#32
  let v3719 : BitVec 32 := Scalar.muli v3718 c256_i32_1527
  v3719
def k0_mult162 : BitVec 32 :=
  let c14_i32_1534 : BitVec 32 := 14#32
  let c256_i32_1537 : BitVec 32 := 256#32
  let v3753 : BitVec 32 := Scalar.muli c14_i32_1534 c256_i32_1537
  v3753
def k0_mult163 : BitVec 32 :=
  let c14_i32_1534 : BitVec 32 := 14#32
  let c2_i32_1544 : BitVec 32 := 2#32
  let v3763 : BitVec 32 := Scalar.subi c14_i32_1534 c2_i32_1544
  let c0_i32_1545 : BitVec 32 := 0#32
  let v3764 : BitVec 32 := Scalar.maxsi v3763 c0_i32_1545
  let c256_i32_1546 : BitVec 32 := 256#32
  let v3765 : BitVec 32 := Scalar.muli v3764 c256_i32_1546
  v3765
def k0_mult164 : BitVec 32 :=
  let c15_i32_1553 : BitVec 32 := 15#32
  let c256_i32_1556 : BitVec 32 := 256#32
  let v3799 : BitVec 32 := Scalar.muli c15_i32_1553 c256_i32_1556
  v3799
def k0_mult165 : BitVec 32 :=
  let c15_i32_1553 : BitVec 32 := 15#32
  let c2_i32_1563 : BitVec 32 := 2#32
  let v3809 : BitVec 32 := Scalar.subi c15_i32_1553 c2_i32_1563
  let c0_i32_1564 : BitVec 32 := 0#32
  let v3810 : BitVec 32 := Scalar.maxsi v3809 c0_i32_1564
  let c256_i32_1565 : BitVec 32 := 256#32
  let v3811 : BitVec 32 := Scalar.muli v3810 c256_i32_1565
  v3811
def k0_mult166 : BitVec 32 :=
  let c16_i32_1572 : BitVec 32 := 16#32
  let c256_i32_1575 : BitVec 32 := 256#32
  let v3845 : BitVec 32 := Scalar.muli c16_i32_1572 c256_i32_1575
  v3845
def k0_mult167 : BitVec 32 :=
  let c16_i32_1572 : BitVec 32 := 16#32
  let c2_i32_1582 : BitVec 32 := 2#32
  let v3855 : BitVec 32 := Scalar.subi c16_i32_1572 c2_i32_1582
  let c0_i32_1583 : BitVec 32 := 0#32
  let v3856 : BitVec 32 := Scalar.maxsi v3855 c0_i32_1583
  let c256_i32_1584 : BitVec 32 := 256#32
  let v3857 : BitVec 32 := Scalar.muli v3856 c256_i32_1584
  v3857
def k0_mult168 : BitVec 32 :=
  let c17_i32_1591 : BitVec 32 := 17#32
  let c256_i32_1594 : BitVec 32 := 256#32
  let v3891 : BitVec 32 := Scalar.muli c17_i32_1591 c256_i32_1594
  v3891
def k0_mult169 : BitVec 32 :=
  let c17_i32_1591 : BitVec 32 := 17#32
  let c2_i32_1601 : BitVec 32 := 2#32
  let v3901 : BitVec 32 := Scalar.subi c17_i32_1591 c2_i32_1601
  let c0_i32_1602 : BitVec 32 := 0#32
  let v3902 : BitVec 32 := Scalar.maxsi v3901 c0_i32_1602
  let c256_i32_1603 : BitVec 32 := 256#32
  let v3903 : BitVec 32 := Scalar.muli v3902 c256_i32_1603
  v3903
def k0_mult170 : BitVec 32 :=
  let c18_i32_1610 : BitVec 32 := 18#32
  let c256_i32_1613 : BitVec 32 := 256#32
  let v3937 : BitVec 32 := Scalar.muli c18_i32_1610 c256_i32_1613
  v3937
def k0_mult171 : BitVec 32 :=
  let c18_i32_1610 : BitVec 32 := 18#32
  let c2_i32_1620 : BitVec 32 := 2#32
  let v3947 : BitVec 32 := Scalar.subi c18_i32_1610 c2_i32_1620
  let c0_i32_1621 : BitVec 32 := 0#32
  let v3948 : BitVec 32 := Scalar.maxsi v3947 c0_i32_1621
  let c256_i32_1622 : BitVec 32 := 256#32
  let v3949 : BitVec 32 := Scalar.muli v3948 c256_i32_1622
  v3949
def k0_mult172 : BitVec 32 :=
  let c19_i32_1629 : BitVec 32 := 19#32
  let c256_i32_1632 : BitVec 32 := 256#32
  let v3983 : BitVec 32 := Scalar.muli c19_i32_1629 c256_i32_1632
  v3983
def k0_mult173 : BitVec 32 :=
  let c19_i32_1629 : BitVec 32 := 19#32
  let c2_i32_1639 : BitVec 32 := 2#32
  let v3993 : BitVec 32 := Scalar.subi c19_i32_1629 c2_i32_1639
  let c0_i32_1640 : BitVec 32 := 0#32
  let v3994 : BitVec 32 := Scalar.maxsi v3993 c0_i32_1640
  let c256_i32_1641 : BitVec 32 := 256#32
  let v3995 : BitVec 32 := Scalar.muli v3994 c256_i32_1641
  v3995
def k0_mult174 : BitVec 32 :=
  let c20_i32_1648 : BitVec 32 := 20#32
  let c256_i32_1651 : BitVec 32 := 256#32
  let v4029 : BitVec 32 := Scalar.muli c20_i32_1648 c256_i32_1651
  v4029
def k0_mult175 : BitVec 32 :=
  let c20_i32_1648 : BitVec 32 := 20#32
  let c2_i32_1658 : BitVec 32 := 2#32
  let v4039 : BitVec 32 := Scalar.subi c20_i32_1648 c2_i32_1658
  let c0_i32_1659 : BitVec 32 := 0#32
  let v4040 : BitVec 32 := Scalar.maxsi v4039 c0_i32_1659
  let c256_i32_1660 : BitVec 32 := 256#32
  let v4041 : BitVec 32 := Scalar.muli v4040 c256_i32_1660
  v4041
def k0_mult176 : BitVec 32 :=
  let c21_i32_1667 : BitVec 32 := 21#32
  let c256_i32_1670 : BitVec 32 := 256#32
  let v4075 : BitVec 32 := Scalar.muli c21_i32_1667 c256_i32_1670
  v4075
def k0_mult177 : BitVec 32 :=
  let c21_i32_1667 : BitVec 32 := 21#32
  let c2_i32_1677 : BitVec 32 := 2#32
  let v4085 : BitVec 32 := Scalar.subi c21_i32_1667 c2_i32_1677
  let c0_i32_1678 : BitVec 32 := 0#32
  let v4086 : BitVec 32 := Scalar.maxsi v4085 c0_i32_1678
  let c256_i32_1679 : BitVec 32 := 256#32
  let v4087 : BitVec 32 := Scalar.muli v4086 c256_i32_1679
  v4087
def k0_mult178 : BitVec 32 :=
  let c22_i32_1686 : BitVec 32 := 22#32
  let c256_i32_1689 : BitVec 32 := 256#32
  let v4121 : BitVec 32 := Scalar.muli c22_i32_1686 c256_i32_1689
  v4121
def k0_mult179 : BitVec 32 :=
  let c22_i32_1686 : BitVec 32 := 22#32
  let c2_i32_1696 : BitVec 32 := 2#32
  let v4131 : BitVec 32 := Scalar.subi c22_i32_1686 c2_i32_1696
  let c0_i32_1697 : BitVec 32 := 0#32
  let v4132 : BitVec 32 := Scalar.maxsi v4131 c0_i32_1697
  let c256_i32_1698 : BitVec 32 := 256#32
  let v4133 : BitVec 32 := Scalar.muli v4132 c256_i32_1698
  v4133
def k0_mult180 : BitVec 32 :=
  let c23_i32_1705 : BitVec 32 := 23#32
  let c256_i32_1708 : BitVec 32 := 256#32
  let v4167 : BitVec 32 := Scalar.muli c23_i32_1705 c256_i32_1708
  v4167
def k0_mult181 : BitVec 32 :=
  let c23_i32_1705 : BitVec 32 := 23#32
  let c2_i32_1715 : BitVec 32 := 2#32
  let v4177 : BitVec 32 := Scalar.subi c23_i32_1705 c2_i32_1715
  let c0_i32_1716 : BitVec 32 := 0#32
  let v4178 : BitVec 32 := Scalar.maxsi v4177 c0_i32_1716
  let c256_i32_1717 : BitVec 32 := 256#32
  let v4179 : BitVec 32 := Scalar.muli v4178 c256_i32_1717
  v4179
def k0_mult182 : BitVec 32 :=
  let c24_i32_1724 : BitVec 32 := 24#32
  let c256_i32_1727 : BitVec 32 := 256#32
  let v4213 : BitVec 32 := Scalar.muli c24_i32_1724 c256_i32_1727
  v4213
def k0_mult183 : BitVec 32 :=
  let c24_i32_1724 : BitVec 32 := 24#32
  let c2_i32_1734 : BitVec 32 := 2#32
  let v4223 : BitVec 32 := Scalar.subi c24_i32_1724 c2_i32_1734
  let c0_i32_1735 : BitVec 32 := 0#32
  let v4224 : BitVec 32 := Scalar.maxsi v4223 c0_i32_1735
  let c256_i32_1736 : BitVec 32 := 256#32
  let v4225 : BitVec 32 := Scalar.muli v4224 c256_i32_1736
  v4225
def k0_mult184 : BitVec 32 :=
  let c25_i32_1743 : BitVec 32 := 25#32
  let c256_i32_1746 : BitVec 32 := 256#32
  let v4259 : BitVec 32 := Scalar.muli c25_i32_1743 c256_i32_1746
  v4259
def k0_mult185 : BitVec 32 :=
  let c25_i32_1743 : BitVec 32 := 25#32
  let c2_i32_1753 : BitVec 32 := 2#32
  let v4269 : BitVec 32 := Scalar.subi c25_i32_1743 c2_i32_1753
  let c0_i32_1754 : BitVec 32 := 0#32
  let v4270 : BitVec 32 := Scalar.maxsi v4269 c0_i32_1754
  let c256_i32_1755 : BitVec 32 := 256#32
  let v4271 : BitVec 32 := Scalar.muli v4270 c256_i32_1755
  v4271
def k0_mult186 : BitVec 32 :=
  let c26_i32_1762 : BitVec 32 := 26#32
  let c256_i32_1765 : BitVec 32 := 256#32
  let v4305 : BitVec 32 := Scalar.muli c26_i32_1762 c256_i32_1765
  v4305
def k0_mult187 : BitVec 32 :=
  let c26_i32_1762 : BitVec 32 := 26#32
  let c2_i32_1772 : BitVec 32 := 2#32
  let v4315 : BitVec 32 := Scalar.subi c26_i32_1762 c2_i32_1772
  let c0_i32_1773 : BitVec 32 := 0#32
  let v4316 : BitVec 32 := Scalar.maxsi v4315 c0_i32_1773
  let c256_i32_1774 : BitVec 32 := 256#32
  let v4317 : BitVec 32 := Scalar.muli v4316 c256_i32_1774
  v4317
def k0_mult188 : BitVec 32 :=
  let c27_i32_1781 : BitVec 32 := 27#32
  let c256_i32_1784 : BitVec 32 := 256#32
  let v4351 : BitVec 32 := Scalar.muli c27_i32_1781 c256_i32_1784
  v4351
def k0_mult189 : BitVec 32 :=
  let c27_i32_1781 : BitVec 32 := 27#32
  let c2_i32_1791 : BitVec 32 := 2#32
  let v4361 : BitVec 32 := Scalar.subi c27_i32_1781 c2_i32_1791
  let c0_i32_1792 : BitVec 32 := 0#32
  let v4362 : BitVec 32 := Scalar.maxsi v4361 c0_i32_1792
  let c256_i32_1793 : BitVec 32 := 256#32
  let v4363 : BitVec 32 := Scalar.muli v4362 c256_i32_1793
  v4363
def k0_mult190 : BitVec 32 :=
  let c28_i32_1800 : BitVec 32 := 28#32
  let c256_i32_1803 : BitVec 32 := 256#32
  let v4397 : BitVec 32 := Scalar.muli c28_i32_1800 c256_i32_1803
  v4397
def k0_mult191 : BitVec 32 :=
  let c28_i32_1800 : BitVec 32 := 28#32
  let c2_i32_1810 : BitVec 32 := 2#32
  let v4407 : BitVec 32 := Scalar.subi c28_i32_1800 c2_i32_1810
  let c0_i32_1811 : BitVec 32 := 0#32
  let v4408 : BitVec 32 := Scalar.maxsi v4407 c0_i32_1811
  let c256_i32_1812 : BitVec 32 := 256#32
  let v4409 : BitVec 32 := Scalar.muli v4408 c256_i32_1812
  v4409
def k0_mult192 : BitVec 32 :=
  let c29_i32_1819 : BitVec 32 := 29#32
  let c256_i32_1822 : BitVec 32 := 256#32
  let v4443 : BitVec 32 := Scalar.muli c29_i32_1819 c256_i32_1822
  v4443
def k0_mult193 : BitVec 32 :=
  let c29_i32_1819 : BitVec 32 := 29#32
  let c2_i32_1829 : BitVec 32 := 2#32
  let v4453 : BitVec 32 := Scalar.subi c29_i32_1819 c2_i32_1829
  let c0_i32_1830 : BitVec 32 := 0#32
  let v4454 : BitVec 32 := Scalar.maxsi v4453 c0_i32_1830
  let c256_i32_1831 : BitVec 32 := 256#32
  let v4455 : BitVec 32 := Scalar.muli v4454 c256_i32_1831
  v4455
def k0_mult194 : BitVec 32 :=
  let c30_i32_1838 : BitVec 32 := 30#32
  let c256_i32_1841 : BitVec 32 := 256#32
  let v4489 : BitVec 32 := Scalar.muli c30_i32_1838 c256_i32_1841
  v4489
def k0_mult195 : BitVec 32 :=
  let c30_i32_1838 : BitVec 32 := 30#32
  let c2_i32_1848 : BitVec 32 := 2#32
  let v4499 : BitVec 32 := Scalar.subi c30_i32_1838 c2_i32_1848
  let c0_i32_1849 : BitVec 32 := 0#32
  let v4500 : BitVec 32 := Scalar.maxsi v4499 c0_i32_1849
  let c256_i32_1850 : BitVec 32 := 256#32
  let v4501 : BitVec 32 := Scalar.muli v4500 c256_i32_1850
  v4501
def k0_mult196 : BitVec 32 :=
  let c31_i32_1857 : BitVec 32 := 31#32
  let c256_i32_1860 : BitVec 32 := 256#32
  let v4535 : BitVec 32 := Scalar.muli c31_i32_1857 c256_i32_1860
  v4535
def k0_mult197 : BitVec 32 :=
  let c31_i32_1857 : BitVec 32 := 31#32
  let c2_i32_1867 : BitVec 32 := 2#32
  let v4545 : BitVec 32 := Scalar.subi c31_i32_1857 c2_i32_1867
  let c0_i32_1868 : BitVec 32 := 0#32
  let v4546 : BitVec 32 := Scalar.maxsi v4545 c0_i32_1868
  let c256_i32_1869 : BitVec 32 := 256#32
  let v4547 : BitVec 32 := Scalar.muli v4546 c256_i32_1869
  v4547
def k0_mult198 : BitVec 32 :=
  let c32_i32_1876 : BitVec 32 := 32#32
  let c256_i32_1879 : BitVec 32 := 256#32
  let v4581 : BitVec 32 := Scalar.muli c32_i32_1876 c256_i32_1879
  v4581
def k0_mult199 : BitVec 32 :=
  let c32_i32_1876 : BitVec 32 := 32#32
  let c2_i32_1886 : BitVec 32 := 2#32
  let v4591 : BitVec 32 := Scalar.subi c32_i32_1876 c2_i32_1886
  let c0_i32_1887 : BitVec 32 := 0#32
  let v4592 : BitVec 32 := Scalar.maxsi v4591 c0_i32_1887
  let c256_i32_1888 : BitVec 32 := 256#32
  let v4593 : BitVec 32 := Scalar.muli v4592 c256_i32_1888
  v4593
def k0_mult200 : BitVec 32 :=
  let c0_i32_1909 : BitVec 32 := 0#32
  c0_i32_1909
def k0_mult201 : BitVec 32 :=
  let c31_i32_1916 : BitVec 32 := 31#32
  let c0_i32_1917 : BitVec 32 := 0#32
  let v4630 : BitVec 32 := Scalar.maxsi c31_i32_1916 c0_i32_1917
  let c256_i32_1918 : BitVec 32 := 256#32
  let v4631 : BitVec 32 := Scalar.muli v4630 c256_i32_1918
  v4631
def k0_mult202 : BitVec 32 :=
  let c32_i32_1927 : BitVec 32 := 32#32
  let c0_i32_1928 : BitVec 32 := 0#32
  let v4665 : BitVec 32 := Scalar.maxsi c32_i32_1927 c0_i32_1928
  let c256_i32_1929 : BitVec 32 := 256#32
  let v4666 : BitVec 32 := Scalar.muli v4665 c256_i32_1929
  v4666
def k0_mult203 : BitVec 32 :=
  let c1_i32_1939 : BitVec 32 := 1#32
  let c256_i32_1942 : BitVec 32 := 256#32
  let v4713 : BitVec 32 := Scalar.muli c1_i32_1939 c256_i32_1942
  v4713
def k0_mult204 : BitVec 32 :=
  let c1_i32_1939 : BitVec 32 := 1#32
  let c2_i32_1949 : BitVec 32 := 2#32
  let v4723 : BitVec 32 := Scalar.subi c1_i32_1939 c2_i32_1949
  let c0_i32_1950 : BitVec 32 := 0#32
  let v4724 : BitVec 32 := Scalar.maxsi v4723 c0_i32_1950
  let c256_i32_1951 : BitVec 32 := 256#32
  let v4725 : BitVec 32 := Scalar.muli v4724 c256_i32_1951
  v4725
def k0_mult205 : BitVec 32 :=
  let c2_i32_1958 : BitVec 32 := 2#32
  let c256_i32_1961 : BitVec 32 := 256#32
  let v4759 : BitVec 32 := Scalar.muli c2_i32_1958 c256_i32_1961
  v4759
def k0_mult206 : BitVec 32 :=
  let c2_i32_1958 : BitVec 32 := 2#32
  let c2_i32_1968 : BitVec 32 := 2#32
  let v4769 : BitVec 32 := Scalar.subi c2_i32_1958 c2_i32_1968
  let c0_i32_1969 : BitVec 32 := 0#32
  let v4770 : BitVec 32 := Scalar.maxsi v4769 c0_i32_1969
  let c256_i32_1970 : BitVec 32 := 256#32
  let v4771 : BitVec 32 := Scalar.muli v4770 c256_i32_1970
  v4771
def k0_mult207 : BitVec 32 :=
  let c3_i32_1977 : BitVec 32 := 3#32
  let c256_i32_1980 : BitVec 32 := 256#32
  let v4805 : BitVec 32 := Scalar.muli c3_i32_1977 c256_i32_1980
  v4805
def k0_mult208 : BitVec 32 :=
  let c3_i32_1977 : BitVec 32 := 3#32
  let c2_i32_1987 : BitVec 32 := 2#32
  let v4815 : BitVec 32 := Scalar.subi c3_i32_1977 c2_i32_1987
  let c0_i32_1988 : BitVec 32 := 0#32
  let v4816 : BitVec 32 := Scalar.maxsi v4815 c0_i32_1988
  let c256_i32_1989 : BitVec 32 := 256#32
  let v4817 : BitVec 32 := Scalar.muli v4816 c256_i32_1989
  v4817
def k0_mult209 : BitVec 32 :=
  let c4_i32_1996 : BitVec 32 := 4#32
  let c256_i32_1999 : BitVec 32 := 256#32
  let v4851 : BitVec 32 := Scalar.muli c4_i32_1996 c256_i32_1999
  v4851
def k0_mult210 : BitVec 32 :=
  let c4_i32_1996 : BitVec 32 := 4#32
  let c2_i32_2006 : BitVec 32 := 2#32
  let v4861 : BitVec 32 := Scalar.subi c4_i32_1996 c2_i32_2006
  let c0_i32_2007 : BitVec 32 := 0#32
  let v4862 : BitVec 32 := Scalar.maxsi v4861 c0_i32_2007
  let c256_i32_2008 : BitVec 32 := 256#32
  let v4863 : BitVec 32 := Scalar.muli v4862 c256_i32_2008
  v4863
def k0_mult211 : BitVec 32 :=
  let c5_i32_2015 : BitVec 32 := 5#32
  let c256_i32_2018 : BitVec 32 := 256#32
  let v4897 : BitVec 32 := Scalar.muli c5_i32_2015 c256_i32_2018
  v4897
def k0_mult212 : BitVec 32 :=
  let c5_i32_2015 : BitVec 32 := 5#32
  let c2_i32_2025 : BitVec 32 := 2#32
  let v4907 : BitVec 32 := Scalar.subi c5_i32_2015 c2_i32_2025
  let c0_i32_2026 : BitVec 32 := 0#32
  let v4908 : BitVec 32 := Scalar.maxsi v4907 c0_i32_2026
  let c256_i32_2027 : BitVec 32 := 256#32
  let v4909 : BitVec 32 := Scalar.muli v4908 c256_i32_2027
  v4909
def k0_mult213 : BitVec 32 :=
  let c6_i32_2034 : BitVec 32 := 6#32
  let c256_i32_2037 : BitVec 32 := 256#32
  let v4943 : BitVec 32 := Scalar.muli c6_i32_2034 c256_i32_2037
  v4943
def k0_mult214 : BitVec 32 :=
  let c6_i32_2034 : BitVec 32 := 6#32
  let c2_i32_2044 : BitVec 32 := 2#32
  let v4953 : BitVec 32 := Scalar.subi c6_i32_2034 c2_i32_2044
  let c0_i32_2045 : BitVec 32 := 0#32
  let v4954 : BitVec 32 := Scalar.maxsi v4953 c0_i32_2045
  let c256_i32_2046 : BitVec 32 := 256#32
  let v4955 : BitVec 32 := Scalar.muli v4954 c256_i32_2046
  v4955
def k0_mult215 : BitVec 32 :=
  let c7_i32_2053 : BitVec 32 := 7#32
  let c256_i32_2056 : BitVec 32 := 256#32
  let v4989 : BitVec 32 := Scalar.muli c7_i32_2053 c256_i32_2056
  v4989
def k0_mult216 : BitVec 32 :=
  let c7_i32_2053 : BitVec 32 := 7#32
  let c2_i32_2063 : BitVec 32 := 2#32
  let v4999 : BitVec 32 := Scalar.subi c7_i32_2053 c2_i32_2063
  let c0_i32_2064 : BitVec 32 := 0#32
  let v5000 : BitVec 32 := Scalar.maxsi v4999 c0_i32_2064
  let c256_i32_2065 : BitVec 32 := 256#32
  let v5001 : BitVec 32 := Scalar.muli v5000 c256_i32_2065
  v5001
def k0_mult217 : BitVec 32 :=
  let c8_i32_2072 : BitVec 32 := 8#32
  let c256_i32_2075 : BitVec 32 := 256#32
  let v5035 : BitVec 32 := Scalar.muli c8_i32_2072 c256_i32_2075
  v5035
def k0_mult218 : BitVec 32 :=
  let c8_i32_2072 : BitVec 32 := 8#32
  let c2_i32_2082 : BitVec 32 := 2#32
  let v5045 : BitVec 32 := Scalar.subi c8_i32_2072 c2_i32_2082
  let c0_i32_2083 : BitVec 32 := 0#32
  let v5046 : BitVec 32 := Scalar.maxsi v5045 c0_i32_2083
  let c256_i32_2084 : BitVec 32 := 256#32
  let v5047 : BitVec 32 := Scalar.muli v5046 c256_i32_2084
  v5047
def k0_mult219 : BitVec 32 :=
  let c9_i32_2091 : BitVec 32 := 9#32
  let c256_i32_2094 : BitVec 32 := 256#32
  let v5081 : BitVec 32 := Scalar.muli c9_i32_2091 c256_i32_2094
  v5081
def k0_mult220 : BitVec 32 :=
  let c9_i32_2091 : BitVec 32 := 9#32
  let c2_i32_2101 : BitVec 32 := 2#32
  let v5091 : BitVec 32 := Scalar.subi c9_i32_2091 c2_i32_2101
  let c0_i32_2102 : BitVec 32 := 0#32
  let v5092 : BitVec 32 := Scalar.maxsi v5091 c0_i32_2102
  let c256_i32_2103 : BitVec 32 := 256#32
  let v5093 : BitVec 32 := Scalar.muli v5092 c256_i32_2103
  v5093
def k0_mult221 : BitVec 32 :=
  let c10_i32_2110 : BitVec 32 := 10#32
  let c256_i32_2113 : BitVec 32 := 256#32
  let v5127 : BitVec 32 := Scalar.muli c10_i32_2110 c256_i32_2113
  v5127
def k0_mult222 : BitVec 32 :=
  let c10_i32_2110 : BitVec 32 := 10#32
  let c2_i32_2120 : BitVec 32 := 2#32
  let v5137 : BitVec 32 := Scalar.subi c10_i32_2110 c2_i32_2120
  let c0_i32_2121 : BitVec 32 := 0#32
  let v5138 : BitVec 32 := Scalar.maxsi v5137 c0_i32_2121
  let c256_i32_2122 : BitVec 32 := 256#32
  let v5139 : BitVec 32 := Scalar.muli v5138 c256_i32_2122
  v5139
def k0_mult223 : BitVec 32 :=
  let c11_i32_2129 : BitVec 32 := 11#32
  let c256_i32_2132 : BitVec 32 := 256#32
  let v5173 : BitVec 32 := Scalar.muli c11_i32_2129 c256_i32_2132
  v5173
def k0_mult224 : BitVec 32 :=
  let c11_i32_2129 : BitVec 32 := 11#32
  let c2_i32_2139 : BitVec 32 := 2#32
  let v5183 : BitVec 32 := Scalar.subi c11_i32_2129 c2_i32_2139
  let c0_i32_2140 : BitVec 32 := 0#32
  let v5184 : BitVec 32 := Scalar.maxsi v5183 c0_i32_2140
  let c256_i32_2141 : BitVec 32 := 256#32
  let v5185 : BitVec 32 := Scalar.muli v5184 c256_i32_2141
  v5185
def k0_mult225 : BitVec 32 :=
  let c12_i32_2148 : BitVec 32 := 12#32
  let c256_i32_2151 : BitVec 32 := 256#32
  let v5219 : BitVec 32 := Scalar.muli c12_i32_2148 c256_i32_2151
  v5219
def k0_mult226 : BitVec 32 :=
  let c12_i32_2148 : BitVec 32 := 12#32
  let c2_i32_2158 : BitVec 32 := 2#32
  let v5229 : BitVec 32 := Scalar.subi c12_i32_2148 c2_i32_2158
  let c0_i32_2159 : BitVec 32 := 0#32
  let v5230 : BitVec 32 := Scalar.maxsi v5229 c0_i32_2159
  let c256_i32_2160 : BitVec 32 := 256#32
  let v5231 : BitVec 32 := Scalar.muli v5230 c256_i32_2160
  v5231
def k0_mult227 : BitVec 32 :=
  let c13_i32_2167 : BitVec 32 := 13#32
  let c256_i32_2170 : BitVec 32 := 256#32
  let v5265 : BitVec 32 := Scalar.muli c13_i32_2167 c256_i32_2170
  v5265
def k0_mult228 : BitVec 32 :=
  let c13_i32_2167 : BitVec 32 := 13#32
  let c2_i32_2177 : BitVec 32 := 2#32
  let v5275 : BitVec 32 := Scalar.subi c13_i32_2167 c2_i32_2177
  let c0_i32_2178 : BitVec 32 := 0#32
  let v5276 : BitVec 32 := Scalar.maxsi v5275 c0_i32_2178
  let c256_i32_2179 : BitVec 32 := 256#32
  let v5277 : BitVec 32 := Scalar.muli v5276 c256_i32_2179
  v5277
def k0_mult229 : BitVec 32 :=
  let c14_i32_2186 : BitVec 32 := 14#32
  let c256_i32_2189 : BitVec 32 := 256#32
  let v5311 : BitVec 32 := Scalar.muli c14_i32_2186 c256_i32_2189
  v5311
def k0_mult230 : BitVec 32 :=
  let c14_i32_2186 : BitVec 32 := 14#32
  let c2_i32_2196 : BitVec 32 := 2#32
  let v5321 : BitVec 32 := Scalar.subi c14_i32_2186 c2_i32_2196
  let c0_i32_2197 : BitVec 32 := 0#32
  let v5322 : BitVec 32 := Scalar.maxsi v5321 c0_i32_2197
  let c256_i32_2198 : BitVec 32 := 256#32
  let v5323 : BitVec 32 := Scalar.muli v5322 c256_i32_2198
  v5323
def k0_mult231 : BitVec 32 :=
  let c15_i32_2205 : BitVec 32 := 15#32
  let c256_i32_2208 : BitVec 32 := 256#32
  let v5357 : BitVec 32 := Scalar.muli c15_i32_2205 c256_i32_2208
  v5357
def k0_mult232 : BitVec 32 :=
  let c15_i32_2205 : BitVec 32 := 15#32
  let c2_i32_2215 : BitVec 32 := 2#32
  let v5367 : BitVec 32 := Scalar.subi c15_i32_2205 c2_i32_2215
  let c0_i32_2216 : BitVec 32 := 0#32
  let v5368 : BitVec 32 := Scalar.maxsi v5367 c0_i32_2216
  let c256_i32_2217 : BitVec 32 := 256#32
  let v5369 : BitVec 32 := Scalar.muli v5368 c256_i32_2217
  v5369
def k0_mult233 : BitVec 32 :=
  let c16_i32_2224 : BitVec 32 := 16#32
  let c256_i32_2227 : BitVec 32 := 256#32
  let v5403 : BitVec 32 := Scalar.muli c16_i32_2224 c256_i32_2227
  v5403
def k0_mult234 : BitVec 32 :=
  let c16_i32_2224 : BitVec 32 := 16#32
  let c2_i32_2234 : BitVec 32 := 2#32
  let v5413 : BitVec 32 := Scalar.subi c16_i32_2224 c2_i32_2234
  let c0_i32_2235 : BitVec 32 := 0#32
  let v5414 : BitVec 32 := Scalar.maxsi v5413 c0_i32_2235
  let c256_i32_2236 : BitVec 32 := 256#32
  let v5415 : BitVec 32 := Scalar.muli v5414 c256_i32_2236
  v5415
def k0_mult235 : BitVec 32 :=
  let c17_i32_2243 : BitVec 32 := 17#32
  let c256_i32_2246 : BitVec 32 := 256#32
  let v5449 : BitVec 32 := Scalar.muli c17_i32_2243 c256_i32_2246
  v5449
def k0_mult236 : BitVec 32 :=
  let c17_i32_2243 : BitVec 32 := 17#32
  let c2_i32_2253 : BitVec 32 := 2#32
  let v5459 : BitVec 32 := Scalar.subi c17_i32_2243 c2_i32_2253
  let c0_i32_2254 : BitVec 32 := 0#32
  let v5460 : BitVec 32 := Scalar.maxsi v5459 c0_i32_2254
  let c256_i32_2255 : BitVec 32 := 256#32
  let v5461 : BitVec 32 := Scalar.muli v5460 c256_i32_2255
  v5461
def k0_mult237 : BitVec 32 :=
  let c18_i32_2262 : BitVec 32 := 18#32
  let c256_i32_2265 : BitVec 32 := 256#32
  let v5495 : BitVec 32 := Scalar.muli c18_i32_2262 c256_i32_2265
  v5495
def k0_mult238 : BitVec 32 :=
  let c18_i32_2262 : BitVec 32 := 18#32
  let c2_i32_2272 : BitVec 32 := 2#32
  let v5505 : BitVec 32 := Scalar.subi c18_i32_2262 c2_i32_2272
  let c0_i32_2273 : BitVec 32 := 0#32
  let v5506 : BitVec 32 := Scalar.maxsi v5505 c0_i32_2273
  let c256_i32_2274 : BitVec 32 := 256#32
  let v5507 : BitVec 32 := Scalar.muli v5506 c256_i32_2274
  v5507
def k0_mult239 : BitVec 32 :=
  let c19_i32_2281 : BitVec 32 := 19#32
  let c256_i32_2284 : BitVec 32 := 256#32
  let v5541 : BitVec 32 := Scalar.muli c19_i32_2281 c256_i32_2284
  v5541
def k0_mult240 : BitVec 32 :=
  let c19_i32_2281 : BitVec 32 := 19#32
  let c2_i32_2291 : BitVec 32 := 2#32
  let v5551 : BitVec 32 := Scalar.subi c19_i32_2281 c2_i32_2291
  let c0_i32_2292 : BitVec 32 := 0#32
  let v5552 : BitVec 32 := Scalar.maxsi v5551 c0_i32_2292
  let c256_i32_2293 : BitVec 32 := 256#32
  let v5553 : BitVec 32 := Scalar.muli v5552 c256_i32_2293
  v5553
def k0_mult241 : BitVec 32 :=
  let c20_i32_2300 : BitVec 32 := 20#32
  let c256_i32_2303 : BitVec 32 := 256#32
  let v5587 : BitVec 32 := Scalar.muli c20_i32_2300 c256_i32_2303
  v5587
def k0_mult242 : BitVec 32 :=
  let c20_i32_2300 : BitVec 32 := 20#32
  let c2_i32_2310 : BitVec 32 := 2#32
  let v5597 : BitVec 32 := Scalar.subi c20_i32_2300 c2_i32_2310
  let c0_i32_2311 : BitVec 32 := 0#32
  let v5598 : BitVec 32 := Scalar.maxsi v5597 c0_i32_2311
  let c256_i32_2312 : BitVec 32 := 256#32
  let v5599 : BitVec 32 := Scalar.muli v5598 c256_i32_2312
  v5599
def k0_mult243 : BitVec 32 :=
  let c21_i32_2319 : BitVec 32 := 21#32
  let c256_i32_2322 : BitVec 32 := 256#32
  let v5633 : BitVec 32 := Scalar.muli c21_i32_2319 c256_i32_2322
  v5633
def k0_mult244 : BitVec 32 :=
  let c21_i32_2319 : BitVec 32 := 21#32
  let c2_i32_2329 : BitVec 32 := 2#32
  let v5643 : BitVec 32 := Scalar.subi c21_i32_2319 c2_i32_2329
  let c0_i32_2330 : BitVec 32 := 0#32
  let v5644 : BitVec 32 := Scalar.maxsi v5643 c0_i32_2330
  let c256_i32_2331 : BitVec 32 := 256#32
  let v5645 : BitVec 32 := Scalar.muli v5644 c256_i32_2331
  v5645
def k0_mult245 : BitVec 32 :=
  let c22_i32_2338 : BitVec 32 := 22#32
  let c256_i32_2341 : BitVec 32 := 256#32
  let v5679 : BitVec 32 := Scalar.muli c22_i32_2338 c256_i32_2341
  v5679
def k0_mult246 : BitVec 32 :=
  let c22_i32_2338 : BitVec 32 := 22#32
  let c2_i32_2348 : BitVec 32 := 2#32
  let v5689 : BitVec 32 := Scalar.subi c22_i32_2338 c2_i32_2348
  let c0_i32_2349 : BitVec 32 := 0#32
  let v5690 : BitVec 32 := Scalar.maxsi v5689 c0_i32_2349
  let c256_i32_2350 : BitVec 32 := 256#32
  let v5691 : BitVec 32 := Scalar.muli v5690 c256_i32_2350
  v5691
def k0_mult247 : BitVec 32 :=
  let c23_i32_2357 : BitVec 32 := 23#32
  let c256_i32_2360 : BitVec 32 := 256#32
  let v5725 : BitVec 32 := Scalar.muli c23_i32_2357 c256_i32_2360
  v5725
def k0_mult248 : BitVec 32 :=
  let c23_i32_2357 : BitVec 32 := 23#32
  let c2_i32_2367 : BitVec 32 := 2#32
  let v5735 : BitVec 32 := Scalar.subi c23_i32_2357 c2_i32_2367
  let c0_i32_2368 : BitVec 32 := 0#32
  let v5736 : BitVec 32 := Scalar.maxsi v5735 c0_i32_2368
  let c256_i32_2369 : BitVec 32 := 256#32
  let v5737 : BitVec 32 := Scalar.muli v5736 c256_i32_2369
  v5737
def k0_mult249 : BitVec 32 :=
  let c24_i32_2376 : BitVec 32 := 24#32
  let c256_i32_2379 : BitVec 32 := 256#32
  let v5771 : BitVec 32 := Scalar.muli c24_i32_2376 c256_i32_2379
  v5771
def k0_mult250 : BitVec 32 :=
  let c24_i32_2376 : BitVec 32 := 24#32
  let c2_i32_2386 : BitVec 32 := 2#32
  let v5781 : BitVec 32 := Scalar.subi c24_i32_2376 c2_i32_2386
  let c0_i32_2387 : BitVec 32 := 0#32
  let v5782 : BitVec 32 := Scalar.maxsi v5781 c0_i32_2387
  let c256_i32_2388 : BitVec 32 := 256#32
  let v5783 : BitVec 32 := Scalar.muli v5782 c256_i32_2388
  v5783
def k0_mult251 : BitVec 32 :=
  let c25_i32_2395 : BitVec 32 := 25#32
  let c256_i32_2398 : BitVec 32 := 256#32
  let v5817 : BitVec 32 := Scalar.muli c25_i32_2395 c256_i32_2398
  v5817
def k0_mult252 : BitVec 32 :=
  let c25_i32_2395 : BitVec 32 := 25#32
  let c2_i32_2405 : BitVec 32 := 2#32
  let v5827 : BitVec 32 := Scalar.subi c25_i32_2395 c2_i32_2405
  let c0_i32_2406 : BitVec 32 := 0#32
  let v5828 : BitVec 32 := Scalar.maxsi v5827 c0_i32_2406
  let c256_i32_2407 : BitVec 32 := 256#32
  let v5829 : BitVec 32 := Scalar.muli v5828 c256_i32_2407
  v5829
def k0_mult253 : BitVec 32 :=
  let c26_i32_2414 : BitVec 32 := 26#32
  let c256_i32_2417 : BitVec 32 := 256#32
  let v5863 : BitVec 32 := Scalar.muli c26_i32_2414 c256_i32_2417
  v5863
def k0_mult254 : BitVec 32 :=
  let c26_i32_2414 : BitVec 32 := 26#32
  let c2_i32_2424 : BitVec 32 := 2#32
  let v5873 : BitVec 32 := Scalar.subi c26_i32_2414 c2_i32_2424
  let c0_i32_2425 : BitVec 32 := 0#32
  let v5874 : BitVec 32 := Scalar.maxsi v5873 c0_i32_2425
  let c256_i32_2426 : BitVec 32 := 256#32
  let v5875 : BitVec 32 := Scalar.muli v5874 c256_i32_2426
  v5875
def k0_mult255 : BitVec 32 :=
  let c27_i32_2433 : BitVec 32 := 27#32
  let c256_i32_2436 : BitVec 32 := 256#32
  let v5909 : BitVec 32 := Scalar.muli c27_i32_2433 c256_i32_2436
  v5909
def k0_mult256 : BitVec 32 :=
  let c27_i32_2433 : BitVec 32 := 27#32
  let c2_i32_2443 : BitVec 32 := 2#32
  let v5919 : BitVec 32 := Scalar.subi c27_i32_2433 c2_i32_2443
  let c0_i32_2444 : BitVec 32 := 0#32
  let v5920 : BitVec 32 := Scalar.maxsi v5919 c0_i32_2444
  let c256_i32_2445 : BitVec 32 := 256#32
  let v5921 : BitVec 32 := Scalar.muli v5920 c256_i32_2445
  v5921
def k0_mult257 : BitVec 32 :=
  let c28_i32_2452 : BitVec 32 := 28#32
  let c256_i32_2455 : BitVec 32 := 256#32
  let v5955 : BitVec 32 := Scalar.muli c28_i32_2452 c256_i32_2455
  v5955
def k0_mult258 : BitVec 32 :=
  let c28_i32_2452 : BitVec 32 := 28#32
  let c2_i32_2462 : BitVec 32 := 2#32
  let v5965 : BitVec 32 := Scalar.subi c28_i32_2452 c2_i32_2462
  let c0_i32_2463 : BitVec 32 := 0#32
  let v5966 : BitVec 32 := Scalar.maxsi v5965 c0_i32_2463
  let c256_i32_2464 : BitVec 32 := 256#32
  let v5967 : BitVec 32 := Scalar.muli v5966 c256_i32_2464
  v5967
def k0_mult259 : BitVec 32 :=
  let c29_i32_2471 : BitVec 32 := 29#32
  let c256_i32_2474 : BitVec 32 := 256#32
  let v6001 : BitVec 32 := Scalar.muli c29_i32_2471 c256_i32_2474
  v6001
def k0_mult260 : BitVec 32 :=
  let c29_i32_2471 : BitVec 32 := 29#32
  let c2_i32_2481 : BitVec 32 := 2#32
  let v6011 : BitVec 32 := Scalar.subi c29_i32_2471 c2_i32_2481
  let c0_i32_2482 : BitVec 32 := 0#32
  let v6012 : BitVec 32 := Scalar.maxsi v6011 c0_i32_2482
  let c256_i32_2483 : BitVec 32 := 256#32
  let v6013 : BitVec 32 := Scalar.muli v6012 c256_i32_2483
  v6013
def k0_mult261 : BitVec 32 :=
  let c30_i32_2490 : BitVec 32 := 30#32
  let c256_i32_2493 : BitVec 32 := 256#32
  let v6047 : BitVec 32 := Scalar.muli c30_i32_2490 c256_i32_2493
  v6047
def k0_mult262 : BitVec 32 :=
  let c30_i32_2490 : BitVec 32 := 30#32
  let c2_i32_2500 : BitVec 32 := 2#32
  let v6057 : BitVec 32 := Scalar.subi c30_i32_2490 c2_i32_2500
  let c0_i32_2501 : BitVec 32 := 0#32
  let v6058 : BitVec 32 := Scalar.maxsi v6057 c0_i32_2501
  let c256_i32_2502 : BitVec 32 := 256#32
  let v6059 : BitVec 32 := Scalar.muli v6058 c256_i32_2502
  v6059
def k0_mult263 : BitVec 32 :=
  let c31_i32_2509 : BitVec 32 := 31#32
  let c256_i32_2512 : BitVec 32 := 256#32
  let v6093 : BitVec 32 := Scalar.muli c31_i32_2509 c256_i32_2512
  v6093
def k0_mult264 : BitVec 32 :=
  let c31_i32_2509 : BitVec 32 := 31#32
  let c2_i32_2519 : BitVec 32 := 2#32
  let v6103 : BitVec 32 := Scalar.subi c31_i32_2509 c2_i32_2519
  let c0_i32_2520 : BitVec 32 := 0#32
  let v6104 : BitVec 32 := Scalar.maxsi v6103 c0_i32_2520
  let c256_i32_2521 : BitVec 32 := 256#32
  let v6105 : BitVec 32 := Scalar.muli v6104 c256_i32_2521
  v6105
def k0_mult265 : BitVec 32 :=
  let c32_i32_2528 : BitVec 32 := 32#32
  let c256_i32_2531 : BitVec 32 := 256#32
  let v6139 : BitVec 32 := Scalar.muli c32_i32_2528 c256_i32_2531
  v6139
def k0_mult266 : BitVec 32 :=
  let c32_i32_2528 : BitVec 32 := 32#32
  let c2_i32_2538 : BitVec 32 := 2#32
  let v6149 : BitVec 32 := Scalar.subi c32_i32_2528 c2_i32_2538
  let c0_i32_2539 : BitVec 32 := 0#32
  let v6150 : BitVec 32 := Scalar.maxsi v6149 c0_i32_2539
  let c256_i32_2540 : BitVec 32 := 256#32
  let v6151 : BitVec 32 := Scalar.muli v6150 c256_i32_2540
  v6151
def k0_mult267 : BitVec 32 :=
  let c31_i32_2548 : BitVec 32 := 31#32
  let c0_i32_2549 : BitVec 32 := 0#32
  let v6167 : BitVec 32 := Scalar.maxsi c31_i32_2548 c0_i32_2549
  let c256_i32_2550 : BitVec 32 := 256#32
  let v6168 : BitVec 32 := Scalar.muli v6167 c256_i32_2550
  v6168
def k0_mult268 : BitVec 32 :=
  let c32_i32_2559 : BitVec 32 := 32#32
  let c0_i32_2560 : BitVec 32 := 0#32
  let v6202 : BitVec 32 := Scalar.maxsi c32_i32_2559 c0_i32_2560
  let c256_i32_2561 : BitVec 32 := 256#32
  let v6203 : BitVec 32 := Scalar.muli v6202 c256_i32_2561
  v6203
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x160x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8448x8x64 : Shape := ⟨4, ![2, 8448, 8, 64]⟩
abbrev S2x8448x8x32 : Shape := ⟨4, ![2, 8448, 8, 32]⟩
abbrev S2x8448x32 : Shape := ⟨3, ![2, 8448, 32]⟩
abbrev S2x8192x8x64 : Shape := ⟨4, ![2, 8192, 8, 64]⟩
abbrev S2x8192x8x32 : Shape := ⟨4, ![2, 8192, 8, 32]⟩
abbrev S2x8x8192x8448 : Shape := ⟨4, ![2, 8, 8192, 8448]⟩
abbrev S2x8448x8192x8 : Shape := ⟨4, ![2, 8448, 8192, 8]⟩
abbrev S_ : Shape := ⟨0, ![]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩
abbrev S2x8192x512 : Shape := ⟨3, ![2, 8192, 512]⟩
abbrev S2x512x8192 : Shape := ⟨3, ![2, 512, 8192]⟩

abbrev nBuf : Space → Nat
  | .hbm => 33
  | .vmem => 0
  | .smem => 0
  | _ => 0

abbrev bufTy : (tb : Table) → Fin (tcTables nBuf tb) → BufTy
  | .hbm, ⟨0, _⟩ => ⟨S2x8448x8x64, .f32⟩
  | .hbm, ⟨1, _⟩ => ⟨S2x8448x8x32, .f32⟩
  | .hbm, ⟨2, _⟩ => ⟨S2x8448x8x64, .f32⟩
  | .hbm, ⟨3, _⟩ => ⟨S2x8448x32, .f32⟩
  | .hbm, ⟨4, _⟩ => ⟨S2x8448x8x64, .f32⟩
  | .hbm, ⟨5, _⟩ => ⟨S2x8192x8x64, .f32⟩
  | .hbm, ⟨6, _⟩ => ⟨S2x8192x8x32, .f32⟩
  | .hbm, ⟨7, _⟩ => ⟨S2x8x8192x8448, .f32⟩
  | .hbm, ⟨8, _⟩ => ⟨S2x8448x8192x8, .f32⟩
  | .hbm, ⟨9, _⟩ => ⟨S2x8x8192x8448, .f32⟩
  | .hbm, ⟨10, _⟩ => ⟨S2x8x8192x8448, .f32⟩
  | .hbm, ⟨11, _⟩ => ⟨S_, .f32⟩
  | .hbm, ⟨12, _⟩ => ⟨S2x8x8192x8448, .f32⟩
  | .hbm, ⟨13, _⟩ => ⟨S2x8x8192x8448, .f32⟩
  | .hbm, ⟨14, _⟩ => ⟨S_, .f32⟩
  | .hbm, ⟨15, _⟩ => ⟨S2x8x8192, .f32⟩
  | .hbm, ⟨16, _⟩ => ⟨S_, .f32⟩
  | .hbm, ⟨17, _⟩ => ⟨S2x8x8192, .f32⟩
  | .hbm, ⟨18, _⟩ => ⟨S2x8x8192, .f32⟩
  | .hbm, ⟨19, _⟩ => ⟨S2x8x8192x1, .f32⟩
  | .hbm, ⟨20, _⟩ => ⟨S2x8x8192x8448, .f32⟩
  | .hbm, ⟨21, _⟩ => ⟨S2x8x8192x8448, .f32⟩
  | .hbm, ⟨22, _⟩ => ⟨S2x8x8192x8448, .f32⟩
  | .hbm, ⟨23, _⟩ => ⟨S_, .f32⟩
  | .hbm, ⟨24, _⟩ => ⟨S2x8x8192, .f32⟩
  | .hbm, ⟨25, _⟩ => ⟨S2x8x8192x1, .f32⟩
  | .hbm, ⟨26, _⟩ => ⟨S2x8x8192x8448, .f32⟩
  | .hbm, ⟨27, _⟩ => ⟨S2x8x8192x8448, .f32⟩
  | .hbm, ⟨28, _⟩ => ⟨S2x8x64x8192, .f32⟩
  | .hbm, ⟨29, _⟩ => ⟨S2x8192x8x64, .f32⟩
  | .hbm, ⟨30, _⟩ => ⟨S2x8192x512, .f32⟩
  | .hbm, ⟨31, _⟩ => ⟨S2x512x8192, .f32⟩
  | .hbm, ⟨32, _⟩ => ⟨S2x512x8192, .bf16⟩
  | _, _ => ⟨S2x8448x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8x6x1024 : Shape := ⟨4, ![2, 8, 6, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S2x1x1024 : Shape := ⟨3, ![2, 1, 1024]⟩
abbrev S1x1024 : Shape := ⟨2, ![1, 1024]⟩
abbrev S1x512x1024 : Shape := ⟨3, ![1, 512, 1024]⟩
abbrev S1x1x6x1024 : Shape := ⟨4, ![1, 1, 6, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S6x1024 : Shape := ⟨2, ![6, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 13
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S2x8x6x1024, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S1024, .f32⟩
  | .hbm, ⟨7, _⟩ => ⟨S2x1024x2816, .bf16⟩
  | .hbm, ⟨8, _⟩ => ⟨S2x1024x2816, .bf16⟩
  | .hbm, ⟨9, _⟩ => ⟨S2x2816x1024, .bf16⟩
  | .hbm, ⟨10, _⟩ => ⟨S2x1x1024, .f32⟩
  | .hbm, ⟨11, _⟩ => ⟨S1x1024, .f32⟩
  | .hbm, ⟨12, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1x6x1024, .f32⟩
  | .local _ .vmem, ⟨5, _⟩ => ⟨S1x1x1024, .f32⟩
  | .local _ .vmem, ⟨6, _⟩ => ⟨S1x1024x2816, .bf16⟩
  | .local _ .vmem, ⟨7, _⟩ => ⟨S1x1024x2816, .bf16⟩
  | .local _ .vmem, ⟨8, _⟩ => ⟨S1x2816x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S2x8192x1024 : Shape := ⟨3, ![2, 8192, 1024]⟩
abbrev S2x8x6x1024 : Shape := ⟨4, ![2, 8, 6, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x2x1x1024 : Shape := ⟨4, ![1, 2, 1, 1024]⟩
abbrev S2x1x1024 : Shape := ⟨3, ![2, 1, 1024]⟩
abbrev S1x1024 : Shape := ⟨2, ![1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2x8192x2816 : Shape := ⟨3, ![2, 8192, 2816]⟩

abbrev nBuf : Space → Nat
  | .hbm => 79
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8x6x1024, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S1024, .f32⟩
  | .hbm, ⟨7, _⟩ => ⟨S1x2x1x1024, .f32⟩
  | .hbm, ⟨8, _⟩ => ⟨S2x1024, .f32⟩
  | .hbm, ⟨9, _⟩ => ⟨S2x1x1024, .f32⟩
  | .hbm, ⟨10, _⟩ => ⟨S1x2x1x1024, .f32⟩
  | .hbm, ⟨11, _⟩ => ⟨S2x1024, .f32⟩
  | .hbm, ⟨12, _⟩ => ⟨S2x1x1024, .f32⟩
  | .hbm, ⟨13, _⟩ => ⟨S1x2x1x1024, .f32⟩
  | .hbm, ⟨14, _⟩ => ⟨S2x1024, .f32⟩
  | .hbm, ⟨15, _⟩ => ⟨S2x1x1024, .f32⟩
  | .hbm, ⟨16, _⟩ => ⟨S1x1024, .f32⟩
  | .hbm, ⟨17, _⟩ => ⟨S1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S1x1x1024, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S1x1024x2816, .f32⟩
  | .hbm, ⟨42, _⟩ => ⟨S1024x2816, .f32⟩
  | .hbm, ⟨43, _⟩ => ⟨S1x1024x2816, .f32⟩
  | .hbm, ⟨44, _⟩ => ⟨S1024x2816, .f32⟩
  | .hbm, ⟨45, _⟩ => ⟨S1x2816x1024, .f32⟩
  | .hbm, ⟨46, _⟩ => ⟨S2816x1024, .f32⟩
  | .hbm, ⟨47, _⟩ => ⟨S2x8192x2816, .f32⟩
  | .hbm, ⟨48, _⟩ => ⟨S2x8192x2816, .f32⟩
  | .hbm, ⟨49, _⟩ => ⟨S2x8192x2816, .f32⟩
  | .hbm, ⟨50, _⟩ => ⟨S_, .f32⟩
  | .hbm, ⟨51, _⟩ => ⟨S2x8192x2816, .f32⟩
  | .hbm, ⟨52, _⟩ => ⟨S2x8192x2816, .f32⟩
  | .hbm, ⟨53, _⟩ => ⟨S_, .f32⟩
  | .hbm, ⟨54, _⟩ => ⟨S2x8192x2816, .f32⟩
  | .hbm, ⟨55, _⟩ => ⟨S2x8192x2816, .f32⟩
  | .hbm, ⟨56, _⟩ => ⟨S2x8192x2816, .f32⟩
  | .hbm, ⟨57, _⟩ => ⟨S2x8192x2816, .f32⟩
  | .hbm, ⟨58, _⟩ => ⟨S2x8192x2816, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S_, .f32⟩
  | .hbm, ⟨65, _⟩ => ⟨S2x8192, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S_, .f32⟩
  | .hbm, ⟨71, _⟩ => ⟨S2x8192x1, .f32⟩
  | .hbm, ⟨72, _⟩ => ⟨S2x8192x1, .f32⟩
  | .hbm, ⟨73, _⟩ => ⟨S2x8192x1, .f32⟩
  | .hbm, ⟨74, _⟩ => ⟨S2x8192x1024, .f32⟩
  | .hbm, ⟨75, _⟩ => ⟨S2x8192x1024, .f32⟩
  | .hbm, ⟨76, _⟩ => ⟨S1x1x1024, .f32⟩
  | .hbm, ⟨77, _⟩ => ⟨S2x8192x1024, .f32⟩
  | .hbm, ⟨78, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_3 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x512 : Shape := ⟨3, ![2, 8192, 512]⟩
abbrev S2x8x6x1024 : Shape := ⟨4, ![2, 8, 6, 1024]⟩
abbrev S2x8448x256 : Shape := ⟨3, ![2, 8448, 256]⟩
abbrev S2x1024 : Shape := ⟨2, ![2, 1024]⟩
abbrev S2x1024x5024 : Shape := ⟨3, ![2, 1024, 5024]⟩
abbrev S2x512x1024 : Shape := ⟨3, ![2, 512, 1024]⟩
abbrev S2x31x256 : Shape := ⟨3, ![2, 31, 256]⟩
abbrev S2x256 : Shape := ⟨2, ![2, 256]⟩
abbrev S2x256x1024 : Shape := ⟨3, ![2, 256, 1024]⟩
abbrev S2x3x256 : Shape := ⟨3, ![2, 3, 256]⟩
abbrev S2x1024x1024 : Shape := ⟨3, ![2, 1024, 1024]⟩
abbrev S2x512x8192 : Shape := ⟨3, ![2, 512, 8192]⟩
abbrev S2x1024x3072 : Shape := ⟨3, ![2, 1024, 3072]⟩
abbrev S_ : Shape := ⟨0, ![]⟩
abbrev S2x1024x3200 : Shape := ⟨3, ![2, 1024, 3200]⟩
abbrev S2x512x1152 : Shape := ⟨3, ![2, 512, 1152]⟩
abbrev S2x256x1152 : Shape := ⟨3, ![2, 256, 1152]⟩
abbrev S2x1024x1152 : Shape := ⟨3, ![2, 1024, 1152]⟩
abbrev S2x1x1024 : Shape := ⟨3, ![2, 1, 1024]⟩
abbrev S2x1x256 : Shape := ⟨3, ![2, 1, 256]⟩
abbrev S1x256x1024 : Shape := ⟨3, ![1, 256, 1024]⟩
abbrev S1x512x256 : Shape := ⟨3, ![1, 512, 256]⟩
abbrev S1x1x6x1024 : Shape := ⟨4, ![1, 1, 6, 1024]⟩
abbrev S1x256x256 : Shape := ⟨3, ![1, 256, 256]⟩
abbrev S1x16x256 : Shape := ⟨3, ![1, 16, 256]⟩
abbrev S1x1x1024 : Shape := ⟨3, ![1, 1, 1024]⟩
abbrev S1x1024x3200 : Shape := ⟨3, ![1, 1024, 3200]⟩
abbrev S1x512x1152 : Shape := ⟨3, ![1, 512, 1152]⟩
abbrev S1x31x256 : Shape := ⟨3, ![1, 31, 256]⟩
abbrev S1x1x256 : Shape := ⟨3, ![1, 1, 256]⟩
abbrev S1x256x1152 : Shape := ⟨3, ![1, 256, 1152]⟩
abbrev S1x3x256 : Shape := ⟨3, ![1, 3, 256]⟩
abbrev S1x1024x1152 : Shape := ⟨3, ![1, 1024, 1152]⟩
abbrev S288x256 : Shape := ⟨2, ![288, 256]⟩
abbrev S16x256 : Shape := ⟨2, ![16, 256]⟩
abbrev S256x256 : Shape := ⟨2, ![256, 256]⟩
abbrev S256x1024 : Shape := ⟨2, ![256, 1024]⟩
abbrev S1x1024 : Shape := ⟨2, ![1, 1024]⟩
abbrev S1x1x1x1024 : Shape := ⟨4, ![1, 1, 1, 1024]⟩
abbrev S256 : Shape := ⟨1, ![256]⟩
abbrev S256x1 : Shape := ⟨2, ![256, 1]⟩
abbrev S512x256 : Shape := ⟨2, ![512, 256]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S1x256 : Shape := ⟨2, ![1, 256]⟩
abbrev S264x256 : Shape := ⟨2, ![264, 256]⟩

abbrev nBuf : Space → Nat
  | .hbm => 45
  | .vmem => 35
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8x6x1024, .f32⟩
  | .hbm, ⟨3, _⟩ => ⟨S2x8448x256, .f32⟩
  | .hbm, ⟨4, _⟩ => ⟨S2x8448x256, .f32⟩
  | .hbm, ⟨5, _⟩ => ⟨S2x8448x256, .f32⟩
  | .hbm, ⟨6, _⟩ => ⟨S2x1024, .f32⟩
  | .hbm, ⟨7, _⟩ => ⟨S2x1024x5024, .f32⟩
  | .hbm, ⟨8, _⟩ => ⟨S2x512x1024, .f32⟩
  | .hbm, ⟨9, _⟩ => ⟨S2x31x256, .f32⟩
  | .hbm, ⟨10, _⟩ => ⟨S2x256, .f32⟩
  | .hbm, ⟨11, _⟩ => ⟨S2x256, .f32⟩
  | .hbm, ⟨12, _⟩ => ⟨S2x256, .f32⟩
  | .hbm, ⟨13, _⟩ => ⟨S2x256x1024, .f32⟩
  | .hbm, ⟨14, _⟩ => ⟨S2x3x256, .f32⟩
  | .hbm, ⟨15, _⟩ => ⟨S2x256x1024, .f32⟩
  | .hbm, ⟨16, _⟩ => ⟨S2x1024x1024, .f32⟩
  | .hbm, ⟨17, _⟩ => ⟨S2x512x8192, .f32⟩
  | .hbm, ⟨18, _⟩ => ⟨S2x512x8192, .bf16⟩
  | .hbm, ⟨19, _⟩ => ⟨S2x1024x5024, .bf16⟩
  | .hbm, ⟨20, _⟩ => ⟨S2x1024x3072, .bf16⟩
  | .hbm, ⟨21, _⟩ => ⟨S_, .i32⟩
  | .hbm, ⟨22, _⟩ => ⟨S_, .bf16⟩
  | .hbm, ⟨23, _⟩ => ⟨S2x1024x3200, .bf16⟩
  | .hbm, ⟨24, _⟩ => ⟨S_, .i32⟩
  | .hbm, ⟨25, _⟩ => ⟨S_, .f32⟩
  | .hbm, ⟨26, _⟩ => ⟨S2x512x1152, .f32⟩
  | .hbm, ⟨27, _⟩ => ⟨S2x512x1152, .bf16⟩
  | .hbm, ⟨28, _⟩ => ⟨S_, .i32⟩
  | .hbm, ⟨29, _⟩ => ⟨S_, .f32⟩
  | .hbm, ⟨30, _⟩ => ⟨S2x256x1152, .f32⟩
  | .hbm, ⟨31, _⟩ => ⟨S2x256x1152, .bf16⟩
  | .hbm, ⟨32, _⟩ => ⟨S_, .i32⟩
  | .hbm, ⟨33, _⟩ => ⟨S_, .f32⟩
  | .hbm, ⟨34, _⟩ => ⟨S2x256x1152, .f32⟩
  | .hbm, ⟨35, _⟩ => ⟨S2x256x1152, .bf16⟩
  | .hbm, ⟨36, _⟩ => ⟨S_, .i32⟩
  | .hbm, ⟨37, _⟩ => ⟨S_, .f32⟩
  | .hbm, ⟨38, _⟩ => ⟨S2x1024x1152, .f32⟩
  | .hbm, ⟨39, _⟩ => ⟨S2x1024x1152, .bf16⟩
  | .hbm, ⟨40, _⟩ => ⟨S2x1x1024, .f32⟩
  | .hbm, ⟨41, _⟩ => ⟨S2x1x256, .f32⟩
  | .hbm, ⟨42, _⟩ => ⟨S2x1x256, .f32⟩
  | .hbm, ⟨43, _⟩ => ⟨S2x1x256, .f32⟩
  | .hbm, ⟨44, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x1x6x1024, .f32⟩
  | .local _ .vmem, ⟨5, _⟩ => ⟨S1x1x6x1024, .f32⟩
  | .local _ .vmem, ⟨6, _⟩ => ⟨S1x256x256, .f32⟩
  | .local _ .vmem, ⟨7, _⟩ => ⟨S1x256x256, .f32⟩
  | .local _ .vmem, ⟨8, _⟩ => ⟨S1x16x256, .f32⟩
  | .local _ .vmem, ⟨9, _⟩ => ⟨S1x16x256, .f32⟩
  | .local _ .vmem, ⟨10, _⟩ => ⟨S1x16x256, .f32⟩
  | .local _ .vmem, ⟨11, _⟩ => ⟨S1x16x256, .f32⟩
  | .local _ .vmem, ⟨12, _⟩ => ⟨S1x256x256, .f32⟩
  | .local _ .vmem, ⟨13, _⟩ => ⟨S1x256x256, .f32⟩
  | .local _ .vmem, ⟨14, _⟩ => ⟨S1x16x256, .f32⟩
  | .local _ .vmem, ⟨15, _⟩ => ⟨S1x16x256, .f32⟩
  | .local _ .vmem, ⟨16, _⟩ => ⟨S1x16x256, .f32⟩
  | .local _ .vmem, ⟨17, _⟩ => ⟨S1x16x256, .f32⟩
  | .local _ .vmem, ⟨18, _⟩ => ⟨S1x256x256, .f32⟩
  | .local _ .vmem, ⟨19, _⟩ => ⟨S1x256x256, .f32⟩
  | .local _ .vmem, ⟨20, _⟩ => ⟨S1x1x1024, .f32⟩
  | .local _ .vmem, ⟨21, _⟩ => ⟨S1x1024x3200, .bf16⟩
  | .local _ .vmem, ⟨22, _⟩ => ⟨S1x512x1152, .bf16⟩
  | .local _ .vmem, ⟨23, _⟩ => ⟨S1x31x256, .f32⟩
  | .local _ .vmem, ⟨24, _⟩ => ⟨S1x1x256, .f32⟩
  | .local _ .vmem, ⟨25, _⟩ => ⟨S1x1x256, .f32⟩
  | .local _ .vmem, ⟨26, _⟩ => ⟨S1x1x256, .f32⟩
  | .local _ .vmem, ⟨27, _⟩ => ⟨S1x256x1152, .bf16⟩
  | .local _ .vmem, ⟨28, _⟩ => ⟨S1x3x256, .f32⟩
  | .local _ .vmem, ⟨29, _⟩ => ⟨S1x256x1152, .bf16⟩
  | .local _ .vmem, ⟨30, _⟩ => ⟨S1x1024x1152, .bf16⟩
  | .local _ .vmem, ⟨31, _⟩ => ⟨S1x256x1024, .f32⟩
  | .local _ .vmem, ⟨32, _⟩ => ⟨S1x256x1024, .f32⟩
  | .local _ .vmem, ⟨33, _⟩ => ⟨S288x256, .f32⟩
  | .local _ .vmem, ⟨34, _⟩ => ⟨S288x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_call0_v0 : Ref sig .tc := ⟨.hbm, 22, rfl⟩
abbrev main_v4 : Ref sig .tc := ⟨.hbm, 23, rfl⟩
abbrev main_c_0 : Ref sig .tc := ⟨.hbm, 24, rfl⟩
abbrev main_call1_v0 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_call2_v0 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_call3_v0 : Ref sig .tc := ⟨.hbm, 33, rfl⟩
abbrev main_v9 : Ref sig .tc := ⟨.hbm, 34, rfl⟩
abbrev main_v10 : Ref sig .tc := ⟨.hbm, 35, rfl⟩
abbrev main_c_3 : Ref sig .tc := ⟨.hbm, 36, rfl⟩
abbrev main_call4_v0 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg21_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c2_i32 : BitVec 32 := 2#32
  let v1 : BitVec 32 := Scalar.select v0 arg0 c2_i32
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c527_i32 : BitVec 32 := 527#32
  let v2 : BitVec 32 := Scalar.minsi v1 c527_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c527_i32 : BitVec 32 := 527#32
  let v2 : BitVec 32 := Scalar.minsi v1 c527_i32
  let c0_i32 : BitVec 32 := 0#32
  let c0_i32_0 : BitVec 32 := 0#32
  ![arg0.toNat, v2.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x3200 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512x1152 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x31x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x256x1152 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x3x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x256x1152 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1024x1152 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference3Ideal.lean ====
abbrev S2x8192x1024 : Shape := ⟨3, ![2, 8192, 1024]⟩
abbrev S2x8192x512 : Shape := ⟨3, ![2, 8192, 512]⟩
abbrev S2x8x6x1024 : Shape := ⟨4, ![2, 8, 6, 1024]⟩
abbrev S2x8448x256 : Shape := ⟨3, ![2, 8448, 256]⟩
abbrev S2x1024 : Shape := ⟨2, ![2, 1024]⟩
abbrev S2x1024x5024 : Shape := ⟨3, ![2, 1024, 5024]⟩
abbrev S2x512x1024 : Shape := ⟨3, ![2, 512, 1024]⟩
abbrev S2x31x256 : Shape := ⟨3, ![2, 31, 256]⟩
abbrev S2x256 : Shape := ⟨2, ![2, 256]⟩
abbrev S2x256x1024 : Shape := ⟨3, ![2, 256, 1024]⟩
abbrev S2x3x256 : Shape := ⟨3, ![2, 3, 256]⟩
abbrev S2x1024x1024 : Shape := ⟨3, ![2, 1024, 1024]⟩
abbrev S1x2x1x1024 : Shape := ⟨4, ![1, 2, 1, 1024]⟩
abbrev S2x1x1024 : Shape := ⟨3, ![2, 1, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x5024 : Shape := ⟨3, ![1, 1024, 5024]⟩
abbrev S1024x5024 : Shape := ⟨2, ![1024, 5024]⟩
abbrev S1024x3072 : Shape := ⟨2, ![1024, 3072]⟩
abbrev S2x8192x3072 : Shape := ⟨3, ![2, 8192, 3072]⟩
abbrev S2x8192x256 : Shape := ⟨3, ![2, 8192, 256]⟩
abbrev S1x31x256 : Shape := ⟨3, ![1, 31, 256]⟩
abbrev S31x256 : Shape := ⟨2, ![31, 256]⟩
abbrev S2x8222x256 : Shape := ⟨3, ![2, 8222, 256]⟩
abbrev S1x256 : Shape := ⟨2, ![1, 256]⟩
abbrev S256 : Shape := ⟨1, ![256]⟩
abbrev S1x1x256 : Shape := ⟨3, ![1, 1, 256]⟩
abbrev S1x3x256 : Shape := ⟨3, ![1, 3, 256]⟩
abbrev S3x256 : Shape := ⟨2, ![3, 256]⟩
abbrev S2x8194x256 : Shape := ⟨3, ![2, 8194, 256]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 383
  | .vmem => 0
  | .smem => 0
  | _ => 0

abbrev hbmTy0_0 (i : Nat) : BufTy := match i % 128 with
  | 0 => ⟨S2x8192x1024, .f32⟩
  | 1 => ⟨S2x8192x512, .f32⟩
  | 2 => ⟨S2x8x6x1024, .f32⟩
  | 3 => ⟨S2x8448x256, .f32⟩
  | 4 => ⟨S2x8448x256, .f32⟩
  | 5 => ⟨S2x8448x256, .f32⟩
  | 6 => ⟨S2x1024, .f32⟩
  | 7 => ⟨S2x1024x5024, .f32⟩
  | 8 => ⟨S2x512x1024, .f32⟩
  | 9 => ⟨S2x31x256, .f32⟩
  | 10 => ⟨S2x256, .f32⟩
  | 11 => ⟨S2x256, .f32⟩
  | 12 => ⟨S2x256, .f32⟩
  | 13 => ⟨S2x256x1024, .f32⟩
  | 14 => ⟨S2x3x256, .f32⟩
  | 15 => ⟨S2x256x1024, .f32⟩
  | 16 => ⟨S2x1024x1024, .f32⟩
  | 17 => ⟨S1x2x1x1024, .f32⟩
  | 18 => ⟨S2x1024, .f32⟩
  | 19 => ⟨S2x1x1024, .f32⟩
  | 20 => ⟨S1x2x1x1024, .f32⟩
  | 21 => ⟨S2x1024, .f32⟩
  | 22 => ⟨S2x1x1024, .f32⟩
  | 23 => ⟨S1x2x1x1024, .f32⟩
  | 24 => ⟨S2x1024, .f32⟩
  | 25 => ⟨S2x1x1024, .f32⟩
  | 26 => ⟨S1x1024, .f32⟩
  | 27 => ⟨S1024, .f32⟩
  | 28 => ⟨S2x8192x1024, .f32⟩
  | 29 => ⟨S_, .f32⟩
  | 30 => ⟨S2x8192, .f32⟩
  | 31 => ⟨S2x8192x1, .f32⟩
  | 32 => ⟨S_, .f32⟩
  | 33 => ⟨S2x8192x1, .f32⟩
  | 34 => ⟨S2x8192x1, .f32⟩
  | 35 => ⟨S_, .f32⟩
  | 36 => ⟨S2x8192x1, .f32⟩
  | 37 => ⟨S2x8192x1, .f32⟩
  | 38 => ⟨S2x8192x1, .f32⟩
  | 39 => ⟨S2x8192x1024, .f32⟩
  | 40 => ⟨S2x8192x1024, .f32⟩
  | 41 => ⟨S1x1x1024, .f32⟩
  | 42 => ⟨S2x8192x1024, .f32⟩
  | 43 => ⟨S2x8192x1024, .f32⟩
  | 44 => ⟨S_, .f32⟩
  | 45 => ⟨S2x1x1024, .f32⟩
  | 46 => ⟨S2x1x1024, .f32⟩
  | 47 => ⟨S2x8192x1024, .f32⟩
  | 48 => ⟨S2x8192x1024, .f32⟩
  | 49 => ⟨S2x8192x1024, .f32⟩
  | 50 => ⟨S2x8192x1024, .f32⟩
  | 51 => ⟨S1x1024x5024, .f32⟩
  | 52 => ⟨S1024x5024, .f32⟩
  | 53 => ⟨S1024x3072, .f32⟩
  | 54 => ⟨S2x8192x3072, .f32⟩
  | 55 => ⟨S2x8192x256, .f32⟩
  | 56 => ⟨S1x31x256, .f32⟩
  | 57 => ⟨S31x256, .f32⟩
  | 58 => ⟨S_, .i32⟩
  | 59 => ⟨S_, .f32⟩
  | 60 => ⟨S2x8222x256, .f32⟩
  | 61 => ⟨S2x8192x256, .f32⟩
  | 62 => ⟨S1x256, .f32⟩
  | 63 => ⟨S256, .f32⟩
  | 64 => ⟨S1x1x256, .f32⟩
  | 65 => ⟨S2x8192x256, .f32⟩
  | 66 => ⟨S2x8192x256, .f32⟩
  | 67 => ⟨S2x8192x256, .f32⟩
  | 68 => ⟨S1x256, .f32⟩
  | 69 => ⟨S256, .f32⟩
  | 70 => ⟨S1x1x256, .f32⟩
  | 71 => ⟨S2x8192x256, .f32⟩
  | 72 => ⟨S2x8192x256, .f32⟩
  | 73 => ⟨S2x8192x256, .f32⟩
  | 74 => ⟨S2x8192x256, .f32⟩
  | 75 => ⟨S1x256, .f32⟩
  | 76 => ⟨S256, .f32⟩
  | 77 => ⟨S1x1x256, .f32⟩
  | 78 => ⟨S2x8192x256, .f32⟩
  | 79 => ⟨S2x8192x256, .f32⟩
  | 80 => ⟨S2x8192x256, .f32⟩
  | 81 => ⟨S2x8192x256, .f32⟩
  | 82 => ⟨S1x256, .f32⟩
  | 83 => ⟨S256, .f32⟩
  | 84 => ⟨S1x1x256, .f32⟩
  | 85 => ⟨S2x8192x256, .f32⟩
  | 86 => ⟨S2x8192x256, .f32⟩
  | 87 => ⟨S2x8192x256, .f32⟩
  | 88 => ⟨S2x8192x256, .f32⟩
  | 89 => ⟨S1x256, .f32⟩
  | 90 => ⟨S256, .f32⟩
  | 91 => ⟨S1x1x256, .f32⟩
  | 92 => ⟨S2x8192x256, .f32⟩
  | 93 => ⟨S2x8192x256, .f32⟩
  | 94 => ⟨S2x8192x256, .f32⟩
  | 95 => ⟨S2x8192x256, .f32⟩
  | 96 => ⟨S1x256, .f32⟩
  | 97 => ⟨S256, .f32⟩
  | 98 => ⟨S1x1x256, .f32⟩
  | 99 => ⟨S2x8192x256, .f32⟩
  | 100 => ⟨S2x8192x256, .f32⟩
  | 101 => ⟨S2x8192x256, .f32⟩
  | 102 => ⟨S2x8192x256, .f32⟩
  | 103 => ⟨S1x256, .f32⟩
  | 104 => ⟨S256, .f32⟩
  | 105 => ⟨S1x1x256, .f32⟩
  | 106 => ⟨S2x8192x256, .f32⟩
  | 107 => ⟨S2x8192x256, .f32⟩
  | 108 => ⟨S2x8192x256, .f32⟩
  | 109 => ⟨S2x8192x256, .f32⟩
  | 110 => ⟨S1x256, .f32⟩
  | 111 => ⟨S256, .f32⟩
  | 112 => ⟨S1x1x256, .f32⟩
  | 113 => ⟨S2x8192x256, .f32⟩
  | 114 => ⟨S2x8192x256, .f32⟩
  | 115 => ⟨S2x8192x256, .f32⟩
  | 116 => ⟨S2x8192x256, .f32⟩
  | 117 => ⟨S1x256, .f32⟩
  | 118 => ⟨S256, .f32⟩
  | 119 => ⟨S1x1x256, .f32⟩
  | 120 => ⟨S2x8192x256, .f32⟩
  | 121 => ⟨S2x8192x256, .f32⟩
  | 122 => ⟨S2x8192x256, .f32⟩
  | 123 => ⟨S2x8192x256, .f32⟩
  | 124 => ⟨S1x256, .f32⟩
  | 125 => ⟨S256, .f32⟩
  | 126 => ⟨S1x1x256, .f32⟩
  | 127 => ⟨S2x8192x256, .f32⟩
  | _ => ⟨S2x8192x1024, .f32⟩

abbrev hbmTy0_1 (i : Nat) : BufTy := match i % 128 with
  | 0 => ⟨S2x8192x256, .f32⟩
  | 1 => ⟨S2x8192x256, .f32⟩
  | 2 => ⟨S2x8192x256, .f32⟩
  | 3 => ⟨S1x256, .f32⟩
  | 4 => ⟨S256, .f32⟩
  | 5 => ⟨S1x1x256, .f32⟩
  | 6 => ⟨S2x8192x256, .f32⟩
  | 7 => ⟨S2x8192x256, .f32⟩
  | 8 => ⟨S2x8192x256, .f32⟩
  | 9 => ⟨S2x8192x256, .f32⟩
  | 10 => ⟨S1x256, .f32⟩
  | 11 => ⟨S256, .f32⟩
  | 12 => ⟨S1x1x256, .f32⟩
  | 13 => ⟨S2x8192x256, .f32⟩
  | 14 => ⟨S2x8192x256, .f32⟩
  | 15 => ⟨S2x8192x256, .f32⟩
  | 16 => ⟨S2x8192x256, .f32⟩
  | 17 => ⟨S1x256, .f32⟩
  | 18 => ⟨S256, .f32⟩
  | 19 => ⟨S1x1x256, .f32⟩
  | 20 => ⟨S2x8192x256, .f32⟩
  | 21 => ⟨S2x8192x256, .f32⟩
  | 22 => ⟨S2x8192x256, .f32⟩
  | 23 => ⟨S2x8192x256, .f32⟩
  | 24 => ⟨S1x256, .f32⟩
  | 25 => ⟨S256, .f32⟩
  | 26 => ⟨S1x1x256, .f32⟩
  | 27 => ⟨S2x8192x256, .f32⟩
  | 28 => ⟨S2x8192x256, .f32⟩
  | 29 => ⟨S2x8192x256, .f32⟩
  | 30 => ⟨S2x8192x256, .f32⟩
  | 31 => ⟨S1x256, .f32⟩
  | 32 => ⟨S256, .f32⟩
  | 33 => ⟨S1x1x256, .f32⟩
  | 34 => ⟨S2x8192x256, .f32⟩
  | 35 => ⟨S2x8192x256, .f32⟩
  | 36 => ⟨S2x8192x256, .f32⟩
  | 37 => ⟨S2x8192x256, .f32⟩
  | 38 => ⟨S1x256, .f32⟩
  | 39 => ⟨S256, .f32⟩
  | 40 => ⟨S1x1x256, .f32⟩
  | 41 => ⟨S2x8192x256, .f32⟩
  | 42 => ⟨S2x8192x256, .f32⟩
  | 43 => ⟨S2x8192x256, .f32⟩
  | 44 => ⟨S2x8192x256, .f32⟩
  | 45 => ⟨S1x256, .f32⟩
  | 46 => ⟨S256, .f32⟩
  | 47 => ⟨S1x1x256, .f32⟩
  | 48 => ⟨S2x8192x256, .f32⟩
  | 49 => ⟨S2x8192x256, .f32⟩
  | 50 => ⟨S2x8192x256, .f32⟩
  | 51 => ⟨S2x8192x256, .f32⟩
  | 52 => ⟨S1x256, .f32⟩
  | 53 => ⟨S256, .f32⟩
  | 54 => ⟨S1x1x256, .f32⟩
  | 55 => ⟨S2x8192x256, .f32⟩
  | 56 => ⟨S2x8192x256, .f32⟩
  | 57 => ⟨S2x8192x256, .f32⟩
  | 58 => ⟨S2x8192x256, .f32⟩
  | 59 => ⟨S1x256, .f32⟩
  | 60 => ⟨S256, .f32⟩
  | 61 => ⟨S1x1x256, .f32⟩
  | 62 => ⟨S2x8192x256, .f32⟩
  | 63 => ⟨S2x8192x256, .f32⟩
  | 64 => ⟨S2x8192x256, .f32⟩
  | 65 => ⟨S2x8192x256, .f32⟩
  | 66 => ⟨S1x256, .f32⟩
  | 67 => ⟨S256, .f32⟩
  | 68 => ⟨S1x1x256, .f32⟩
  | 69 => ⟨S2x8192x256, .f32⟩
  | 70 => ⟨S2x8192x256, .f32⟩
  | 71 => ⟨S2x8192x256, .f32⟩
  | 72 => ⟨S2x8192x256, .f32⟩
  | 73 => ⟨S1x256, .f32⟩
  | 74 => ⟨S256, .f32⟩
  | 75 => ⟨S1x1x256, .f32⟩
  | 76 => ⟨S2x8192x256, .f32⟩
  | 77 => ⟨S2x8192x256, .f32⟩
  | 78 => ⟨S2x8192x256, .f32⟩
  | 79 => ⟨S2x8192x256, .f32⟩
  | 80 => ⟨S1x256, .f32⟩
  | 81 => ⟨S256, .f32⟩
  | 82 => ⟨S1x1x256, .f32⟩
  | 83 => ⟨S2x8192x256, .f32⟩
  | 84 => ⟨S2x8192x256, .f32⟩
  | 85 => ⟨S2x8192x256, .f32⟩
  | 86 => ⟨S2x8192x256, .f32⟩
  | 87 => ⟨S1x256, .f32⟩
  | 88 => ⟨S256, .f32⟩
  | 89 => ⟨S1x1x256, .f32⟩
  | 90 => ⟨S2x8192x256, .f32⟩
  | 91 => ⟨S2x8192x256, .f32⟩
  | 92 => ⟨S2x8192x256, .f32⟩
  | 93 => ⟨S2x8192x256, .f32⟩
  | 94 => ⟨S1x256, .f32⟩
  | 95 => ⟨S256, .f32⟩
  | 96 => ⟨S1x1x256, .f32⟩
  | 97 => ⟨S2x8192x256, .f32⟩
  | 98 => ⟨S2x8192x256, .f32⟩
  | 99 => ⟨S2x8192x256, .f32⟩
  | 100 => ⟨S2x8192x256, .f32⟩
  | 101 => ⟨S1x256, .f32⟩
  | 102 => ⟨S256, .f32⟩
  | 103 => ⟨S1x1x256, .f32⟩
  | 104 => ⟨S2x8192x256, .f32⟩
  | 105 => ⟨S2x8192x256, .f32⟩
  | 106 => ⟨S2x8192x256, .f32⟩
  | 107 => ⟨S2x8192x256, .f32⟩
  | 108 => ⟨S1x256, .f32⟩
  | 109 => ⟨S256, .f32⟩
  | 110 => ⟨S1x1x256, .f32⟩
  | 111 => ⟨S2x8192x256, .f32⟩
  | 112 => ⟨S2x8192x256, .f32⟩
  | 113 => ⟨S2x8192x256, .f32⟩
  | 114 => ⟨S2x8192x256, .f32⟩
  | 115 => ⟨S1x256, .f32⟩
  | 116 => ⟨S256, .f32⟩
  | 117 => ⟨S1x1x256, .f32⟩
  | 118 => ⟨S2x8192x256, .f32⟩
  | 119 => ⟨S2x8192x256, .f32⟩
  | 120 => ⟨S2x8192x256, .f32⟩
  | 121 => ⟨S2x8192x256, .f32⟩
  | 122 => ⟨S1x256, .f32⟩
  | 123 => ⟨S256, .f32⟩
  | 124 => ⟨S1x1x256, .f32⟩
  | 125 => ⟨S2x8192x256, .f32⟩
  | 126 => ⟨S2x8192x256, .f32⟩
  | 127 => ⟨S2x8192x256, .f32⟩
  | _ => ⟨S2x8192x1024, .f32⟩

abbrev hbmTy0_2 (i : Nat) : BufTy := match i % 128 with
  | 0 => ⟨S2x8192x256, .f32⟩
  | 1 => ⟨S1x256, .f32⟩
  | 2 => ⟨S256, .f32⟩
  | 3 => ⟨S1x1x256, .f32⟩
  | 4 => ⟨S2x8192x256, .f32⟩
  | 5 => ⟨S2x8192x256, .f32⟩
  | 6 => ⟨S2x8192x256, .f32⟩
  | 7 => ⟨S2x8192x256, .f32⟩
  | 8 => ⟨S1x256, .f32⟩
  | 9 => ⟨S256, .f32⟩
  | 10 => ⟨S1x1x256, .f32⟩
  | 11 => ⟨S2x8192x256, .f32⟩
  | 12 => ⟨S2x8192x256, .f32⟩
  | 13 => ⟨S2x8192x256, .f32⟩
  | 14 => ⟨S2x8192x256, .f32⟩
  | 15 => ⟨S1x256, .f32⟩
  | 16 => ⟨S256, .f32⟩
  | 17 => ⟨S1x1x256, .f32⟩
  | 18 => ⟨S2x8192x256, .f32⟩
  | 19 => ⟨S2x8192x256, .f32⟩
  | 20 => ⟨S2x8192x256, .f32⟩
  | 21 => ⟨S1x256, .f32⟩
  | 22 => ⟨S256, .f32⟩
  | 23 => ⟨S1x1x256, .f32⟩
  | 24 => ⟨S2x8192x256, .f32⟩
  | 25 => ⟨S2x8192x256, .f32⟩
  | 26 => ⟨S1x256, .f32⟩
  | 27 => ⟨S256, .f32⟩
  | 28 => ⟨S1x256, .f32⟩
  | 29 => ⟨S256, .f32⟩
  | 30 => ⟨S_, .f32⟩
  | 31 => ⟨S2x8192, .f32⟩
  | 32 => ⟨S2x8192x1, .f32⟩
  | 33 => ⟨S_, .f32⟩
  | 34 => ⟨S2x8192x1, .f32⟩
  | 35 => ⟨S2x8192x1, .f32⟩
  | 36 => ⟨S2x8192x256, .f32⟩
  | 37 => ⟨S2x8192x256, .f32⟩
  | 38 => ⟨S2x8192x256, .f32⟩
  | 39 => ⟨S_, .f32⟩
  | 40 => ⟨S2x8192, .f32⟩
  | 41 => ⟨S2x8192x1, .f32⟩
  | 42 => ⟨S_, .f32⟩
  | 43 => ⟨S2x8192x1, .f32⟩
  | 44 => ⟨S2x8192x1, .f32⟩
  | 45 => ⟨S2x8192x256, .f32⟩
  | 46 => ⟨S2x8192x256, .f32⟩
  | 47 => ⟨S_, .f32⟩
  | 48 => ⟨S2x8192x1, .f32⟩
  | 49 => ⟨S2x8192x1, .f32⟩
  | 50 => ⟨S2x8192x1, .f32⟩
  | 51 => ⟨S2x8192x256, .f32⟩
  | 52 => ⟨S2x8192x256, .f32⟩
  | 53 => ⟨S1x1x256, .f32⟩
  | 54 => ⟨S2x8192x256, .f32⟩
  | 55 => ⟨S2x8192x256, .f32⟩
  | 56 => ⟨S1x1x256, .f32⟩
  | 57 => ⟨S2x8192x256, .f32⟩
  | 58 => ⟨S2x8192x256, .f32⟩
  | 59 => ⟨S2x8192x256, .f32⟩
  | 60 => ⟨S2x8192x256, .f32⟩
  | 61 => ⟨S_, .f32⟩
  | 62 => ⟨S2x8192x256, .f32⟩
  | 63 => ⟨S2x8192x256, .f32⟩
  | 64 => ⟨S_, .f32⟩
  | 65 => ⟨S2x8192x256, .f32⟩
  | 66 => ⟨S2x8192x256, .f32⟩
  | 67 => ⟨S2x8192x256, .f32⟩
  | 68 => ⟨S2x8192x256, .f32⟩
  | 69 => ⟨S2x8192x256, .f32⟩
  | 70 => ⟨S1x3x256, .f32⟩
  | 71 => ⟨S3x256, .f32⟩
  | 72 => ⟨S_, .i32⟩
  | 73 => ⟨S_, .f32⟩
  | 74 => ⟨S2x8194x256, .f32⟩
  | 75 => ⟨S2x8192x256, .f32⟩
  | 76 => ⟨S1x256, .f32⟩
  | 77 => ⟨S256, .f32⟩
  | 78 => ⟨S1x1x256, .f32⟩
  | 79 => ⟨S2x8192x256, .f32⟩
  | 80 => ⟨S2x8192x256, .f32⟩
  | 81 => ⟨S2x8192x256, .f32⟩
  | 82 => ⟨S1x256, .f32⟩
  | 83 => ⟨S256, .f32⟩
  | 84 => ⟨S1x1x256, .f32⟩
  | 85 => ⟨S2x8192x256, .f32⟩
  | 86 => ⟨S2x8192x256, .f32⟩
  | 87 => ⟨S2x8192x256, .f32⟩
  | 88 => ⟨S2x8192x256, .f32⟩
  | 89 => ⟨S1x256, .f32⟩
  | 90 => ⟨S256, .f32⟩
  | 91 => ⟨S1x1x256, .f32⟩
  | 92 => ⟨S2x8192x256, .f32⟩
  | 93 => ⟨S2x8192x256, .f32⟩
  | 94 => ⟨S2x8192x256, .f32⟩
  | 95 => ⟨S2x8192x256, .f32⟩
  | 96 => ⟨S1x256x1024, .f32⟩
  | 97 => ⟨S256x1024, .f32⟩
  | 98 => ⟨S2x8192x1024, .f32⟩
  | 99 => ⟨S1x512x1024, .f32⟩
  | 100 => ⟨S512x1024, .f32⟩
  | 101 => ⟨S2x8192x1024, .f32⟩
  | 102 => ⟨S1x256x1024, .f32⟩
  | 103 => ⟨S256x1024, .f32⟩
  | 104 => ⟨S2x8192x1024, .f32⟩
  | 105 => ⟨S1x1024x1024, .f32⟩
  | 106 => ⟨S1024x1024, .f32⟩
  | 107 => ⟨S2x8192x3072, .f32⟩
  | 108 => ⟨S2x8192x3072, .f32⟩
  | 109 => ⟨S_, .f32⟩
  | 110 => ⟨S2x8192x3072, .f32⟩
  | 111 => ⟨S2x8192x3072, .f32⟩
  | 112 => ⟨S_, .f32⟩
  | 113 => ⟨S2x8192x3072, .f32⟩
  | 114 => ⟨S2x8192x3072, .f32⟩
  | 115 => ⟨S2x8192x1024, .f32⟩
  | 116 => ⟨S2x8192x1024, .f32⟩
  | 117 => ⟨S2x8192x1024, .f32⟩
  | 118 => ⟨S2x8192x1024, .f32⟩
  | 119 => ⟨S2x8192x1024, .f32⟩
  | 120 => ⟨S2x8192x1024, .f32⟩
  | 121 => ⟨S2x8192x1024, .f32⟩
  | 122 => ⟨S2x8192x1024, .f32⟩
  | 123 => ⟨S2x8192x1024, .f32⟩
  | 124 => ⟨S2x8192x1024, .f32⟩
  | 125 => ⟨S2x8192x1024, .f32⟩
  | 126 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c : Ref sig .tc := ⟨.hbm, 58, rfl⟩
abbrev main_call0_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩
abbrev main_v216 : Ref sig .tc := ⟨.hbm, 239, rfl⟩
abbrev main_v217 : Ref sig .tc := ⟨.hbm, 240, rfl⟩
abbrev main_v218 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_v222 : Ref sig .tc := ⟨.hbm, 245, rfl⟩
abbrev main_v223 : Ref sig .tc := ⟨.hbm, 246, rfl⟩
abbrev main_v224 : Ref sig .tc := ⟨.hbm, 247, rfl⟩
abbrev main_v225 : Ref sig .tc := ⟨.hbm, 248, rfl⟩
abbrev main_v226 : Ref sig .tc := ⟨.hbm, 249, rfl⟩
abbrev main_v227 : Ref sig .tc := ⟨.hbm, 250, rfl⟩
abbrev main_v228 : Ref sig .tc := ⟨.hbm, 251, rfl⟩
abbrev main_v229 : Ref sig .tc := ⟨.hbm, 252, rfl⟩
abbrev main_v230 : Ref sig .tc := ⟨.hbm, 253, rfl⟩
abbrev main_v231 : Ref sig .tc := ⟨.hbm, 254, rfl⟩
abbrev main_v232 : Ref sig .tc := ⟨.hbm, 255, rfl⟩
abbrev main_v233 : Ref sig .tc := ⟨.hbm, 256, rfl⟩
abbrev main_v234 : Ref sig .tc := ⟨.hbm, 257, rfl⟩
abbrev main_v235 : Ref sig .tc := ⟨.hbm, 258, rfl⟩
abbrev main_v236 : Ref sig .tc := ⟨.hbm, 259, rfl⟩
abbrev main_v237 : Ref sig .tc := ⟨.hbm, 260, rfl⟩
abbrev main_v238 : Ref sig .tc := ⟨.hbm, 261, rfl⟩
abbrev main_v239 : Ref sig .tc := ⟨.hbm, 262, rfl⟩
abbrev main_v240 : Ref sig .tc := ⟨.hbm, 263, rfl⟩
abbrev main_v241 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_v245 : Ref sig .tc := ⟨.hbm, 268, rfl⟩
abbrev main_v246 : Ref sig .tc := ⟨.hbm, 269, rfl⟩
abbrev main_v247 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_cst_3 : Ref sig .tc := ⟨.hbm, 286, rfl⟩
abbrev main_v263 : Ref sig .tc := ⟨.hbm, 287, rfl⟩
abbrev main_v264 : Ref sig .tc := ⟨.hbm, 288, rfl⟩
abbrev main_cst_4 : Ref sig .tc := ⟨.hbm, 289, rfl⟩
abbrev main_v265 : Ref sig .tc := ⟨.hbm, 290, rfl⟩
abbrev main_v266 : Ref sig .tc := ⟨.hbm, 291, rfl⟩
abbrev main_v267 : Ref sig .tc := ⟨.hbm, 292, rfl⟩
abbrev main_v268 : Ref sig .tc := ⟨.hbm, 293, rfl⟩
abbrev main_v269 : Ref sig .tc := ⟨.hbm, 294, rfl⟩
abbrev main_cst_5 : Ref sig .tc := ⟨.hbm, 295, rfl⟩
abbrev main_v270 : Ref sig .tc := ⟨.hbm, 296, rfl⟩
abbrev main_v271 : Ref sig .tc := ⟨.hbm, 297, rfl⟩
abbrev main_cst_6 : Ref sig .tc := ⟨.hbm, 298, rfl⟩
abbrev main_v272 : Ref sig .tc := ⟨.hbm, 299, rfl⟩
abbrev main_v273 : Ref sig .tc := ⟨.hbm, 300, rfl⟩
abbrev main_v274 : Ref sig .tc := ⟨.hbm, 301, rfl⟩
abbrev main_v275 : Ref sig .tc := ⟨.hbm, 302, rfl⟩
abbrev main_cst_7 : Ref sig .tc := ⟨.hbm, 303, rfl⟩
abbrev main_v276 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_call1_v0 : Ref sig .tc := ⟨.hbm, 315, rfl⟩
abbrev main_call1_v1 : Ref sig .tc := ⟨.hbm, 316, rfl⟩
abbrev main_call1_cst : Ref sig .tc := ⟨.hbm, 317, rfl⟩
abbrev main_call1_v2 : Ref sig .tc := ⟨.hbm, 318, rfl⟩
abbrev main_call1_v3 : Ref sig .tc := ⟨.hbm, 319, rfl⟩
abbrev main_call1_cst_0 : Ref sig .tc := ⟨.hbm, 320, rfl⟩
abbrev main_call1_v4 : Ref sig .tc := ⟨.hbm, 321, rfl⟩
abbrev main_call1_v5 : Ref sig .tc := ⟨.hbm, 322, rfl⟩
abbrev main_v287 : Ref sig .tc := ⟨.hbm, 323, rfl⟩
abbrev main_v288 : Ref sig .tc := ⟨.hbm, 324, rfl⟩
abbrev main_v289 : Ref sig .tc := ⟨.hbm, 325, rfl⟩
abbrev main_v290 : Ref sig .tc := ⟨.hbm, 326, rfl⟩
abbrev main_v291 : Ref sig .tc := ⟨.hbm, 327, rfl⟩
abbrev main_c_8 : Ref sig .tc := ⟨.hbm, 328, rfl⟩
abbrev main_call2_v0 : Ref sig .tc := ⟨.hbm, 329, rfl⟩
abbrev main_v292 : Ref sig .tc := ⟨.hbm, 330, rfl⟩
abbrev main_v293 : Ref sig .tc := ⟨.hbm, 331, rfl⟩
abbrev main_v294 : Ref sig .tc := ⟨.hbm, 332, rfl⟩
abbrev main_v295 : Ref sig .tc := ⟨.hbm, 333, rfl⟩
abbrev main_v296 : Ref sig .tc := ⟨.hbm, 334, rfl⟩
abbrev main_v297 : Ref sig .tc := ⟨.hbm, 335, rfl⟩
abbrev main_v298 : Ref sig .tc := ⟨.hbm, 336, rfl⟩
abbrev main_v299 : Ref sig .tc := ⟨.hbm, 337, rfl⟩
abbrev main_v300 : Ref sig .tc := ⟨.hbm, 338, rfl⟩
abbrev main_v301 : Ref sig .tc := ⟨.hbm, 339, rfl⟩
abbrev main_v302 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_v316 : Ref sig .tc := ⟨.hbm, 354, rfl⟩
abbrev main_v317 : Ref sig .tc := ⟨.hbm, 355, rfl⟩
abbrev main_v318 : Ref sig .tc := ⟨.hbm, 356, rfl⟩
abbrev main_v319 : Ref sig .tc := ⟨.hbm, 357, rfl⟩
abbrev main_v320 : Ref sig .tc := ⟨.hbm, 358, rfl⟩
abbrev main_v321 : Ref sig .tc := ⟨.hbm, 359, rfl⟩
abbrev main_v322 : Ref sig .tc := ⟨.hbm, 360, rfl⟩
abbrev main_v323 : Ref sig .tc := ⟨.hbm, 361, rfl⟩
abbrev main_v324 : Ref sig .tc := ⟨.hbm, 362, rfl⟩
abbrev main_v325 : Ref sig .tc := ⟨.hbm, 363, rfl⟩
abbrev main_v326 : Ref sig .tc := ⟨.hbm, 364, rfl⟩
abbrev main_cst_9 : Ref sig .tc := ⟨.hbm, 365, rfl⟩
abbrev main_v327 : Ref sig .tc := ⟨.hbm, 366, rfl⟩
abbrev main_v328 : Ref sig .tc := ⟨.hbm, 367, rfl⟩
abbrev main_cst_10 : Ref sig .tc := ⟨.hbm, 368, rfl⟩
abbrev main_v329 : Ref sig .tc := ⟨.hbm, 369, rfl⟩
abbrev main_v330 : Ref sig .tc := ⟨.hbm, 370, rfl⟩
abbrev main_v331 : Ref sig .tc := ⟨.hbm, 371, rfl⟩
abbrev main_v332 : Ref sig .tc := ⟨.hbm, 372, rfl⟩
abbrev main_v333 : Ref sig .tc := ⟨.hbm, 373, rfl⟩
abbrev main_v334 : Ref sig .tc := ⟨.hbm, 374, rfl⟩
abbrev main_v335 : Ref sig .tc := ⟨.hbm, 375, rfl⟩
abbrev main_v336 : Ref sig .tc := ⟨.hbm, 376, rfl⟩
abbrev main_v337 : Ref sig .tc := ⟨.hbm, 377, rfl⟩
abbrev main_v338 : Ref sig .tc := ⟨.hbm, 378, rfl⟩
abbrev main_v339 : Ref sig .tc := ⟨.hbm, 379, rfl⟩
abbrev main_v340 : Ref sig .tc := ⟨.hbm, 380, rfl⟩
abbrev main_v341 : Ref sig .tc := ⟨.hbm, 381, rfl⟩
abbrev main_v342 : Ref sig .tc := ⟨.hbm, 382, rfl⟩

abbrev nD : Nat := 1
abbrev τ : Topo := Topo.v7x

variable {F : FTy → Type} [FloatOps F]
-- ==== Proof.Attn.Flash.lean ====
/- The attention kernel's body, written as the algorithm it is: per query tile, a pipelined online softmax
   over the key chunks. The printed body equals this one by unfolding (`body_eq`). -/
module

public import proofs.«01_k».proof.Proof.Gen.KernelIdeal

@[expose] public section

set_option synthInstance.maxSize 4096

noncomputable section

open Cert.KernelIdeal.Gen

namespace Cert.KernelIdeal.Attn

open Idealize.ShloMosaic Idealize.SL.Sem

variable {F : FTy → Type} [FloatOps F]

/-- What one head of one query tile carries from chunk to chunk: the scores of the newest chunk, the running
    maximum, the rescaling and the weights of the chunk before, and the accumulator. -/
structure HC (F : FTy → Type) where
  st : FVec F S256x256 .f32
  m : FVec F S1x256 .f32
  a : FVec F S1x256 .f32
  p : FVec F S256x256 .bf16
  acc : FVec F S80x256 .f32

/-- A chunk's scores: its keys against the tile's queries. -/
def scores (q : Vec F S1x128x256 .bf16) (k : Vec F S1x256x128 .bf16) : FVec F S256x256 .f32 :=
  matmul dot_S256x128_S128x256_S256x256_1_0_0_1_n_n none (shapeCast S256x128 k shapeCasts_S1x256x128_S256x128)
    (shapeCast S128x256 q shapeCasts_S1x128x256_S128x256) (constant S256x256 .f32 0x00000000#32)

/-- The running maximum after a chunk's scores. -/
def newMax (m : FVec F S1x256 .f32) (st : FVec F S256x256 .f32) : FVec F S1x256 .f32 :=
  maximumf m (shapeCast S1x256 (multiReduction .maximumf [0] S256 st 0xFF800000#32 reduces_S256x256_S256 (.inl rfl) rfl)
    shapeCasts_S256_S1x256)

/-- The rescaling that a new maximum asks of what was accumulated under the old one. -/
def rescale (m m' : FVec F S1x256 .f32) : FVec F S1x256 .f32 := exp2 (subf m m')

/-- A chunk's weights under a maximum. -/
def weights (st : FVec F S256x256 .f32) (m' : FVec F S1x256 .f32) : FVec F S256x256 .bf16 :=
  truncf .bf16 (exp2 (subf st (broadcastTo S256x256 m' broadcasts_S1x256_S256x256))) bitsLt_bf16_f32

/-- The accumulator rescaled, plus a chunk's values under its weights. -/
def accum (a : FVec F S1x256 .f32) (p : FVec F S256x256 .bf16) (acc : FVec F S80x256 .f32) (v : Vec F S1x80x256 .bf16) :
    FVec F S80x256 .f32 :=
  addf (mulf (broadcastTo S80x256 a broadcasts_S1x256_S80x256) acc)
    (matmul dot_S80x256_S256x256_S80x256_1_0_0_1_n_n none (shapeCast S80x256 v shapeCasts_S1x80x256_S80x256) p
      (constant S80x256 .f32 0x00000000#32))

/-- A head at a tile's start, its first chunk's scores computed. -/
def HC.init (q : Vec F S1x128x256 .bf16) (k : Vec F S1x256x128 .bf16) : HC F where
  st := scores q k
  m := broadcast S1x256 (Scalar.ofBits .f32 0xF149F2CA#32)
  a := broadcast S1x256 (Scalar.ofBits .f32 0x3F800000#32)
  p := broadcast S256x256 (Scalar.ofBits .bf16 0x0000#16)
  acc := broadcast S80x256 (Scalar.ofBits .f32 0x00000000#32)

/-- One trip: weigh the newest scores, score the next chunk, accumulate the chunk before. -/
def HC.step (c : HC F) (q : Vec F S1x128x256 .bf16) (k : Vec F S1x256x128 .bf16) (v : Vec F S1x80x256 .bf16) : HC F where
  st := scores q k
  m := newMax c.m c.st
  a := rescale c.m (newMax c.m c.st)
  p := weights c.st (newMax c.m c.st)
  acc := accum c.a c.p c.acc v

/-- The epilogue's accumulator: the last two chunks. -/
def HC.last (c : HC F) (v v' : Vec F S1x80x256 .bf16) : FVec F S80x256 .f32 :=
  accum (rescale c.m (newMax c.m c.st)) (weights c.st (newMax c.m c.st)) (accum c.a c.p c.acc v) v'

/-- The head's output: the accumulated values over the accumulated weights (the row of ones). -/
def HC.out (acc : FVec F S80x256 .f32) : FVec F S64x256 .f32 :=
  divf (extractStridedSlice S64x256 ![0, 0] acc slices_S80x256_o0_0_S64x256)
    (broadcastTo S64x256 (extractStridedSlice S1x256 ![64, 0] acc slices_S80x256_o64_0_S1x256) broadcasts_S1x256_S64x256)

/-- What a tile stores: its two heads' outputs, one over the other. -/
def tileOut (x y : FVec F S80x256 .f32) : FVec F S1x128x256 .bf16 :=
  shapeCast S1x128x256 (truncf .bf16 (concatenate S128x256 0 [⟨S64x256, HC.out x⟩, ⟨S64x256, HC.out y⟩]
    concatenates_S64x256_S64x256_S128x256_d0) bitsLt_bf16_f32) shapeCasts_S128x256_S1x128x256

/-- A head after `n` trips, its chunks' keys `K` and values `V` (a trip accumulates the chunk two before the one
    it scores; the first trip accumulates nothing, its weights being zero). -/
def HC.run (q : Vec F S1x128x256 .bf16) (K : Nat → Vec F S1x256x128 .bf16) (V : Nat → Vec F S1x80x256 .bf16) : Nat → HC F
  | 0 => HC.init q (K 0)
  | n + 1 => HC.step (HC.run q K V n) q (K (n + 1)) (V (n - 1))

/-- A head's accumulator after all 33 chunks. -/
def HC.all (q : Vec F S1x128x256 .bf16) (K : Nat → Vec F S1x256x128 .bf16) (V : Nat → Vec F S1x80x256 .bf16) : FVec F S80x256 .f32 :=
  HC.last (HC.run q K V 32) (V 31) (V 32)

theorem inbQ (h t : Nat) (hh : h < 2) (ht : t < 4) : ∀ a, (![0, 128 * h, 256 * t] : Fin 3 → Nat) a + S1x128x256.size a ≤ S1x256x1024.size a := by
  intro a; fin_cases a <;> simp <;> omega
theorem inbK (h kb : Nat) (hh : h < 2) (hk : kb < 33) : ∀ a, (![0, 256 * kb, 128 * h] : Fin 3 → Nat) a + S1x256x128.size a ≤ S1x8448x256.size a := by
  intro a; fin_cases a <;> simp <;> omega
theorem inbV (h kb : Nat) (hh : h < 2) (hk : kb < 33) : ∀ a, (![0, 80 * h, 256 * kb] : Fin 3 → Nat) a + S1x80x256.size a ≤ S1x160x8448.size a := by
  intro a; fin_cases a <;> simp <;> omega
theorem inbO (t : Nat) (ht : t < 4) : ∀ a, (![0, 0, 256 * t] : Fin 3 → Nat) a + S1x128x256.size a ≤ S1x128x1024.size a := by
  intro a; fin_cases a <;> simp <;> omega

/-- The rectangles: a head's queries of a tile, its keys and its values of a chunk, and a tile's outputs. -/
def rQ (h t : Nat) (hh : h < 2) (ht : t < 4) : Rect S1x256x1024 := Rect.unit (s := S1x256x1024) ![0, 128 * h, 256 * t] S1x128x256.size (inbQ h t hh ht)
def rK (h kb : Nat) (hh : h < 2) (hk : kb < 33) : Rect S1x8448x256 := Rect.unit (s := S1x8448x256) ![0, 256 * kb, 128 * h] S1x256x128.size (inbK h kb hh hk)
def rV (h kb : Nat) (hh : h < 2) (hk : kb < 33) : Rect S1x160x8448 := Rect.unit (s := S1x160x8448) ![0, 80 * h, 256 * kb] S1x80x256.size (inbV h kb hh hk)
def rO (t : Nat) (ht : t < 4) : Rect S1x128x1024 := Rect.unit (s := S1x128x1024) ![0, 0, 256 * t] S1x128x256.size (inbO t ht)

end Cert.KernelIdeal.Attn
end
-- ==== Proof.Attn.Pieces.lean ====
/- What one grid point leaves in its output block: four tiles, each the online softmax run over the chunks. -/
module

public import proofs.«01_k».proof.Proof.Gen.KernelIdeal.Frame
public import proofs.«01_k».proof.Proof.Attn.Flash
public import Idealize.ShloMosaic.PureOps.Ideal

@[expose] public section

set_option synthInstance.maxSize 4096
set_option maxRecDepth 100000

noncomputable section

namespace Cert.KernelIdeal.Attn

open Cert.KernelIdeal.Gen Idealize.ShloMosaic Idealize.SL.Sem

variable {F : FTy → Type} [FloatOps F]

section
variable (arg3 : Memref sig .tc .vmem S1x256x1024 .bf16) (harg3 : arg3.IsWhole) (arg4 : Memref sig .tc .vmem S1x8448x256 .bf16)
  (harg4 : arg4.IsWhole) (arg5 : Memref sig .tc .vmem S1x160x8448 .bf16) (harg5 : arg5.IsWhole)
  (x0 : Vec F S1x256x1024 .bf16) (x1 : Vec F S1x8448x256 .bf16) (x2 : Vec F S1x160x8448 .bf16)

/-- A head's queries of a tile, its keys and its values of a chunk, as loaded (chunk numbers past the last wrap). -/
def ldQ (h t : Nat) (hh : h < 2) (ht : t < 4) : Vec F S1x128x256 .bf16 :=
  View.readAt (Elt F) arg3.view (rQ h t hh ht).toLoadRect (harg3.unread x0)
def ldK (h : Nat) (hh : h < 2) (kb : Nat) : Vec F S1x256x128 .bf16 :=
  View.readAt (Elt F) arg4.view (rK h (kb % 33) hh (Nat.mod_lt _ (by decide))).toLoadRect (harg4.unread x1)
def ldV (h : Nat) (hh : h < 2) (kb : Nat) : Vec F S1x80x256 .bf16 :=
  View.readAt (Elt F) arg5.view (rV h (kb % 33) hh (Nat.mod_lt _ (by decide))).toLoadRect (harg5.unread x2)

/-- A tile's store. -/
def tileVal (t : Nat) (ht : t < 4) : FVec F S1x128x256 .bf16 :=
  tileOut (HC.all (ldQ arg3 harg3 x0 0 t (by decide) ht) (ldK arg4 harg4 x1 0 (by decide)) (ldV arg5 harg5 x2 0 (by decide)))
    (HC.all (ldQ arg3 harg3 x0 1 t (by decide) ht) (ldK arg4 harg4 x1 1 (by decide)) (ldV arg5 harg5 x2 1 (by decide)))
end

theorem pieces_eq (c : Dev nD) (i : grid0.Coords) (arg3 : Memref sig .tc .vmem S1x256x1024 .bf16) (harg3 : arg3.IsWhole) (arg4 : Memref sig .tc .vmem S1x8448x256 .bf16) (harg4 : arg4.IsWhole) (arg5 : Memref sig .tc .vmem S1x160x8448 .bf16) (harg5 : arg5.IsWhole) (arg6 : Memref sig .tc .vmem S1x128x1024 .bf16) (harg6 : arg6.IsWhole)
    (x0 : Vec F S1x256x1024 .bf16) (x1 : Vec F S1x8448x256 .bf16) (x2 : Vec F S1x160x8448 .bf16) :
    (kernelRun0_A c i arg3 harg3 arg4 harg4 arg5 harg5 arg6 harg6 x0 x1 x2).1 =
      [⟨rO 3 (by decide), tileVal arg3 harg3 arg4 harg4 arg5 harg5 x0 x1 x2 3 (by decide)⟩,
       ⟨rO 2 (by decide), tileVal arg3 harg3 arg4 harg4 arg5 harg5 x0 x1 x2 2 (by decide)⟩,
       ⟨rO 1 (by decide), tileVal arg3 harg3 arg4 harg4 arg5 harg5 x0 x1 x2 1 (by decide)⟩,
       ⟨rO 0 (by decide), tileVal arg3 harg3 arg4 harg4 arg5 harg5 x0 x1 x2 0 (by decide)⟩] := by
  rfl

end Cert.KernelIdeal.Attn
end
-- ==== Proof.Attn.Softmax.lean ====
/- Softmax-weighted sums over the extended reals: the weights are positive reals, the values arbitrary. -/
module

public import Idealize.ShloMosaic.PureOps.Ideal

@[expose] public section

noncomputable section

namespace Cert.Softmax

open Idealize.ShloMosaic

/-- A nonnegative real distributes over a finite sum of arbitrary extended reals. -/
theorem coe_mul_sum {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hc) (EReal.coe_ne_top c) _ _

theorem sum_mul_coe {ι : Type} (s : Finset ι) {c : ℝ} (hc : 0 ≤ c) (f : ι → EReal) :
    (∑ i ∈ s, f i) * (c : EReal) = ∑ i ∈ s, f i * (c : EReal) := by
  rw [mul_comm, coe_mul_sum s hc]
  exact Finset.sum_congr rfl fun i _ => mul_comm _ _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe {x : EReal} {y : ℝ} (hy : y ≠ 0) : Ideal.div x y = x * ((y⁻¹ : ℝ) : EReal) := by
  rw [Ideal.div, if_neg (by exact_mod_cast hy), EReal.coe_inv]

/-- A weighted sum over the sum of its weights does not see a positive factor common to the weights. -/
theorem ratio {ι : Type} [Fintype ι] [Nonempty ι] (w : ι → ℝ) (hw : ∀ i, 0 < w i) (v : ι → EReal) {α : ℝ} (hα : 0 < α) :
    Ideal.div (∑ i, v i * ((w i * α : ℝ) : EReal)) (∑ i, 1 * ((w i * α : ℝ) : EReal))
      = ∑ i, v i * ((w i / ∑ j, w j : ℝ) : EReal) := by
  have hW : 0 < ∑ j, w j := Finset.sum_pos (fun i _ => hw i) Finset.univ_nonempty
  have hd : (∑ i, 1 * ((w i * α : ℝ) : EReal)) = (((∑ j, w j) * α : ℝ) : EReal) := by
    rw [Finset.sum_mul, coe_sum]; exact Finset.sum_congr rfl fun i _ => one_mul _
  rw [hd, div_coe (mul_pos hW hα).ne', sum_mul_coe _ (inv_nonneg.2 (mul_pos hW hα).le)]
  refine Finset.sum_congr rfl fun i _ => ?_
  rw [mul_assoc, ← EReal.coe_mul]
  congr 2
  field_simp

/-- One normalized weight does not see the common factor either. -/
theorem weight {ι : Type} [Fintype ι] [Nonempty ι] (w : ι → ℝ) (hw : ∀ i, 0 < w i) {α : ℝ} (hα : 0 < α) (i : ι) :
    Ideal.div ((w i * α : ℝ) : EReal) (∑ j, ((w j * α : ℝ) : EReal)) = ((w i / ∑ j, w j : ℝ) : EReal) := by
  have hW : 0 < ∑ j, w j := Finset.sum_pos (fun i _ => hw i) Finset.univ_nonempty
  rw [← coe_sum, ← Finset.sum_mul, div_coe (mul_pos hW hα).ne', ← EReal.coe_mul]
  congr 1
  field_simp

theorem exp2_sub (x m : ℝ) : Ideal.exp2 ((x : EReal) - (m : EReal)) = (((2 : ℝ) ^ x * (2 : ℝ) ^ (-m) : ℝ) : EReal) := by
  rw [← EReal.coe_sub, Ideal.exp2_coe, ← Real.rpow_add two_pos, ← sub_eq_add_neg]; rfl

theorem exp_sub (x m : ℝ) : Ideal.exp ((x : EReal) - (m : EReal)) = ((Real.exp x * Real.exp (-m) : ℝ) : EReal) := by
  rw [← EReal.coe_sub, Ideal.exp_coe, ← Real.exp_add, ← sub_eq_add_neg]

theorem coe_max (x y : ℝ) : ((max x y : ℝ) : EReal) = max (x : EReal) y := EReal.coe_strictMono.monotone.map_max

/-- A maximum over finitely many reals, from `-∞`, is a real (of a nonempty family). -/
theorem fold_max_real {ι : Type} (s : Finset ι) (f : ι → EReal) (hf : ∀ i, ∃ r : ℝ, f i = r) :
    s.fold max ⊥ f = ⊥ ∨ ∃ r : ℝ, s.fold max ⊥ f = r := by
  classical
  induction s using Finset.induction_on with
  | empty => left; simp
  | insert a s ha ih =>
    right
    obtain ⟨x, hx⟩ := hf a
    rw [Finset.fold_insert ha, hx]
    rcases ih with h | ⟨r, h⟩
    · exact ⟨x, by rw [h]; simp⟩
    · exact ⟨max x r, by rw [h]; exact (coe_max x r).symm⟩

theorem fold_max_univ_real {ι : Type} [Fintype ι] [Nonempty ι] (f : ι → EReal) (hf : ∀ i, ∃ r : ℝ, f i = r) :
    ∃ r : ℝ, Finset.univ.fold max ⊥ f = r := by
  classical
  obtain ⟨a⟩ := ‹Nonempty ι›
  have h : (Finset.univ : Finset ι) = insert a (Finset.univ.erase a) := (Finset.insert_erase (Finset.mem_univ a)).symm
  obtain ⟨x, hx⟩ := hf a
  rw [h, Finset.fold_insert (Finset.notMem_erase a _), hx]
  rcases fold_max_real (Finset.univ.erase a) f hf with h | ⟨r, h⟩
  · exact ⟨x, by rw [h]; simp⟩
  · exact ⟨max x r, by rw [h]; exact (coe_max x r).symm⟩

/-- The softmax that subtracts the largest score first, over the scores' sum of exponentials. -/
theorem softmax_eq {ι : Type} [Fintype ι] [Nonempty ι] (R : ι → ℝ) (v : ι → EReal) :
    (∑ k, v k * Ideal.div (Ideal.exp ((R k : EReal) - max ⊥ (Finset.univ.fold max ⊥ fun i => (R i : EReal))))
        (∑ j, Ideal.exp ((R j : EReal) - max ⊥ (Finset.univ.fold max ⊥ fun i => (R i : EReal)))))
      = ∑ k, v k * ((Real.exp (R k) / ∑ j, Real.exp (R j) : ℝ) : EReal) := by
  obtain ⟨M, hM⟩ := fold_max_univ_real (fun i => (R i : EReal)) fun i => ⟨_, rfl⟩
  rw [hM, max_eq_right bot_le]
  simp only [exp_sub]
  exact Finset.sum_congr rfl fun k _ => by rw [weight _ (fun i => Real.exp_pos (R i)) (Real.exp_pos (-M)) k]

/-- A power of two at a score over the natural logarithm of two is the score's exponential. -/
theorem two_rpow_div_log (x : ℝ) : (2 : ℝ) ^ (x / Real.log 2) = Real.exp x := by
  rw [Real.rpow_def_of_pos two_pos, mul_div_cancel₀ _ (Real.log_pos one_lt_two).ne']

/-- A finite extended real is a real. -/
theorem real_of_abs_lt {x : EReal} (h : max x (-x) < ⊤) : ∃ r : ℝ, x = r := by
  induction x with
  | bot => simp at h
  | coe r => exact ⟨r, rfl⟩
  | top => simp at h

/-- The score of a query and the k-th key: nope and rope parts, scaled. -/
def score (q : Fin 64 → EReal) (k : Fin 8448 → Fin 64 → EReal) (r : Fin 32 → EReal) (kr : Fin 8448 → Fin 32 → EReal) (x : Fin 8448) : EReal :=
  (∑ d, q d * k x d + ∑ d, kr x d * r d) * Ideal.ofBits .f32 0x3DD105EC#32

/-- A score less the largest one. -/
def shifted (s : Fin 8448 → EReal) (x : Fin 8448) : EReal :=
  s x - max (Ideal.ofBits .f32 0xFF800000#32) (Finset.univ.fold max (Ideal.ofBits .f32 0xFF800000#32) s)

/-- Attention of one query: the values weighted by the scores' softmax. -/
def attend (q : Fin 64 → EReal) (k : Fin 8448 → Fin 64 → EReal) (r : Fin 32 → EReal) (kr : Fin 8448 → Fin 32 → EReal) (v : Fin 8448 → EReal) : EReal :=
  ∑ x, v x * Ideal.div (Ideal.exp (shifted (score q k r kr) x)) (∑ y, Ideal.exp (shifted (score q k r kr) y))

theorem ofBits_least : Ideal.ofBits .f32 0xFF800000#32 = (⊥ : EReal) := by
  simp [Ideal.ofBits, Ideal.ieee]

theorem ofBits_most : Ideal.ofBits .f32 0x7F800000#32 = (⊤ : EReal) := by
  simp [Ideal.ofBits, Ideal.ieee]

theorem ofBits_scale : ∃ s : ℝ, Ideal.ofBits .f32 0x3DD105EC#32 = (s : EReal) := by
  simp only [Ideal.ofBits, Ideal.ieee]
  exact ⟨_, rfl⟩

theorem ofBits_two : Ideal.ofBits .f32 0x40000000#32 = ((2 : ℝ) : EReal) := by
  simp [Ideal.ofBits, Ideal.ieee, -EReal.coe_mul]
  norm_num

theorem log_two : Ideal.log ((2 : ℝ) : EReal) = (Real.log 2 : EReal) := by
  show (if (2 : ℝ) ≤ 0 then (⊥ : EReal) else (Real.log 2 : EReal)) = _
  rw [if_neg (by norm_num)]

/-- The unscaled score, of reals. -/
def raw (q : Fin 64 → ℝ) (k : Fin 8448 → Fin 64 → ℝ) (r : Fin 32 → ℝ) (kr : Fin 8448 → Fin 32 → ℝ) (x : Fin 8448) : ℝ :=
  ∑ d, q d * k x d + ∑ d, kr x d * r d

theorem attend_real (q : Fin 64 → ℝ) (k : Fin 8448 → Fin 64 → ℝ) (r : Fin 32 → ℝ) (kr : Fin 8448 → Fin 32 → ℝ) (v : Fin 8448 → EReal)
    {s : ℝ} (hs : Ideal.ofBits .f32 0x3DD105EC#32 = (s : EReal)) :
    attend (fun d => q d) (fun x d => k x d) (fun d => r d) (fun x d => kr x d) v
      = ∑ x, v x * ((Real.exp (raw q k r kr x * s) / ∑ y, Real.exp (raw q k r kr y * s) : ℝ) : EReal) := by
  have h : score (fun d => q d) (fun x d => k x d) (fun d => r d) (fun x d => kr x d) = fun x => ((raw q k r kr x * s : ℝ) : EReal) := by
    funext x
    simp only [score, hs, raw, EReal.coe_mul, EReal.coe_add, coe_sum]
  unfold attend shifted
  rw [h, ofBits_least]
  exact softmax_eq _ v

end Cert.Softmax
end
-- ==== Proof.Attn.FlashValue.lean ====
/- The online softmax read at an index, over the extended reals. -/
module

public import proofs.«01_k».proof.Proof.Attn.Flash
public import proofs.«01_k».proof.Proof.Attn.Softmax
public import Idealize.ShloMosaic.Lib.Pointwise

@[expose] public section

set_option synthInstance.maxSize 4096
set_option maxRecDepth 16384

noncomputable section

namespace Cert.KernelIdeal.Attn

open Cert.KernelIdeal.Gen Idealize.ShloMosaic Idealize.SL.Sem

theorem ofBits_negInf : Ideal.ofBits .f32 0xFF800000#32 = ⊥ := by simp [Ideal.ofBits, Ideal.ieee]

theorem ofBits_start : ∃ r : ℝ, Ideal.ofBits .f32 0xF149F2CA#32 = r := by
  simp only [Ideal.ofBits, Ideal.ieee]
  exact ⟨_, rfl⟩

theorem scores_at (q : Vec Ideal S1x128x256 .bf16) (k : Vec Ideal S1x256x128 .bf16) (i n : Fin 256) :
    scores q k (ix2 i n) = ∑ d : Fin 128, k (ix3 0 i d) * q (ix3 0 d n) := by
  pointwise [scores]

theorem newMax_at (m : FVec Ideal S1x256 .f32) (st : FVec Ideal S256x256 .f32) (n : Fin 256) :
    newMax m st (ix2 0 n) = max (m (ix2 0 n)) (Finset.univ.fold max ⊥ fun i : Fin 256 => st (ix2 i n)) := by
  pointwise [newMax]
  rw [ofBits_negInf]

theorem weights_at (m : FVec Ideal S1x256 .f32) (st : FVec Ideal S256x256 .f32) (i n : Fin 256) :
    weights st m (ix2 i n) = Ideal.exp2 (st (ix2 i n) - m (ix2 0 n)) := by
  pointwise [weights]
  rfl

theorem rescale_at (m m' : FVec Ideal S1x256 .f32) (n : Fin 256) :
    rescale m m' (ix2 0 n) = Ideal.exp2 (m (ix2 0 n) - m' (ix2 0 n)) := by
  pointwise [rescale]
  rfl

theorem accum_at (a : FVec Ideal S1x256 .f32) (p : FVec Ideal S256x256 .bf16) (acc : FVec Ideal S80x256 .f32)
    (v : Vec Ideal S1x80x256 .bf16) (r : Fin 80) (n : Fin 256) :
    accum a p acc v (ix2 r n) = a (ix2 0 n) * acc (ix2 r n) + ∑ i : Fin 256, v (ix3 0 r i) * p (ix2 i n) := by
  pointwise [accum]

theorem out_at (acc : FVec Ideal S80x256 .f32) (r : Fin 64) (n : Fin 256) :
    HC.out acc (ix2 r n) = Ideal.div (acc (ix2 ⟨r, by omega⟩ n)) (acc (ix2 64 n)) := by
  pointwise [HC.out]

theorem tileOut_at (x y : FVec Ideal S80x256 .f32) (h : Fin 2) (r : Fin 64) (n : Fin 256) :
    tileOut x y (ix3 0 ⟨64 * h + r, by omega⟩ n) = HC.out (if h = 0 then x else y) (ix2 r n) := by
  pointwise [tileOut]
  have hr := r.isLt
  obtain rfl | rfl : h = 0 ∨ h = 1 := by omega
  · refine (dif_pos (by simp)).trans ?_
    show HC.out x _ = HC.out x _
    congr 2
    exact Fin.ext (by simp)
  · refine (dif_neg (by simp)).trans ?_
    show HC.out y _ = HC.out y _
    congr 2
    exact Fin.ext (by simp)

/-- A new maximum of reals is a real. -/
theorem newMax_real (m : FVec Ideal S1x256 .f32) (st : FVec Ideal S256x256 .f32) (n : Fin 256) (hm : ∃ r : ℝ, m (ix2 0 n) = r)
    (hs : ∀ i : Fin 256, ∃ r : ℝ, st (ix2 i n) = r) : ∃ r : ℝ, newMax m st (ix2 0 n) = r := by
  obtain ⟨x, hx⟩ := hm
  obtain ⟨y, hy⟩ := Softmax.fold_max_univ_real (fun i : Fin 256 => st (ix2 i n)) hs
  exact ⟨max x y, by rw [newMax_at, hx, hy, Softmax.coe_max]⟩

/-- One accumulation: `k` chunks weighed under `M'` become `k + 1` chunks weighed under `M`. -/
theorem accum_step (a : FVec Ideal S1x256 .f32) (p : FVec Ideal S256x256 .bf16) (acc : FVec Ideal S80x256 .f32)
    (V : ℕ → Vec Ideal S1x80x256 .bf16) (S : ℕ → ℝ) (n : Fin 256) (r : Fin 80) (k : ℕ) (M M' : ℝ)
    (ha : a (ix2 0 n) = (((2 : ℝ) ^ M' * (2 : ℝ) ^ (-M) : ℝ) : EReal))
    (hp : ∀ i : Fin 256, p (ix2 i n) = (((2 : ℝ) ^ S (256 * k + i) * (2 : ℝ) ^ (-M) : ℝ) : EReal))
    (hacc : acc (ix2 r n) = ∑ c ∈ Finset.range k, ∑ i : Fin 256, V c (ix3 0 r i) * (((2 : ℝ) ^ S (256 * c + i) * (2 : ℝ) ^ (-M') : ℝ) : EReal)) :
    accum a p acc (V k) (ix2 r n) = ∑ c ∈ Finset.range (k + 1), ∑ i : Fin 256, V c (ix3 0 r i) * (((2 : ℝ) ^ S (256 * c + i) * (2 : ℝ) ^ (-M) : ℝ) : EReal) := by
  rw [accum_at, ha, hacc, Finset.sum_range_succ, Softmax.coe_mul_sum _ (by positivity)]
  congr 1
  · refine Finset.sum_congr rfl fun c _ => ?_
    rw [Softmax.coe_mul_sum _ (by positivity)]
    refine Finset.sum_congr rfl fun i _ => ?_
    rw [mul_left_comm, ← EReal.coe_mul]
    congr 2
    rw [Real.rpow_neg two_pos.le M']
    have : (2 : ℝ) ^ M' ≠ 0 := by positivity
    field_simp
  · exact Finset.sum_congr rfl fun i _ => by rw [hp]

section
variable (q : Vec Ideal S1x128x256 .bf16) (K : ℕ → Vec Ideal S1x256x128 .bf16) (V : ℕ → Vec Ideal S1x80x256 .bf16)
  (S : ℕ → ℝ) (n : Fin 256) (hS : ∀ c < 33, ∀ i : Fin 256, scores q (K c) (ix2 i n) = (S (256 * c + i) : EReal))
include hS

/-- After `k + 1` trips: the maximum is a real `M`, the weights of chunk `k` are under it, and the accumulator holds
    the chunks before `k` under the maximum before, `M'`. -/
theorem run_at (k : ℕ) (hk : k < 32) : ∃ M M' : ℝ, (HC.run q K V (k + 1)).st = scores q (K (k + 1))
    ∧ (HC.run q K V (k + 1)).m (ix2 0 n) = (M : EReal)
    ∧ (HC.run q K V (k + 1)).a (ix2 0 n) = (((2 : ℝ) ^ M' * (2 : ℝ) ^ (-M) : ℝ) : EReal)
    ∧ (∀ i : Fin 256, (HC.run q K V (k + 1)).p (ix2 i n) = (((2 : ℝ) ^ S (256 * k + i) * (2 : ℝ) ^ (-M) : ℝ) : EReal))
    ∧ ∀ r : Fin 80, (HC.run q K V (k + 1)).acc (ix2 r n) = ∑ c ∈ Finset.range k, ∑ i : Fin 256,
        V c (ix3 0 r i) * (((2 : ℝ) ^ S (256 * c + i) * (2 : ℝ) ^ (-M') : ℝ) : EReal) := by
  have hst (c : ℕ) (hc : c < 33) (i : Fin 256) : ∃ r : ℝ, scores q (K c) (ix2 i n) = r := ⟨_, hS c hc i⟩
  induction k with
  | zero =>
    obtain ⟨M', hM'⟩ := ofBits_start
    have hm : (HC.init q (K 0)).m (ix2 0 n) = (M' : EReal) := hM'
    obtain ⟨M, hM⟩ := newMax_real (HC.init q (K 0)).m (scores q (K 0)) n ⟨M', hm⟩ (hst 0 (by omega))
    refine ⟨M, M', rfl, hM, ?_, fun i => ?_, fun r => ?_⟩
    · show rescale (HC.init q (K 0)).m (newMax (HC.init q (K 0)).m (scores q (K 0))) (ix2 0 n) = _
      rw [rescale_at, hm, hM, Softmax.exp2_sub]
    · show weights (scores q (K 0)) (newMax (HC.init q (K 0)).m (scores q (K 0))) (ix2 i n) = _
      rw [weights_at, hM, hS 0 (by omega), Softmax.exp2_sub]
    · show accum _ _ _ (V 0) (ix2 r n) = _
      rw [accum_at]
      have hp (i : Fin 256) : (HC.init q (K 0)).p (ix2 i n) = 0 := by
        show Ideal.ofBits .bf16 0x0000#16 = 0
        simp [Ideal.ofBits, Ideal.ieee]
      have ha : (HC.init q (K 0)).acc (ix2 r n) = 0 := Ideal.ofBits_zero_f32
      simp [HC.run, hp, ha]
  | succ k ih =>
    obtain ⟨M, M', h1, h2, h3, h4, h5⟩ := ih (by omega)
    obtain ⟨M₂, hM₂⟩ := newMax_real (HC.run q K V (k + 1)).m (scores q (K (k + 1))) n ⟨M, h2⟩ (hst (k + 1) (by omega))
    refine ⟨M₂, M, rfl, ?_, ?_, fun i => ?_, fun r => ?_⟩
    · show newMax _ (HC.run q K V (k + 1)).st (ix2 0 n) = _
      rw [h1, hM₂]
    · show rescale _ (newMax _ (HC.run q K V (k + 1)).st) (ix2 0 n) = _
      rw [rescale_at, h1, h2, hM₂, Softmax.exp2_sub]
    · show weights (HC.run q K V (k + 1)).st (newMax _ (HC.run q K V (k + 1)).st) (ix2 i n) = _
      rw [weights_at, h1, hM₂, hS (k + 1) (by omega), Softmax.exp2_sub]
    · exact accum_step _ _ _ V S n r k M M' h3 h4 (h5 r)

/-- After all chunks the accumulator holds every chunk under one common factor. -/
theorem all_at : ∃ α : ℝ, 0 < α ∧ ∀ r : Fin 80, HC.all q K V (ix2 r n) = ∑ c ∈ Finset.range 33, ∑ i : Fin 256,
    V c (ix3 0 r i) * (((2 : ℝ) ^ S (256 * c + i) * α : ℝ) : EReal) := by
  obtain ⟨M, M', h1, h2, h3, h4, h5⟩ := run_at q K V S n hS 31 (by omega)
  obtain ⟨M₂, hM₂⟩ := newMax_real (HC.run q K V 32).m (scores q (K 32)) n ⟨M, h2⟩ fun i => ⟨_, hS 32 (by omega) i⟩
  refine ⟨(2 : ℝ) ^ (-M₂), by positivity, fun r => ?_⟩
  refine accum_step _ _ _ V S n r 32 M₂ M ?_ (fun i => ?_) (accum_step _ _ _ V S n r 31 M M' h3 h4 (h5 r))
  · rw [rescale_at, h1, h2, hM₂, Softmax.exp2_sub]
  · rw [weights_at, h1, hM₂, hS 32 (by omega), Softmax.exp2_sub]

end

/-- Chunks of 256 keys, one after another, are all the keys. -/
theorem sum_chunks (f : ℕ → EReal) : ∀ n : ℕ, ∑ c ∈ Finset.range n, ∑ i : Fin 256, f (256 * c + i) = ∑ k ∈ Finset.range (256 * n), f k
  | 0 => by simp
  | n + 1 => by
    rw [Finset.sum_range_succ, sum_chunks f n, Nat.mul_succ, Finset.sum_range_add]
    congr 1

/-- A head's output at a row and a query: the values under the softmax of the scores. -/
theorem head_out (q : Vec Ideal S1x128x256 .bf16) (K : ℕ → Vec Ideal S1x256x128 .bf16) (V : ℕ → Vec Ideal S1x80x256 .bf16)
    (S : ℕ → ℝ) (W : ℕ → EReal) (r : Fin 64) (n : Fin 256)
    (hS : ∀ c < 33, ∀ i : Fin 256, scores q (K c) (ix2 i n) = (S (256 * c + i) : EReal))
    (hV : ∀ c < 33, ∀ i : Fin 256, V c (ix3 0 ⟨r, by omega⟩ i) = W (256 * c + i))
    (h1 : ∀ c < 33, ∀ i : Fin 256, V c (ix3 0 64 i) = 1) :
    HC.out (HC.all q K V) (ix2 r n)
      = ∑ k : Fin 8448, W k * (((2 : ℝ) ^ S k / ∑ j : Fin 8448, (2 : ℝ) ^ S j : ℝ) : EReal) := by
  obtain ⟨α, hα, h⟩ := all_at q K V S n hS
  have hrow (r : Fin 80) (W : ℕ → EReal) (hV : ∀ c < 33, ∀ i : Fin 256, V c (ix3 0 r i) = W (256 * c + i)) :
      HC.all q K V (ix2 r n) = ∑ k : Fin 8448, W k * (((2 : ℝ) ^ S k * α : ℝ) : EReal) := by
    rw [h r, Fin.sum_univ_eq_sum_range (fun k => W k * (((2 : ℝ) ^ S k * α : ℝ) : EReal)) 8448,
      ← sum_chunks (fun k => W k * (((2 : ℝ) ^ S k * α : ℝ) : EReal)) 33]
    exact Finset.sum_congr rfl fun c hc => Finset.sum_congr rfl fun i _ => by rw [hV c (Finset.mem_range.1 hc)]
  rw [out_at, hrow _ W hV, hrow 64 (fun _ => 1) h1]
  exact Softmax.ratio (fun k : Fin 8448 => (2 : ℝ) ^ S k) (fun k => by positivity) (fun k => W k) hα

end Cert.KernelIdeal.Attn
end
-- ==== Proof.Attn.Block.lean ====
/- One grid point's output block at an index, over the extended reals: the softmax-weighted values of its head. -/
module

public import proofs.«01_k».proof.Proof.Attn.Pieces
public import proofs.«01_k».proof.Proof.Attn.FlashValue
public import Idealize.ShloMosaic.Lib.Pipeline.ValueKit

@[expose] public section

set_option synthInstance.maxSize 4096
set_option maxRecDepth 16384

noncomputable section

namespace Cert.KernelIdeal.Attn

open Cert.KernelIdeal.Gen Idealize.ShloMosaic Idealize.SL.Sem

/-- What the output's row `r` of head `h` and query `N` is made of: the head's scores are the reals `S`, its values of
    the row are `W`, and its row 64 of values holds ones. -/
def Head (x0 : Vec Ideal S1x256x1024 .bf16) (x1 : Vec Ideal S1x8448x256 .bf16) (x2 : Vec Ideal S1x160x8448 .bf16)
    (h : Fin 2) (r : Fin 64) (N : Fin 1024) (S : ℕ → ℝ) (W : ℕ → EReal) : Prop :=
  (∀ k : Fin 8448, ∑ d : Fin 128, x1 (ix3 0 k ⟨128 * h + d, by omega⟩) * x0 (ix3 0 ⟨128 * h + d, by omega⟩ N) = (S k : EReal))
  ∧ (∀ k : Fin 8448, x2 (ix3 0 ⟨80 * h + r, by omega⟩ k) = W k)
  ∧ ∀ k : Fin 8448, x2 (ix3 0 ⟨80 * h + 64, by omega⟩ k) = 1

section
variable (arg3 : Memref sig .tc .vmem S1x256x1024 .bf16) (harg3 : arg3.IsWhole) (arg4 : Memref sig .tc .vmem S1x8448x256 .bf16)
  (harg4 : arg4.IsWhole) (arg5 : Memref sig .tc .vmem S1x160x8448 .bf16) (harg5 : arg5.IsWhole)
  (x0 : Vec Ideal S1x256x1024 .bf16) (x1 : Vec Ideal S1x8448x256 .bf16) (x2 : Vec Ideal S1x160x8448 .bf16)

theorem ldQ_at (h t : ℕ) (hh : h < 2) (ht : t < 4) (d : Fin 128) (n : Fin 256) :
    ldQ arg3 harg3 x0 h t hh ht (ix3 0 d n) = x0 (ix3 0 ⟨128 * h + d, by omega⟩ ⟨256 * t + n, by omega⟩) := by
  unfold ldQ rQ
  rw [View.readAt_eq_ld, harg3.read_unread]
  pointwise

theorem ldK_at (h kb : ℕ) (hh : h < 2) (hk : kb < 33) (i : Fin 256) (d : Fin 128) :
    ldK arg4 harg4 x1 h hh kb (ix3 0 i d) = x1 (ix3 0 ⟨256 * kb + i, by omega⟩ ⟨128 * h + d, by omega⟩) := by
  unfold ldK rK
  rw [View.readAt_eq_ld, harg4.read_unread]
  pointwise
  simp only [Nat.mod_eq_of_lt hk]

theorem ldV_at (h kb : ℕ) (hh : h < 2) (hk : kb < 33) (r : Fin 80) (i : Fin 256) :
    ldV arg5 harg5 x2 h hh kb (ix3 0 r i) = x2 (ix3 0 ⟨80 * h + r, by omega⟩ ⟨256 * kb + i, by omega⟩) := by
  unfold ldV rV
  rw [View.readAt_eq_ld, harg5.read_unread]
  pointwise
  simp only [Nat.mod_eq_of_lt hk]

variable (h : Fin 2) (r : Fin 64) (N : Fin 1024) (S : ℕ → ℝ) (W : ℕ → EReal)
  (hd : Head x0 x1 x2 h r N S W)
include hd

theorem head_at (t : ℕ) (ht : t < 4) (n : Fin 256) (hN : N.val = 256 * t + n) :
    HC.out (HC.all (ldQ arg3 harg3 x0 h t h.isLt ht) (ldK arg4 harg4 x1 h h.isLt) (ldV arg5 harg5 x2 h h.isLt)) (ix2 r n)
      = ∑ k : Fin 8448, W k * (((2 : ℝ) ^ S k / ∑ j : Fin 8448, (2 : ℝ) ^ S j : ℝ) : EReal) := by
  obtain ⟨hS, hW, h1⟩ := hd
  refine head_out _ _ _ S W r n (fun c hc i => ?_) (fun c hc i => ?_) (fun c hc i => ?_)
  · rw [scores_at, ← hS ⟨256 * c + i, by omega⟩]
    refine Finset.sum_congr rfl fun d _ => ?_
    rw [ldK_at _ _ _ _ _ _ hc, ldQ_at]
    congr 2
    congr 1
    exact Fin.ext hN.symm
  · rw [ldV_at _ _ _ _ _ _ hc]; exact hW ⟨256 * c + i, by omega⟩
  · rw [ldV_at _ _ _ _ _ _ hc]; exact h1 ⟨256 * c + i, by omega⟩

theorem tileVal_at (t : ℕ) (ht : t < 4) (x : S1x128x256.Idx) (hr : 64 * h.val + r = (x 1).val) (hN : N.val = 256 * t + (x 2).val) :
    tileVal arg3 harg3 arg4 harg4 arg5 harg5 x0 x1 x2 t ht x
      = ∑ k : Fin 8448, W k * (((2 : ℝ) ^ S k / ∑ j : Fin 8448, (2 : ℝ) ^ S j : ℝ) : EReal) := by
  obtain ⟨n, hn⟩ : ∃ n : Fin 256, n = x 2 := ⟨x 2, rfl⟩
  have hx : x = ix3 0 ⟨64 * h + r, by omega⟩ n := by
    funext a
    fin_cases a
    · exact Subsingleton.elim (α := Fin 1) _ _
    · exact Fin.ext hr.symm
    · exact hn.symm
  rw [← hn] at hN
  rw [← head_at arg3 harg3 arg4 harg4 arg5 harg5 x0 x1 x2 h r N S W hd t ht n hN, tileVal, hx, tileOut_at]
  obtain rfl | rfl : h = 0 ∨ h = 1 := by omega
  · rfl
  · rfl

theorem block_at (c : Dev nD) (i : grid0.Coords) (arg6 : Memref sig .tc .vmem S1x128x1024 .bf16) (harg6 : arg6.IsWhole)
    (y : S1x128x1024.Idx) (hr : 64 * h.val + r = (y 1).val) (hN : N = y 2) :
    out0_A_3 c i arg3 harg3 arg4 harg4 arg5 harg5 arg6 harg6 x0 x1 x2 y
      = ∑ k : Fin 8448, W k * (((2 : ℝ) ^ S k / ∑ j : Fin 8448, (2 : ℝ) ^ S j : ℝ) : EReal) := by
  subst hN
  unfold out0_A_3
  rw [View.read_writes_eq_canon _ _ _ (cover0_A_3 c i arg3 harg3 arg4 harg4 arg5 harg5 arg6 harg6 x0 x1 x2), pieces_eq]
  unfold rO
  canon_tiles x hx
  all_goals exact tileVal_at arg3 harg3 arg4 harg4 arg5 harg5 x0 x1 x2 h r _ S W hd _ _ x (hr.trans hx1) (by omega)
end

end Cert.KernelIdeal.Attn
end
-- ==== Proof.Attn.Array.lean ====
/- The attention's result array at an index, over the extended reals, from the three operands as the region finds them. -/
module

public import proofs.«01_k».proof.Proof.Gen.KernelIdeal.Value
public import proofs.«01_k».proof.Proof.Attn.Block

@[expose] public section

set_option synthInstance.maxSize 4096
set_option maxRecDepth 16384

noncomputable section

namespace Cert.KernelIdeal.Attn

open Cert.KernelIdeal.Gen Idealize.ShloMosaic Idealize.ShloMosaic.TcCoe Idealize.SL.Sem

/-- An element of the result: whatever the head's scores of this query (reals) and its values of this row are, it is
    the values under the softmax of the scores. The values' row 64 of the head is to hold ones. -/
def Attends (Q : FVec Ideal S2x1024x8448 .bf16) (K : FVec Ideal S2x8448x1024 .bf16) (V : FVec Ideal S2x640x8448 .bf16)
    (i : S2x512x8192.Idx) (v : EReal) : Prop :=
  ∀ (b : Fin 2) (H : Fin 8) (r : Fin 64) (n : Fin 8192) (S : ℕ → ℝ) (W : ℕ → EReal), i = ix3 b ⟨64 * H + r, by omega⟩ n →
    (∀ k : Fin 8448, ∑ d : Fin 128, K (ix3 b k ⟨128 * H + d, by omega⟩) * Q (ix3 b ⟨128 * H + d, by omega⟩ ⟨n, by omega⟩) = (S k : EReal)) →
    (∀ k : Fin 8448, V (ix3 b ⟨80 * H + r, by omega⟩ k) = W k) →
    (∀ k : Fin 8448, V (ix3 b ⟨80 * H + 64, by omega⟩ k) = 1) →
    v = ∑ k : Fin 8448, W k * (((2 : ℝ) ^ S k / ∑ j : Fin 8448, (2 : ℝ) ^ S j : ℝ) : EReal)

variable (m : (ℓ : Loc nD τ sig) → Buf (Elt Ideal) ℓ)

theorem idx : ∀ t : Fin cfg0.N, (win0_3.index t 0 < 2 ∧ win0_3.index t 1 < 4 ∧ win0_3.index t 2 < 8)
    ∧ (win0_0.index t 0 = win0_3.index t 0 ∧ win0_0.index t 1 = win0_3.index t 1 ∧ win0_0.index t 2 = win0_3.index t 2)
    ∧ (win0_1.index t 0 = win0_3.index t 0 ∧ win0_1.index t 1 = 0 ∧ win0_1.index t 2 = win0_3.index t 1)
    ∧ win0_2.index t 0 = win0_3.index t 0 ∧ win0_2.index t 1 = win0_3.index t 1 ∧ win0_2.index t 2 = 0 :=
  (by decide +kernel : ∀ t : Fin grid0.N, (win0_3.index t 0 < 2 ∧ win0_3.index t 1 < 4 ∧ win0_3.index t 2 < 8)
    ∧ (win0_0.index t 0 = win0_3.index t 0 ∧ win0_0.index t 1 = win0_3.index t 1 ∧ win0_0.index t 2 = win0_3.index t 2)
    ∧ (win0_1.index t 0 = win0_3.index t 0 ∧ win0_1.index t 1 = 0 ∧ win0_1.index t 2 = win0_3.index t 1)
    ∧ win0_2.index t 0 = win0_3.index t 0 ∧ win0_2.index t 1 = win0_3.index t 1 ∧ win0_2.index t 2 = 0)

theorem read1 (A : FVec Ideal S2x8448x1024 .bf16) (t : Fin cfg0.N) (k : Fin 8448) (d : Fin 256) (b : Fin 2) (e : Fin 1024)
    (hb : b.val = win0_3.index t 0) (he : e.val = 256 * win0_3.index t 1 + d) :
    ((cfg0.win 1).blk t).view.read (Elt Ideal) A (ix3 0 k d) = A (ix3 b k e) := by
  obtain ⟨_, _, ⟨h0, h1, h2⟩, _⟩ := idx t
  blk_ext [h0, h1, h2]

theorem read2 (A : FVec Ideal S2x640x8448 .bf16) (t : Fin cfg0.N) (k : Fin 8448) (d : Fin 160) (b : Fin 2) (e : Fin 640)
    (hb : b.val = win0_3.index t 0) (he : e.val = 160 * win0_3.index t 1 + d) :
    ((cfg0.win 2).blk t).view.read (Elt Ideal) A (ix3 0 d k) = A (ix3 b e k) := by
  obtain ⟨_, _, _, h0, h1, h2⟩ := idx t
  blk_ext [h0, h1, h2]

theorem read0 (A : FVec Ideal S2x1024x8448 .bf16) (t : Fin cfg0.N) (d : Fin 256) (n : Fin 1024) (b : Fin 2) (e : Fin 1024) (N : Fin 8448)
    (hb : b.val = win0_3.index t 0) (he : e.val = 256 * win0_3.index t 1 + d) (hN : N.val = 1024 * win0_3.index t 2 + n) :
    (cfg0.win 0).fill (cfg0.grid.coords t) dflt0_0 (((cfg0.win 0).blk t).view.read (Elt Ideal) A) (ix3 0 d n) = A (ix3 b e N) := by
  obtain ⟨_, ⟨h0, h1, h2⟩, _⟩ := idx t
  unfold Pipeline.Window.fill
  rw [dif_pos (moved0_0 t _)]
  blk_ext [h0, h1, h2]

theorem arr_at (c : Dev nD) (i : S2x512x8192.Idx) :
    Attends (V m c main_v8) (V m c main_v13) (V m c main_v19) i ((dats m 0 c).arrAt 3 cfg0.N i) := by
  refine (dats m 0 c).arrAt_forall_of_covers 3 (fun i v => Attends (V m c main_v8) (V m c main_v13) (V m c main_v19) i v) (by decide +kernel) (fun t hf y => ?_) i
  blk_simp
  rw [after0_3, outsAt0]
  intro b H r n S W hi hS hW h1
  have e0 := congrArg (fun i => (i 0).val) hi
  have e1 := congrArg (fun i => (i 1).val) hi
  have e2 := congrArg (fun i => (i 2).val) hi
  blk_simp at e0 e1 e2
  have hH := H.isLt
  have hr := r.isLt
  have hn := n.isLt
  have y1 : (y 1).val < 128 := (y 1).isLt
  have y2 : (y 2).val < 1024 := (y 2).isLt
  change win0_3.index t 1 * 128 + (y 1).val = 64 * H.val + r.val at e1
  obtain ⟨n', hn'⟩ : ∃ n' : Fin 1024, n'.val = (y 2).val := ⟨⟨_, y2⟩, rfl⟩
  obtain ⟨h, hh⟩ : ∃ h : Fin 2, H.val = 2 * win0_3.index t 1 + h.val := ⟨⟨H.val % 2, by omega⟩, by simp only; omega⟩
  refine block_at _ _ _ _ _ _ (X0_0 m c t) (iblk m c 1 t) (iblk m c 2 t) h r n' S W ⟨fun k => ?_, fun k => ?_, fun k => ?_⟩
    c (grid0.coords t) _ _ y (by omega) (Fin.ext hn')
  · rw [← hS k]
    refine Finset.sum_congr rfl fun d _ => ?_
    have hd := d.isLt
    refine congr (congrArg _ ?_) ?_
    · exact read1 _ t k ⟨128 * h + d, by omega⟩ b ⟨128 * H + d, by omega⟩ e0.symm (by simp only; omega)
    · exact read0 _ t ⟨128 * h + d, by omega⟩ n' b ⟨128 * H + d, by omega⟩ ⟨n, by omega⟩ e0.symm (by simp only; omega) (by simp only; omega)
  · rw [← hW k]
    exact read2 _ t k ⟨80 * h + r, by omega⟩ b ⟨80 * H + r, by omega⟩ e0.symm (by simp only; omega)
  · rw [← h1 k]
    exact read2 _ t k ⟨80 * h + 64, by omega⟩ b ⟨80 * H + 64, by omega⟩ e0.symm (by simp only; omega)

end Cert.KernelIdeal.Attn
end
-- ==== Proof.Attn.Entry.lean ====
/- The attention's three operands at an index, from the arguments. -/
module

public import proofs.«01_k».proof.Proof.Gen.KernelIdeal.Value
public import Idealize.ShloMosaic.PureOps.Ideal
public import Idealize.ShloMosaic.Lib.Pointwise
public import Idealize.ShloMosaic.Lib.StableHlo.Run
public import Idealize.ShloMosaic.Lib.StableHlo.RunRead

@[expose] public section

set_option synthInstance.maxSize 4096
set_option maxRecDepth 16384

noncomputable section

namespace Cert.KernelIdeal.Attn

open Cert.KernelIdeal.Gen Idealize.ShloMosaic Idealize.ShloMosaic.TcCoe Idealize.SL.Sem

variable {F : FTy → Type} [FloatOps F]

/-- The queries' operand: nope and rope parts and zeros, scaled, heads' features down the rows. -/
def qArr (q : FVec F S2x8448x8x64 .f32) (r : FVec F S2x8448x8x32 .f32) : FVec F S2x1024x8448 .bf16 :=
  truncf .bf16 (transpose S2x1024x8448 [0, 2, 1] (shapeCast S2x8448x1024 (mulf
    (concatenate S2x8448x8x128 3 [⟨S2x8448x8x64, q⟩, ⟨S2x8448x8x32, r⟩, ⟨S2x8448x8x32, broadcastInDim S2x8448x8x32 ![] bcast_S_S2x8448x8x32 (constant S_ .f32 0x00000000#32)⟩]
      concatenates_S2x8448x8x64_S2x8448x8x32_S2x8448x8x32_S2x8448x8x128_d3)
    (broadcastInDim S2x8448x8x128 ![] bcast_S_S2x8448x8x128 (Host.divf (constant S_ .f32 0x3DD105EC#32) (Host.log (constant S_ .f32 0x40000000#32)))))
    shapeCasts_S2x8448x8x128_S2x8448x1024) transposes_S2x8448x1024_S2x1024x8448_0_2_1) bitsLt_bf16_f32

/-- The keys' operand: nope part, the rope part the heads share, and zeros. -/
def kArr (k : FVec F S2x8448x8x64 .f32) (r : FVec F S2x8448x32 .f32) : FVec F S2x8448x1024 .bf16 :=
  truncf .bf16 (shapeCast S2x8448x1024
    (concatenate S2x8448x8x128 3 [⟨S2x8448x8x64, k⟩, ⟨S2x8448x8x32, broadcastInDim S2x8448x8x32 ![0, 1, 2, 3] bcast_S2x8448x1x32_S2x8448x8x32_0_1_2_3 (broadcastInDim S2x8448x1x32 ![0, 1, 3] bcast_S2x8448x32_S2x8448x1x32_0_1_3 r)⟩,
        ⟨S2x8448x8x32, broadcastInDim S2x8448x8x32 ![] bcast_S_S2x8448x8x32 (constant S_ .f32 0x00000000#32)⟩]
      concatenates_S2x8448x8x64_S2x8448x8x32_S2x8448x8x32_S2x8448x8x128_d3)
    shapeCasts_S2x8448x8x128_S2x8448x1024) bitsLt_bf16_f32

/-- The values' operand: the values, a row of ones and zeros, heads' features down the rows. -/
def vArr (v : FVec F S2x8448x8x64 .f32) : FVec F S2x640x8448 .bf16 :=
  truncf .bf16 (transpose S2x640x8448 [0, 2, 1] (shapeCast S2x8448x640
    (concatenate S2x8448x8x80 3 [⟨S2x8448x8x64, v⟩, ⟨S2x8448x8x1, broadcastInDim S2x8448x8x1 ![] bcast_S_S2x8448x8x1 (constant S_ .f32 0x3F800000#32)⟩,
        ⟨S2x8448x8x15, broadcastInDim S2x8448x8x15 ![] bcast_S_S2x8448x8x15 (constant S_ .f32 0x00000000#32)⟩]
      concatenates_S2x8448x8x64_S2x8448x8x1_S2x8448x8x15_S2x8448x8x80_d3)
    shapeCasts_S2x8448x8x80_S2x8448x640) transposes_S2x8448x640_S2x640x8448_0_2_1) bitsLt_bf16_f32

end Cert.KernelIdeal.Attn
end
-- ==== Proof.Attn.EntryV.lean ====
/- The attention's three operands at an index, from the arguments. -/
module

public import proofs.«01_k».proof.Proof.Attn.Entry
public import proofs.«01_k».proof.Proof.Gen.KernelIdeal.Value
public import Idealize.ShloMosaic.PureOps.Ideal
public import Idealize.ShloMosaic.Lib.Pointwise
public import Idealize.ShloMosaic.Lib.StableHlo.Run
public import Idealize.ShloMosaic.Lib.StableHlo.RunRead

@[expose] public section

set_option synthInstance.maxSize 4096
set_option maxRecDepth 16384

noncomputable section

namespace Cert.KernelIdeal.Attn

open Cert.KernelIdeal.Gen Idealize.ShloMosaic Idealize.ShloMosaic.TcCoe Idealize.SL.Sem

variable {F : FTy → Type} [FloatOps F]

section
variable (m : (ℓ : Loc nD τ sig) → Buf (Elt F) ℓ)

set_option maxHeartbeats 2000000 in
theorem V_q (c : Dev nD) : V m c main_v8 = qArr (m (c.tc.loc main_arg0)) (m (c.tc.loc main_arg1)) := by
  unfold_abbrev_sides
  after_reads_simp
  dsimp only [Matrix.cons_val_zero, Matrix.cons_val_one, Matrix.cons_val]
  have h0 : StableHlo.upto hostOps0 (fun b => m (c, b)) 6 (Proc.tc.devRef main_arg0) = m (c.tc.loc main_arg0) := by
    after_reads_simp <;> rfl
  have h1 : StableHlo.upto hostOps0 (fun b => m (c, b)) 6 (Proc.tc.devRef main_arg1) = m (c.tc.loc main_arg1) := by
    after_reads_simp <;> rfl
  have hz : StableHlo.upto hostOps0 (fun b => m (c, b)) 6 (Proc.tc.devRef main_v0) = broadcastInDim S2x8448x8x32 ![] bcast_S_S2x8448x8x32 (constant S_ .f32 0x00000000#32) := by
    after_reads_simp <;> rfl
  rw [h0, h1, hz]
  rfl

set_option maxHeartbeats 2000000 in
theorem V_k (c : Dev nD) : V m c main_v13 = kArr (m (c.tc.loc main_arg2)) (m (c.tc.loc main_arg3)) := by
  unfold_abbrev_sides
  after_reads_simp
  dsimp only [Matrix.cons_val_zero, Matrix.cons_val_one, Matrix.cons_val]
  have h2 : StableHlo.upto hostOps0 (fun b => m (c, b)) 14 (Proc.tc.devRef main_arg2) = m (c.tc.loc main_arg2) := by
    after_reads_simp <;> rfl
  have h3 : StableHlo.upto hostOps0 (fun b => m (c, b)) 14 (Proc.tc.devRef main_v10) = broadcastInDim S2x8448x8x32 ![0, 1, 2, 3] bcast_S2x8448x1x32_S2x8448x8x32_0_1_2_3 (broadcastInDim S2x8448x1x32 ![0, 1, 3] bcast_S2x8448x32_S2x8448x1x32_0_1_3 (m (c.tc.loc main_arg3))) := by
    after_reads_simp <;> rfl
  have hz : StableHlo.upto hostOps0 (fun b => m (c, b)) 14 (Proc.tc.devRef main_v0) = broadcastInDim S2x8448x8x32 ![] bcast_S_S2x8448x8x32 (constant S_ .f32 0x00000000#32) := by
    after_reads_simp <;> rfl
  rw [h2, h3, hz]
  rfl

set_option maxHeartbeats 2000000 in
theorem V_v (c : Dev nD) : V m c main_v19 = vArr (m (c.tc.loc main_arg4)) := by
  unfold_abbrev_sides
  after_reads_simp
  dsimp only [Matrix.cons_val_zero, Matrix.cons_val_one, Matrix.cons_val]
  have h4 : StableHlo.upto hostOps0 (fun b => m (c, b)) 21 (Proc.tc.devRef main_arg4) = m (c.tc.loc main_arg4) := by
    after_reads_simp <;> rfl
  have h14 : StableHlo.upto hostOps0 (fun b => m (c, b)) 21 (Proc.tc.devRef main_v14) = broadcastInDim S2x8448x8x1 ![] bcast_S_S2x8448x8x1 (constant S_ .f32 0x3F800000#32) := by
    after_reads_simp <;> rfl
  have h15 : StableHlo.upto hostOps0 (fun b => m (c, b)) 21 (Proc.tc.devRef main_v15) = broadcastInDim S2x8448x8x15 ![] bcast_S_S2x8448x8x15 (constant S_ .f32 0x00000000#32) := by
    after_reads_simp <;> rfl
  rw [h4, h14, h15]
  rfl
end

end Cert.KernelIdeal.Attn
end
-- ==== Proof.Attn.EntryAt.lean ====
/- The attention's three operands at an index, from the arguments. -/
module

public import proofs.«01_k».proof.Proof.Attn.Entry
public import proofs.«01_k».proof.Proof.Gen.KernelIdeal.Value
public import Idealize.ShloMosaic.PureOps.Ideal
public import Idealize.ShloMosaic.Lib.Pointwise
public import Idealize.ShloMosaic.Lib.StableHlo.Run
public import Idealize.ShloMosaic.Lib.StableHlo.RunRead

@[expose] public section

set_option synthInstance.maxSize 4096
set_option maxRecDepth 16384

noncomputable section

namespace Cert.KernelIdeal.Attn

open Cert.KernelIdeal.Gen Idealize.ShloMosaic Idealize.ShloMosaic.TcCoe Idealize.SL.Sem

/-- The scale that the queries carry: the scores' scale over the natural logarithm of two. -/
def qScale : EReal := Ideal.div (Ideal.ofBits .f32 0x3DD105EC#32) (Ideal.log (Ideal.ofBits .f32 0x40000000#32))

section
variable (q : FVec Ideal S2x8448x8x64 .f32) (r : FVec Ideal S2x8448x8x32 .f32) (kr : FVec Ideal S2x8448x32 .f32) (b : Fin 2) (H : Fin 8) (n : Fin 8448)

/-- What the queries' or the keys' feature d is: the nope part's, the rope part's, or zero. -/
def feat (x : Fin 64 → EReal) (y : Fin 32 → EReal) (d : Fin 128) : EReal :=
  if h : d.val < 64 then x ⟨d, h⟩ else if h : d.val - 64 < 32 then y ⟨d - 64, h⟩ else 0

theorem qArr_at (d : Fin 128) : qArr q r (ix3 b ⟨128 * H + d, by omega⟩ n)
    = feat (fun d => q (ix4 b n H d)) (fun d => r (ix4 b n H d)) d * qScale := by
  pointwise [qArr]
  simp only [feat, qScale]

theorem kCast (x : FVec Ideal S2x8448x8x128 .f32) (d : Fin 128) :
    truncf .bf16 (shapeCast S2x8448x1024 x shapeCasts_S2x8448x8x128_S2x8448x1024) bitsLt_bf16_f32 (ix3 b n ⟨128 * H + d, by omega⟩) = x (ix4 b n H d) := by
  pointwise []

theorem kConcat (z w : FVec Ideal S2x8448x8x32 .f32) (d : Fin 128) : (concatenate S2x8448x8x128 3 [⟨S2x8448x8x64, q⟩, ⟨S2x8448x8x32, z⟩, ⟨S2x8448x8x32, w⟩]
      concatenates_S2x8448x8x64_S2x8448x8x32_S2x8448x8x32_S2x8448x8x128_d3 (ix4 b n H d) : EReal)
    = if h : d.val < 64 then q (ix4 b n H ⟨d, h⟩) else if h : d.val - 64 < 32 then z (ix4 b n H ⟨d - 64, h⟩) else w (ix4 b n H ⟨d - 64 - 32, by omega⟩) := by
  pointwise []

theorem kBroadcast (d : Fin 32) : (broadcastInDim S2x8448x8x32 ![0, 1, 2, 3] bcast_S2x8448x1x32_S2x8448x8x32_0_1_2_3 (broadcastInDim S2x8448x1x32 ![0, 1, 3] bcast_S2x8448x32_S2x8448x1x32_0_1_3 kr)) (ix4 b n H d) = kr (ix3 b n d) := by
  pointwise []

theorem kZero (d : Fin 32) : (broadcastInDim S2x8448x8x32 ![] bcast_S_S2x8448x8x32 (constant (F := Ideal) S_ .f32 0x00000000#32)) (ix4 b n H d) = (0 : EReal) := by
  pointwise []

theorem kArr_at (d : Fin 128) : kArr q kr (ix3 b n ⟨128 * H + d, by omega⟩)
    = feat (fun d => q (ix4 b n H d)) (fun d => kr (ix3 b n d)) d := by
  unfold kArr feat
  rw [kCast, kConcat]
  split
  · rfl
  · split
    · exact kBroadcast ..
    · exact kZero ..

theorem vCast (x : FVec Ideal S2x8448x8x80 .f32) (d : Fin 80) :
    truncf .bf16 (transpose S2x640x8448 [0, 2, 1] (shapeCast S2x8448x640 x shapeCasts_S2x8448x8x80_S2x8448x640) transposes_S2x8448x640_S2x640x8448_0_2_1) bitsLt_bf16_f32 (ix3 b ⟨80 * H + d, by omega⟩ n) = x (ix4 b n H d) := by
  pointwise []

theorem vConcat (z : FVec Ideal S2x8448x8x1 .f32) (w : FVec Ideal S2x8448x8x15 .f32) (d : Fin 80) : (concatenate S2x8448x8x80 3 [⟨S2x8448x8x64, q⟩, ⟨S2x8448x8x1, z⟩, ⟨S2x8448x8x15, w⟩]
      concatenates_S2x8448x8x64_S2x8448x8x1_S2x8448x8x15_S2x8448x8x80_d3 (ix4 b n H d) : EReal)
    = if h : d.val < 64 then q (ix4 b n H ⟨d, h⟩) else if h : d.val - 64 < 1 then z (ix4 b n H ⟨d - 64, h⟩) else w (ix4 b n H ⟨d - 64 - 1, by omega⟩) := by
  pointwise []

theorem vOne (d : Fin 1) : (broadcastInDim S2x8448x8x1 ![] bcast_S_S2x8448x8x1 (constant (F := Ideal) S_ .f32 0x3F800000#32)) (ix4 b n H d) = (1 : EReal) := by
  pointwise []

theorem vArr_val (d : Fin 64) : vArr q (ix3 b ⟨80 * H + d, by omega⟩ n) = q (ix4 b n H d) := by
  unfold vArr
  refine (vCast b H n _ ⟨d, by omega⟩).trans ?_
  rw [vConcat]
  exact dif_pos d.isLt

theorem vArr_one : vArr q (ix3 b ⟨80 * H + 64, by omega⟩ n) = (1 : EReal) := by
  unfold vArr
  refine (vCast b H n _ ⟨64, by omega⟩).trans ?_
  rw [vConcat]
  refine (dif_neg (by decide)).trans ((dif_pos (by decide)).trans ?_)
  exact vOne ..

/-- The scores' sum over a head's features: the two parts' sums, at the queries' scale. -/
theorem sum_feat (x x' : Fin 64 → EReal) (y y' : Fin 32 → EReal) (s : EReal) :
    ∑ d : Fin 128, feat x y d * (feat x' y' d * s) = ∑ d, x d * (x' d * s) + ∑ d, y d * (y' d * s) := by
  have hz : ∀ d : Fin 32, feat x y (Fin.natAdd 64 (Fin.natAdd 32 d)) = 0 := fun d => by
    simp [feat]
  have hx : ∀ (x : Fin 64 → EReal) (y : Fin 32 → EReal) (d : Fin 64), feat x y (Fin.castAdd (32 + 32) d) = x d := fun x y d => by
    simp [feat]
  have hy : ∀ (x : Fin 64 → EReal) (y : Fin 32 → EReal) (d : Fin 32), feat x y (Fin.natAdd 64 (Fin.castAdd 32 d)) = y d := fun x y d => by
    simp [feat]
  refine (Fin.sum_univ_add (a := 64) (b := 32 + 32) _).trans (congrArg₂ (· + ·) ?_ ((Fin.sum_univ_add (a := 32) (b := 32) _).trans ?_))
  · simp only [hx]
  · simp only [hz, hy, zero_mul, Finset.sum_const_zero, add_zero]
end

end Cert.KernelIdeal.Attn
end
-- ==== Proof.Attn.Kernel.lean ====
/- The kernel's result at an index is the attention of its query. -/
module

public import proofs.«01_k».proof.Proof.Attn.Array
public import proofs.«01_k».proof.Proof.Attn.EntryV
public import proofs.«01_k».proof.Proof.Attn.EntryAt
public import proofs.«01_k».proof.Proof.Attn.Softmax

@[expose] public section

set_option synthInstance.maxSize 4096
set_option maxRecDepth 16384

noncomputable section

namespace Cert.KernelIdeal.Attn

open Cert.KernelIdeal.Gen Cert.Softmax Idealize.ShloMosaic Idealize.ShloMosaic.TcCoe Idealize.SL.Sem

theorem qScale_real {s : ℝ} (hs : Ideal.ofBits .f32 0x3DD105EC#32 = (s : EReal)) : qScale = ((s / Real.log 2 : ℝ) : EReal) := by
  rw [qScale, hs, ofBits_two, log_two, div_coe (Real.log_pos one_lt_two).ne', ← EReal.coe_mul, div_eq_mul_inv]

/-- The kernel's score of a query and a key, of reals. -/
theorem sum_raw (q : Fin 64 → ℝ) (k : Fin 8448 → Fin 64 → ℝ) (r : Fin 32 → ℝ) (kr : Fin 8448 → Fin 32 → ℝ) (x : Fin 8448) (t : ℝ) :
    ∑ d : Fin 128, feat (fun d => (k x d : EReal)) (fun d => (kr x d : EReal)) d * (feat (fun d => (q d : EReal)) (fun d => (r d : EReal)) d * (t : EReal))
      = ((raw q k r kr x * t : ℝ) : EReal) := by
  rw [sum_feat]
  simp only [← EReal.coe_mul, ← coe_sum, ← EReal.coe_add]
  rw [EReal.coe_eq_coe_iff, raw, add_mul, Finset.sum_mul, Finset.sum_mul]
  congr 1 <;> exact Finset.sum_congr rfl fun d _ => by ring

/-- What attends with these operands, of real queries and keys, is the attention. -/
theorem attends_eq {a0 : FVec Ideal S2x8448x8x64 .f32} {a1 : FVec Ideal S2x8448x8x32 .f32} {a2 : FVec Ideal S2x8448x8x64 .f32}
    {a3 : FVec Ideal S2x8448x32 .f32} {a4 : FVec Ideal S2x8448x8x64 .f32} (b : Fin 2) (H : Fin 8) (r : Fin 64) (n : Fin 8192)
    (hq : ∀ d, ∃ x : ℝ, a0 (ix4 b ⟨n, by omega⟩ H d) = (x : EReal)) (hr : ∀ d, ∃ x : ℝ, a1 (ix4 b ⟨n, by omega⟩ H d) = (x : EReal))
    (hk : ∀ k d, ∃ x : ℝ, a2 (ix4 b k H d) = (x : EReal)) (hkr : ∀ k d, ∃ x : ℝ, a3 (ix3 b k d) = (x : EReal)) (v : EReal)
    (h : Attends (qArr a0 a1) (kArr a2 a3) (vArr a4) (ix3 b ⟨64 * H + r, by omega⟩ n) v) :
    v = attend (fun d => a0 (ix4 b ⟨n, by omega⟩ H d)) (fun k d => a2 (ix4 b k H d)) (fun d => a1 (ix4 b ⟨n, by omega⟩ H d))
      (fun k d => a3 (ix3 b k d)) (fun k => a4 (ix4 b k H r)) := by
  choose q hq using hq
  choose r' hr using hr
  choose k hk using hk
  choose kr hkr using hkr
  obtain ⟨s, hs⟩ := ofBits_scale
  simp only [hq, hr, hk, hkr]
  rw [attend_real _ _ _ _ _ hs]
  have e : ∀ x : Fin 8448, (if h : x.val < 8448 then raw q k r' kr ⟨x.val, h⟩ * (s / Real.log 2) else 0) = raw q k r' kr x * s / Real.log 2 := fun x => by
    rw [dif_pos x.isLt, mul_div_assoc]
  refine (h b H r n (fun x => if h : x < 8448 then raw q k r' kr ⟨x, h⟩ * (s / Real.log 2) else 0)
    (fun x => if h : x < 8448 then a4 (ix4 b ⟨x, h⟩ H r) else 0) rfl (fun x => ?_) (fun x => ?_) (fun x => ?_)).trans ?_
  · refine (Finset.sum_congr rfl fun d _ => congrArg₂ (· * ·) (kArr_at ..) (qArr_at ..)).trans ?_
    simp only [hq, hr, hk, hkr, qScale_real hs]
    rw [sum_raw, dif_pos x.isLt]
  · rw [dif_pos x.isLt]
    exact vArr_val ..
  · exact vArr_one ..
  · refine Finset.sum_congr rfl fun x _ => congrArg₂ (· * ·) (dif_pos x.isLt) ?_
    simp only [e, two_rpow_div_log]

/-- The kernel's result array at an index, of real queries and keys. -/
theorem result_at (m : (ℓ : Loc nD τ sig) → Buf (Elt Ideal) ℓ) (c : Dev nD) (b : Fin 2) (H : Fin 8) (r : Fin 64) (n : Fin 8192) :
    Attends (qArr (m (c.tc.loc main_arg0)) (m (c.tc.loc main_arg1))) (kArr (m (c.tc.loc main_arg2)) (m (c.tc.loc main_arg3))) (vArr (m (c.tc.loc main_arg4)))
      (ix3 b ⟨64 * H + r, by omega⟩ n) ((dats m 0 c).arrAt 3 cfg0.N (ix3 b ⟨64 * H + r, by omega⟩ n)) := by
  rw [← V_q, ← V_k, ← V_v]
  exact arr_at m c _

end Cert.KernelIdeal.Attn
end
-- ==== Proof.Attn.Ref.lean ====
/- The reference's result at an index. -/
module

public import proofs.«01_k».proof.Proof.Gen.ReferenceIdeal.Run
public import proofs.«01_k».proof.Proof.Attn.Softmax
public import Idealize.ShloMosaic.PureOps.Ideal
public import Idealize.ShloMosaic.Lib.Pointwise

@[expose] public section

set_option synthInstance.maxSize 4096
set_option maxRecDepth 16384

noncomputable section

namespace Cert.ReferenceIdeal.Attn

open Cert.ReferenceIdeal.Gen Cert.Softmax Idealize.ShloMosaic Idealize.ShloMosaic.TcCoe Idealize.SL.Sem

/-- The scores of every query and key, scaled. -/
def scores (a0 : FVec Ideal S2x8448x8x64 .f32) (a1 : FVec Ideal S2x8448x8x32 .f32) (a2 : FVec Ideal S2x8448x8x64 .f32) (a3 : FVec Ideal S2x8448x32 .f32) :
    FVec Ideal S2x8x8192x8448 .f32 :=
  mulf (addf (Host.dotGeneral dot_S2x8192x8x64_S2x8448x8x64_S2x8x8192x8448_3_3_1_1_02_02 none (extractStridedSlice S2x8192x8x64 ![0, 0, 0, 0] a0 slices_S2x8448x8x64_S2x8192x8x64_0_0_0_0) a2)
      (transpose S2x8x8192x8448 [0, 3, 2, 1] (Host.dotGeneral dot_S2x8448x32_S2x8192x8x32_S2x8448x8192x8_2_3_1_12_0_0 none a3
        (extractStridedSlice S2x8192x8x32 ![0, 0, 0, 0] a1 slices_S2x8448x8x32_S2x8192x8x32_0_0_0_0)) transposes_S2x8448x8192x8_S2x8x8192x8448_0_3_2_1))
    (broadcastInDim S2x8x8192x8448 ![] bcast_S_S2x8x8192x8448 (constant S_ .f32 0x3DD105EC#32))

/-- A row's one value on every key. -/
def rows (x : FVec Ideal S2x8x8192 .f32) : FVec Ideal S2x8x8192x8448 .f32 :=
  broadcastInDim S2x8x8192x8448 ![0, 1, 2, 3] bcast_S2x8x8192x1_S2x8x8192x8448_0_1_2_3 (broadcastInDim S2x8x8192x1 ![0, 1, 2] bcast_S2x8x8192_S2x8x8192x1_0_1_2 x)

/-- The maximum's start on every row. -/
def least : FVec Ideal S2x8x8192 .f32 := broadcastInDim S2x8x8192 ![] bcast_S_S2x8x8192 (constant S_ .f32 0xFF800000#32)

/-- Every row's largest score. -/
def largest (s : FVec Ideal S2x8x8192x8448 .f32) : FVec Ideal S2x8x8192 .f32 :=
  Host.reduce FloatOps.maximumf s (constant S_ .f32 0xFF800000#32) reducesTo_S2x8x8192x8448_S2x8x8192_d3 h_S_

/-- The exponentials of the scores less their largest. -/
def powers (s : FVec Ideal S2x8x8192x8448 .f32) : FVec Ideal S2x8x8192x8448 .f32 :=
  Host.exp (subf s (rows (maximumf least (largest s))))

/-- The powers over their row's sum. -/
def weights (p : FVec Ideal S2x8x8192x8448 .f32) : FVec Ideal S2x8x8192x8448 .f32 :=
  Host.divf p (rows (Host.reduceAdd p (constant S_ .f32 0x00000000#32) reducesTo_S2x8x8192x8448_S2x8x8192_d3 h_S_))

/-- The weighted values, a head's features down the rows. -/
def mixed (v : FVec Ideal S2x8448x8x64 .f32) (w : FVec Ideal S2x8x8192x8448 .f32) : FVec Ideal S2x512x8192 .bf16 :=
  truncf .bf16 (transpose S2x512x8192 [0, 2, 1] (shapeCast S2x8192x512 (transpose S2x8192x8x64 [0, 3, 1, 2]
    (Host.dotGeneral dot_S2x8448x8x64_S2x8x8192x8448_S2x8x64x8192_1_3_3_2_02_01 none v w) transposes_S2x8x64x8192_S2x8192x8x64_0_3_1_2)
    shapeCasts_S2x8192x8x64_S2x8192x512) transposes_S2x8192x512_S2x512x8192_0_2_1) bitsLt_bf16_f32

theorem res_eq (m : (ℓ : Loc nD τ sig) → Buf (Elt Ideal) ℓ) (c : Dev nD) :
    Value.res_out0 m c = mixed (m (c.tc.loc main_arg4)) (weights (powers (scores (m (c.tc.loc main_arg0)) (m (c.tc.loc main_arg1)) (m (c.tc.loc main_arg2)) (m (c.tc.loc main_arg3))))) := by
  unfold Value.res_out0 Value.res_main_v23
  rfl

section
variable (a0 : FVec Ideal S2x8448x8x64 .f32) (a1 : FVec Ideal S2x8448x8x32 .f32) (a2 : FVec Ideal S2x8448x8x64 .f32) (a3 : FVec Ideal S2x8448x32 .f32)
  (v : FVec Ideal S2x8448x8x64 .f32) (p : FVec Ideal S2x8x8192x8448 .f32) (x : FVec Ideal S2x8x8192 .f32)
  (b : Fin 2) (H : Fin 8) (r : Fin 64) (n : Fin 8192) (k : Fin 8448)

theorem rows_at : rows x (ix4 b H n k) = x (ix3 b H n) := by
  pointwise [rows]

theorem mixed_at : mixed v p (ix3 b ⟨64 * H + r, by omega⟩ n) = ∑ k, v (ix4 b k H r) * p (ix4 b H n k) := by
  pointwise [mixed]

theorem sum_at : Host.reduceAdd p (constant S_ .f32 0x00000000#32) reducesTo_S2x8x8192x8448_S2x8x8192_d3 h_S_ (ix3 b H n) = ∑ k, p (ix4 b H n k) := by
  pointwise []

theorem weights_at : weights p (ix4 b H n k) = Ideal.div (p (ix4 b H n k)) (∑ j, p (ix4 b H n j)) := by
  show Ideal.div (p (ix4 b H n k)) (rows _ (ix4 b H n k)) = _
  rw [rows_at, sum_at]

theorem least_at : least (ix3 b H n) = Ideal.ofBits .f32 0xFF800000#32 := by
  pointwise [least]

theorem largest_at : largest p (ix3 b H n) = Finset.univ.fold max (Ideal.ofBits .f32 0xFF800000#32) fun k => p (ix4 b H n k) := by
  pointwise [largest]

theorem powers_rows (y : FVec Ideal S2x8x8192 .f32) (z : FVec Ideal S2x8x8192 .f32) :
    Host.exp (subf p (rows (maximumf y z))) (ix4 b H n k) = Ideal.exp (p (ix4 b H n k) - max (y (ix3 b H n)) (z (ix3 b H n))) := by
  refine Eq.trans (b := Ideal.exp (p (ix4 b H n k) - rows (maximumf y z) (ix4 b H n k))) rfl ?_
  rw [rows_at]
  rfl

theorem powers_at : powers p (ix4 b H n k) = Ideal.exp (shifted (fun k => p (ix4 b H n k)) k) := by
  rw [powers, powers_rows, least_at, largest_at, shifted]

theorem scores_at : scores a0 a1 a2 a3 (ix4 b H n k)
    = score (fun d => a0 (ix4 b ⟨n, by omega⟩ H d)) (fun k d => a2 (ix4 b k H d)) (fun d => a1 (ix4 b ⟨n, by omega⟩ H d)) (fun k d => a3 (ix3 b k d)) k := by
  pointwise [scores]
  simp only [score]

/-- The reference's result is the attention of its query. -/
theorem out_at : mixed v (weights (powers (scores a0 a1 a2 a3))) (ix3 b ⟨64 * H + r, by omega⟩ n)
    = attend (fun d => a0 (ix4 b ⟨n, by omega⟩ H d)) (fun k d => a2 (ix4 b k H d)) (fun d => a1 (ix4 b ⟨n, by omega⟩ H d))
      (fun k d => a3 (ix3 b k d)) (fun k => v (ix4 b k H r)) := by
  rw [mixed_at, attend]
  simp only [weights_at, powers_at, scores_at]
end

end Cert.ReferenceIdeal.Attn
end
-- ==== Proof.Attn.Pre.lean ====
/- What the precondition says of the queries' and the keys' elements: each is a real. -/
module

public import proofs.«01_k».proof.Proof.Gen.Pre_finite_queries_keys
public import proofs.«01_k».proof.Proof.Attn.Softmax
public import Idealize.ShloMosaic.PureOps.Ideal
public import Idealize.ShloMosaic.Lib.Pointwise

@[expose] public section

set_option synthInstance.maxSize 4096
set_option maxRecDepth 16384

noncomputable section

namespace Cert.Pre_finite_queries_keys.Attn

open Cert.Pre_finite_queries_keys Cert.Pre_finite_queries_keys.Gen Cert.Softmax Idealize.ShloMosaic

theorem lt_of_bit {x : EReal} (h : BitVec.ofBool (decide (max x (-x) < Ideal.ofBits .f32 0x7F800000#32)) = 1#1) : ∃ y : ℝ, x = (y : EReal) := by
  rw [ofBits_most] at h
  refine real_of_abs_lt ?_
  by_contra hn
  rw [decide_eq_false hn] at h
  exact absurd h (by decide)

variable {q : FVec Ideal S2x8448x8x64 .f32} {r : FVec Ideal S2x8448x8x32 .f32} {k : FVec Ideal S2x8448x8x64 .f32}
  {kr : FVec Ideal S2x8448x32 .f32} {v : FVec Ideal S2x8448x8x64 .f32} (h : fn q r k kr v = fun _ => 1#1)
include h

theorem real_q (b : Fin 2) (n : Fin 8192) (H : Fin 8) (d : Fin 64) : ∃ x : ℝ, q (ix4 b ⟨n, by omega⟩ H d) = (x : EReal) := by
  have h := congrFun h (ix4 b ⟨n, by omega⟩ H ⟨d, by omega⟩)
  pointwise [fn] at h
  exact lt_of_bit h

theorem real_r (b : Fin 2) (n : Fin 8192) (H : Fin 8) (d : Fin 32) : ∃ x : ℝ, r (ix4 b ⟨n, by omega⟩ H d) = (x : EReal) := by
  have h := congrFun h (ix4 b ⟨n, by omega⟩ H ⟨64 + d, by omega⟩)
  pointwise [fn] at h
  exact lt_of_bit h

theorem real_k (b : Fin 2) (n : Fin 8448) (H : Fin 8) (d : Fin 64) : ∃ x : ℝ, k (ix4 b n H d) = (x : EReal) := by
  have h := congrFun h (ix4 b ⟨8192 + n, by omega⟩ H ⟨d, by omega⟩)
  pointwise [fn] at h
  exact lt_of_bit h

theorem real_kr (b : Fin 2) (n : Fin 8448) (d : Fin 32) : ∃ x : ℝ, kr (ix3 b n d) = (x : EReal) := by
  have h := congrFun h (ix4 b ⟨8192 + n, by omega⟩ 0 ⟨64 + d, by omega⟩)
  pointwise [fn] at h
  exact lt_of_bit h

end Cert.Pre_finite_queries_keys.Attn
end
-- ==== Proof.Attn.Tie.lean ====
/- The kernel's result array is the reference's, of memories that agree on the arguments. -/
module

public import proofs.«01_k».proof.Defs
public import proofs.«01_k».proof.Proof.Attn.Kernel
public import proofs.«01_k».proof.Proof.Attn.Ref
public import proofs.«01_k».proof.Proof.Attn.Pre

@[expose] public section

set_option synthInstance.maxSize 4096
set_option maxRecDepth 16384

noncomputable section

namespace Cert.Attn

open Cert.Softmax Idealize.ShloMosaic Idealize.ShloMosaic.TcCoe Idealize.SL.Sem

abbrev MemK := (ℓ : Loc KernelIdeal.nD KernelIdeal.τ KernelIdeal.sig) → Buf (Elt Ideal) ℓ
abbrev MemR := (ℓ : Loc ReferenceIdeal.nD ReferenceIdeal.τ ReferenceIdeal.sig) → Buf (Elt Ideal) ℓ

/-- An index of the result is a batch, a head, a feature of it, and a query. -/
theorem idx_eq (i : KernelIdeal.S2x512x8192.Idx) : ∃ (b : Fin 2) (H : Fin 8) (r : Fin 64) (n : Fin 8192), i = ix3 b ⟨64 * H + r, by omega⟩ n := by
  have h1 : (i 1 : ℕ) < 512 := (i 1).isLt
  refine ⟨i 0, ⟨(i 1 : ℕ) / 64, by omega⟩, ⟨(i 1 : ℕ) % 64, by omega⟩, i 2, ?_⟩
  refine (ValueIdx.eq_ix3 i).trans ?_
  congr 1
  exact Fin.ext (Nat.div_add_mod _ _).symm

theorem out_eq (m : MemK) (m' : MemR) (hP : Pre_KernelIdeal_finite_queries_keys m) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4)) :
    (KernelIdeal.Gen.dats m 0 c).arrAt 3 KernelIdeal.cfg0.N = ReferenceIdeal.Value.res_out0 m' c := by
  rw [ReferenceIdeal.Attn.res_eq, h0, h1, h2, h3, h4]
  have hp := hP c
  funext i
  obtain ⟨b, H, r, n, rfl⟩ := idx_eq i
  refine (KernelIdeal.Attn.attends_eq b H r n (fun d => Pre_finite_queries_keys.Attn.real_q hp b n H d)
    (fun d => Pre_finite_queries_keys.Attn.real_r hp b n H d) (fun k d => Pre_finite_queries_keys.Attn.real_k hp b k H d)
    (fun k d => Pre_finite_queries_keys.Attn.real_kr hp b k d) _ (KernelIdeal.Attn.result_at m c b H r n)).trans ?_
  exact (ReferenceIdeal.Attn.out_at ..).symm

end Cert.Attn
end
-- ==== Proof.Ffn.Swiglu.lean ====
/- The channel part of a layer on one token's line, over the extended reals, and the sigmoid written by tanh. -/
module

public import Idealize.ShloMosaic.PureOps.Ideal
public import Idealize.ShloMosaic.Lib.Pointwise

@[expose] public section

noncomputable section

namespace Cert.Ffn

open Idealize.ShloMosaic

/-- One over the root of the line's mean square and the small constant. -/
def scale (x : Fin 1024 → EReal) : EReal :=
  Ideal.rsqrt (Ideal.div (∑ d, x d * x d) (Ideal.ofBits .f32 0x44800000#32) + Ideal.ofBits .f32 0x358637BD#32)

/-- The line scaled to mean square one, times the gains. -/
def normed (x g : Fin 1024 → EReal) (d : Fin 1024) : EReal := x d * scale x * g d

/-- The line under a layer's scale and shift. -/
def modulated (x sh sc : Fin 1024 → EReal) (d : Fin 1024) : EReal := x d * (1 + sc d) + sh d

/-- The gated hidden units: silu of the first product times the second. -/
def hidden (h : Fin 1024 → EReal) (w1 w3 : Fin 1024 → Fin 2816 → EReal) (j : Fin 2816) : EReal :=
  (∑ d, h d * w1 d j) * Ideal.logistic (∑ d, h d * w1 d j) * ∑ d, h d * w3 d j

/-- The line after the channel part: itself plus the gated feed-forward of its modulated norm. -/
def channel (x sh sc g2 g : Fin 1024 → EReal) (w1 w3 : Fin 1024 → Fin 2816 → EReal) (w2 : Fin 2816 → Fin 1024 → EReal) (d : Fin 1024) : EReal :=
  x d + g2 d * ∑ j, hidden (modulated (normed x g) sh sc) w1 w3 j * w2 j d

theorem half : Ideal.ofBits .f32 0x3F000000#32 = ((1 / 2 : ℝ) : EReal) := by
  simp [Ideal.ofBits, Ideal.ieee, -EReal.coe_mul]
  norm_num

theorem one_div (x : EReal) (h : x ≠ 0) : Ideal.div 1 x = x⁻¹ := by
  rw [Ideal.div, if_neg h, one_mul]

theorem real_sigmoid (r : ℝ) : 1 / 2 * Real.tanh (1 / 2 * r) + 1 / 2 = (1 + Real.exp (-r))⁻¹ := by
  have hx := Real.exp_pos (1 / 2 * r)
  have hy := Real.exp_pos (-(1 / 2 * r))
  have hr : Real.exp (-r) = Real.exp (-(1 / 2 * r)) * Real.exp (-(1 / 2 * r)) := by rw [← Real.exp_add]; ring_nf
  have h1 : Real.exp (1 / 2 * r) * Real.exp (-(1 / 2 * r)) = 1 := by rw [← Real.exp_add]; simp
  rw [Real.tanh_eq_sinh_div_cosh, Real.sinh_eq, Real.cosh_eq, hr]
  generalize Real.exp (1 / 2 * r) = x at *
  generalize Real.exp (-(1 / 2 * r)) = y at *
  have hxy : x + y ≠ 0 := by positivity
  have hyy : 1 + y * y ≠ 0 := by positivity
  field_simp
  linear_combination 2 * y * h1

/-- Half of tanh of half a number, and a half, is the number's logistic, at the infinities too. -/
theorem sigmoid_eq (u : EReal) :
    Ideal.ofBits .f32 0x3F000000#32 * Ideal.tanh (Ideal.ofBits .f32 0x3F000000#32 * u) + Ideal.ofBits .f32 0x3F000000#32 = Ideal.logistic u := by
  rw [half, Ideal.logistic]
  induction u with
  | bot =>
    rw [EReal.coe_mul_bot_of_pos (by norm_num), EReal.neg_bot]
    show ((1 / 2 : ℝ) : EReal) * (((-1 : ℝ)) : EReal) + ((1 / 2 : ℝ) : EReal) = Ideal.div 1 (1 + ⊤)
    rw [← EReal.coe_mul, ← EReal.coe_add, EReal.add_top_of_ne_bot (by decide), one_div _ (by decide), EReal.inv_top]
    norm_num
  | top =>
    rw [EReal.coe_mul_top_of_pos (by norm_num), EReal.neg_top]
    show ((1 / 2 : ℝ) : EReal) * ((1 : ℝ) : EReal) + ((1 / 2 : ℝ) : EReal) = Ideal.div 1 (1 + 0)
    rw [← EReal.coe_mul, ← EReal.coe_add, add_zero, one_div _ one_ne_zero, ← EReal.coe_one, ← EReal.coe_inv]
    norm_num
  | coe r =>
    rw [← EReal.coe_mul, ← EReal.coe_neg]
    show ((1 / 2 : ℝ) : EReal) * ((Real.tanh (1 / 2 * r) : ℝ) : EReal) + ((1 / 2 : ℝ) : EReal) = Ideal.div 1 (((1 : ℝ) : EReal) + ((Real.exp (-r) : ℝ) : EReal))
    have h : (1 + Real.exp (-r) : ℝ) ≠ 0 := by positivity
    rw [← EReal.coe_mul, ← EReal.coe_add, ← EReal.coe_add, one_div _ (by exact_mod_cast h), ← EReal.coe_inv, real_sigmoid]

end Cert.Ffn
end
-- ==== Proof.Ffn.Tile.lean ====
/- What one grid point computes of a tile of 256 tokens, at an index, over the extended reals. -/
module

public import proofs.«01_k».proof.Proof.Gen.Kernel2Ideal.Frame
public import proofs.«01_k».proof.Proof.Ffn.Swiglu
public import Idealize.ShloMosaic.PureOps.Ideal
public import Idealize.ShloMosaic.Lib.Pointwise
public import Idealize.ShloMosaic.Lib.IdealHost

@[expose] public section

set_option synthInstance.maxSize 4096
set_option maxRecDepth 16384

noncomputable section

namespace Cert.Kernel2Ideal.Ffn

open Cert.Kernel2Ideal.Gen Idealize.ShloMosaic Idealize.SL.Sem

section
variable {F : FTy → Type} [FloatOps F]

/-- One line on every token. -/
def lines (v : FVec F S1x1024 .f32) : FVec F S256x1024 .f32 := broadcastTo S256x1024 v broadcasts_S1x1024_S256x1024

/-- Every token's sum of squares. -/
def squares (x : FVec F S256x1024 .f32) : FVec F S256 .f32 :=
  multiReduction .add [1] S256 (mulf x x) 0x00000000#32 reduces_S256x1024_S256 (.inl rfl) rfl

/-- Every token's scale to mean square one, from its sum of squares. -/
def scales (s : FVec F S256 .f32) : FVec F S256x1024 .f32 :=
  broadcastTo S256x1024 (rsqrt (addf (divf (shapeCast S256x1 s shapeCasts_S256_S256x1) (broadcast S256x1 (Scalar.ofBits .f32 0x44800000#32)))
    (broadcast S256x1 (Scalar.ofBits .f32 0x358637BD#32)))) broadcasts_S256x1_S256x1024

def norms (x : FVec F S256x1024 .f32) (g : FVec F S1x1024 .f32) : FVec F S256x1024 .f32 :=
  mulf (mulf x (scales (squares x))) (lines g)

def modulate (x : FVec F S256x1024 .f32) (sh sc : FVec F S1x1024 .f32) : FVec F S256x1024 .f32 :=
  addf (mulf x (lines (addf (broadcast S1x1024 (Scalar.ofBits .f32 0x3F800000#32)) sc))) (lines sh)

def up (h : FVec F S256x1024 .bf16) (w : Vec F S1x1024x2816 .bf16) : FVec F S256x2816 .f32 :=
  matmul dot_S256x1024_S1024x2816_S256x2816_1_0_0_1_n_n none h (shapeCast S1024x2816 w shapeCasts_S1x1024x2816_S1024x2816) (constant S256x2816 .f32 0x00000000#32)

def silu (u : FVec F S256x2816 .f32) : FVec F S256x2816 .f32 :=
  mulf u (addf (mulf (broadcast S256x2816 (Scalar.ofBits .f32 0x3F000000#32)) (tanh (mulf (broadcast S256x2816 (Scalar.ofBits .f32 0x3F000000#32)) u)))
    (broadcast S256x2816 (Scalar.ofBits .f32 0x3F000000#32)))

def down (a : FVec F S256x2816 .bf16) (w : Vec F S1x2816x1024 .bf16) : FVec F S256x1024 .f32 :=
  matmul dot_S256x2816_S2816x1024_S256x1024_1_0_0_1_n_n none a (shapeCast S2816x1024 w shapeCasts_S1x2816x1024_S2816x1024) (constant S256x1024 .f32 0x00000000#32)

/-- The tile after the channel part. -/
def channel (x : FVec F S256x1024 .f32) (mod : FVec F S6x1024 .f32) (g : FVec F S1x1024 .f32) (w1 w3 : Vec F S1x1024x2816 .bf16) (w2 : Vec F S1x2816x1024 .bf16) :
    FVec F S256x1024 .f32 :=
  let h := truncf .bf16 (modulate (norms x g) (extractStridedSlice S1x1024 ![3, 0] mod slices_S6x1024_o3_0_S1x1024) (extractStridedSlice S1x1024 ![4, 0] mod slices_S6x1024_o4_0_S1x1024)) bitsLt_bf16_f32
  addf x (mulf (lines (extractStridedSlice S1x1024 ![5, 0] mod slices_S6x1024_o5_0_S1x1024))
    (down (truncf .bf16 (mulf (silu (up h w1)) (up h w3)) bitsLt_bf16_f32) w2))

/-- What is stored of a tile. -/
def tile (x : Vec F S1x256x1024 .f32) (mod : Vec F S1x1x6x1024 .f32) (g : Vec F S1x1x1024 .f32) (w1 w3 : Vec F S1x1024x2816 .bf16) (w2 : Vec F S1x2816x1024 .bf16) (fg : Vec F S1x1024 .f32) :
    FVec F S1x256x1024 .f32 :=
  shapeCast S1x256x1024 (norms (channel (shapeCast S256x1024 x shapeCasts_S1x256x1024_S256x1024) (shapeCast S6x1024 mod shapeCasts_S1x1x6x1024_S6x1024)
    (shapeCast S1x1024 g shapeCasts_S1x1x1024_S1x1024) w1 w3 w2) (shapeCast S1x1024 fg shapeCasts_S1x1024_S1x1024)) shapeCasts_S256x1024_S1x256x1024

/-- No tile lies past the latent tokens. -/
theorem latent : ∀ n : Fin 16, Scalar.cmpi .sge (Scalar.addi (Scalar.muli (BitVec.ofNat 32 n.val) 2#32) 0#32) 32#32 = 0#1
    ∧ Scalar.cmpi .sge (Scalar.addi (Scalar.muli (BitVec.ofNat 32 n.val) 2#32) 1#32) 32#32 = 0#1 := by
  decide +kernel

theorem mod_first (i : grid0.Coords) (v3 v5 : Vec F S1x1x6x1024 .f32) : k0_pay1 i v3 v5 = shapeCast S6x1024 v5 shapeCasts_S1x1x6x1024_S6x1024 := by
  unfold k0_pay1
  dsimp only
  rw [(latent (i 1)).1]
  rfl

theorem mod_second (i : grid0.Coords) (v3 v5 : Vec F S1x1x6x1024 .f32) : k0_pay5 (BitVec.ofNat 32 (i 1).val) v3 v5 = shapeCast S6x1024 v5 shapeCasts_S1x1x6x1024_S6x1024 := by
  unfold k0_pay5
  dsimp only
  rw [(latent (i 1)).2]
  rfl

theorem first_eq (i : grid0.Coords) (v3 v5 : Vec F S1x1x6x1024 .f32) (x : Vec F S1x256x1024 .f32) (g : Vec F S1x1x1024 .f32) (w1 w3 : Vec F S1x1024x2816 .bf16)
    (w2 : Vec F S1x2816x1024 .bf16) (fg : Vec F S1x1024 .f32) :
    k0_pay4 (k0_pay1 i v3 v5) (k0_pay2 x) (k0_pay3 i v3 v5 x g) w1 w3 w2 fg = tile x v5 g w1 w3 w2 fg := by
  unfold k0_pay3
  rw [mod_first]
  rfl

theorem second_eq (i : grid0.Coords) (v3 v5 : Vec F S1x1x6x1024 .f32) (x : Vec F S1x256x1024 .f32) (g : Vec F S1x1x1024 .f32) (w1 w3 : Vec F S1x1024x2816 .bf16)
    (w2 : Vec F S1x2816x1024 .bf16) (fg : Vec F S1x1024 .f32) :
    k0_pay9 (k0_pay5 (BitVec.ofNat 32 (i 1).val) v3 v5) (k0_pay6 x) (k0_pay7 (BitVec.ofNat 32 (i 1).val) v3 v5 x g) (k0_pay8 w1) (constant S256x2816 .f32 0x00000000#32) w3 w2 fg
      = tile x v5 g w1 w3 w2 fg := by
  unfold k0_pay7
  rw [mod_second]
  rfl
end

section
variable (x : FVec Ideal S256x1024 .f32) (v sh sc g : FVec Ideal S1x1024 .f32) (r : Fin 256) (d : Fin 1024) (j : Fin 2816)

theorem lines_at : lines v (ix2 r d) = v (ix2 0 d) := by
  pointwise [lines]

theorem squares_at : squares x (ix1 r) = ∑ d : Fin 1024, x (ix2 r d) * x (ix2 r d) := by
  pointwise [squares]

theorem scales_at (s : FVec Ideal S256 .f32) : scales s (ix2 r d) = Ideal.rsqrt (Ideal.div (s (ix1 r)) (Ideal.ofBits .f32 0x44800000#32) + Ideal.ofBits .f32 0x358637BD#32) := by
  pointwise [scales]

theorem norms_at : norms x g (ix2 r d) = Cert.Ffn.normed (fun d => x (ix2 r d)) (fun d => g (ix2 0 d)) d := by
  show x (ix2 r d) * scales (squares x) (ix2 r d) * lines g (ix2 r d) = _
  rw [scales_at, squares_at, lines_at]
  rfl

theorem modulate_at : modulate x sh sc (ix2 r d) = Cert.Ffn.modulated (fun d => x (ix2 r d)) (fun d => sh (ix2 0 d)) (fun d => sc (ix2 0 d)) d := by
  show x (ix2 r d) * lines _ (ix2 r d) + lines sh (ix2 r d) = _
  rw [lines_at, lines_at]
  show x (ix2 r d) * (Ideal.ofBits .f32 0x3F800000#32 + sc (ix2 0 d)) + sh (ix2 0 d) = _
  rw [Ideal.ofBits_one_f32]
  rfl

theorem up_at (h : FVec Ideal S256x1024 .bf16) (w : Vec Ideal S1x1024x2816 .bf16) : up h w (ix2 r j) = ∑ d : Fin 1024, h (ix2 r d) * w (ix3 0 d j) := by
  pointwise [up]

theorem silu_at (u : FVec Ideal S256x2816 .f32) : silu u (ix2 r j) = u (ix2 r j) * Ideal.logistic (u (ix2 r j)) := by
  rw [← Cert.Ffn.sigmoid_eq]
  rfl

theorem down_at (a : FVec Ideal S256x2816 .bf16) (w : Vec Ideal S1x2816x1024 .bf16) : down a w (ix2 r d) = ∑ j : Fin 2816, a (ix2 r j) * w (ix3 0 j d) := by
  pointwise [down]

theorem row_at (n : Fin 6) (h : S6x1024.Slices ![n.val, 0] S1x1024) (mod : FVec Ideal S6x1024 .f32) :
    extractStridedSlice S1x1024 ![n.val, 0] mod h (ix2 0 d) = mod (ix2 n d) := by
  pointwise []

theorem channel_at (mod : FVec Ideal S6x1024 .f32) (w1 w3 : Vec Ideal S1x1024x2816 .bf16) (w2 : Vec Ideal S1x2816x1024 .bf16) :
    channel x mod g w1 w3 w2 (ix2 r d) = Cert.Ffn.channel (fun d => x (ix2 r d)) (fun d => mod (ix2 3 d)) (fun d => mod (ix2 4 d)) (fun d => mod (ix2 5 d))
      (fun d => g (ix2 0 d)) (fun d j => w1 (ix3 0 d j)) (fun d j => w3 (ix3 0 d j)) (fun j d => w2 (ix3 0 j d)) d := by
  unfold channel
  have hh : ∀ d, (truncf .bf16 (modulate (norms x g) (extractStridedSlice S1x1024 ![3, 0] mod slices_S6x1024_o3_0_S1x1024) (extractStridedSlice S1x1024 ![4, 0] mod slices_S6x1024_o4_0_S1x1024)) bitsLt_bf16_f32 (ix2 r d) : EReal)
      = Cert.Ffn.modulated (Cert.Ffn.normed (fun d => x (ix2 r d)) (fun d => g (ix2 0 d))) (fun d => mod (ix2 3 d)) (fun d => mod (ix2 4 d)) d := fun d => by
    refine (modulate_at ..).trans ?_
    have e3 : ∀ d, extractStridedSlice S1x1024 ![3, 0] mod slices_S6x1024_o3_0_S1x1024 (ix2 0 d) = mod (ix2 3 d) := fun d => row_at d 3 _ mod
    have e4 : ∀ d, extractStridedSlice S1x1024 ![4, 0] mod slices_S6x1024_o4_0_S1x1024 (ix2 0 d) = mod (ix2 4 d) := fun d => row_at d 4 _ mod
    simp only [norms_at, e3, e4]
  generalize (truncf .bf16 (modulate (norms x g) (extractStridedSlice S1x1024 ![3, 0] mod slices_S6x1024_o3_0_S1x1024) (extractStridedSlice S1x1024 ![4, 0] mod slices_S6x1024_o4_0_S1x1024)) bitsLt_bf16_f32) = h at *
  show x (ix2 r d) + lines (F := Ideal) _ (ix2 r d) * down (F := Ideal) _ _ (ix2 r d) = _
  rw [lines_at, down_at]
  refine congrArg₂ (· + ·) rfl (congrArg₂ (· * ·) (row_at d 5 _ mod) (Finset.sum_congr rfl fun j _ => congrArg₂ (· * ·) ?_ rfl))
  show silu (up h w1) (ix2 r j) * up h w3 (ix2 r j) = _
  rw [silu_at, up_at, up_at]
  simp only [hh]
  rfl
end

theorem tile_at (x : Vec Ideal S1x256x1024 .f32) (mod : Vec Ideal S1x1x6x1024 .f32) (g : Vec Ideal S1x1x1024 .f32) (w1 w3 : Vec Ideal S1x1024x2816 .bf16) (w2 : Vec Ideal S1x2816x1024 .bf16)
    (fg : Vec Ideal S1x1024 .f32) (r : Fin 256) (d : Fin 1024) :
    tile x mod g w1 w3 w2 fg (ix3 0 r d) = Cert.Ffn.normed (Cert.Ffn.channel (fun d => x (ix3 0 r d)) (fun d => mod (ix4 0 0 3 d)) (fun d => mod (ix4 0 0 4 d))
      (fun d => mod (ix4 0 0 5 d)) (fun d => g (ix3 0 0 d)) (fun d j => w1 (ix3 0 d j)) (fun d j => w3 (ix3 0 d j)) (fun j d => w2 (ix3 0 j d))) (fun d => fg (ix2 0 d)) d := by
  have e0 : ∀ y : FVec Ideal S256x1024 .f32, shapeCast S1x256x1024 y shapeCasts_S256x1024_S1x256x1024 (ix3 0 r d) = y (ix2 r d) := fun y => by pointwise []
  have e1 : ∀ d, shapeCast S256x1024 x shapeCasts_S1x256x1024_S256x1024 (ix2 r d) = x (ix3 0 r d) := fun d => by pointwise []
  have e2 : ∀ n d, shapeCast S6x1024 mod shapeCasts_S1x1x6x1024_S6x1024 (ix2 n d) = mod (ix4 0 0 n d) := fun n d => by pointwise []
  have e3 : ∀ d, shapeCast S1x1024 g shapeCasts_S1x1x1024_S1x1024 (ix2 0 d) = g (ix3 0 0 d) := fun d => by pointwise []
  have e4 : ∀ d, shapeCast S1x1024 fg shapeCasts_S1x1024_S1x1024 (ix2 0 d) = fg (ix2 0 d) := fun d => by pointwise []
  unfold tile
  rw [e0, norms_at]
  simp only [channel_at, e1, e2, e3, e4]

end Cert.Kernel2Ideal.Ffn
end
-- ==== Proof.Ffn.Block.lean ====
/- One grid point's output block at an index, over the extended reals: two tiles of 256 tokens. -/
module

public import proofs.«01_k».proof.Proof.Ffn.Tile
public import Idealize.ShloMosaic.Lib.Pipeline.ValueKit

@[expose] public section

set_option synthInstance.maxSize 4096
set_option maxRecDepth 16384

noncomputable section

namespace Cert.Kernel2Ideal.Ffn

open Cert.Kernel2Ideal.Gen Idealize.ShloMosaic Idealize.SL.Sem

section
variable (x0 : Vec Ideal S1x512x1024 .f32) (x1 x2 : Vec Ideal S1x1x6x1024 .f32) (x3 : Vec Ideal S1x1x1024 .f32) (x4 x5 : Vec Ideal S1x1024x2816 .bf16)
  (x6 : Vec Ideal S1x2816x1024 .bf16) (x7 : Vec Ideal S1x1024 .f32)

/-- What a block's token becomes. -/
def token (n : Fin 512) (d : Fin 1024) : EReal :=
  Cert.Ffn.normed (Cert.Ffn.channel (fun d => x0 (ix3 0 n d)) (fun d => x1 (ix4 0 0 3 d)) (fun d => x1 (ix4 0 0 4 d)) (fun d => x1 (ix4 0 0 5 d))
    (fun d => x3 (ix3 0 0 d)) (fun d j => x4 (ix3 0 d j)) (fun d j => x5 (ix3 0 d j)) (fun j d => x6 (ix3 0 j d))) (fun d => x7 (ix2 0 d)) d

theorem ld_mod : View.ld x1 r0_0 = x1 := by
  funext y
  pointwise []
  exact congrArg x1 (funext fun a => by fin_cases a <;> first | rfl | exact Subsingleton.elim (α := Fin 1) _ _)

theorem ld_gain : View.ld x3 r0_2 = x3 := by
  funext y
  pointwise []
  exact congrArg x3 (funext fun a => by fin_cases a <;> first | rfl | exact Subsingleton.elim (α := Fin 1) _ _)

theorem ld_up : View.ld x4 r0_3 = x4 := by
  funext y
  pointwise []
  exact congrArg x4 (funext fun a => by fin_cases a <;> first | rfl | exact Subsingleton.elim (α := Fin 1) _ _)

theorem ld_down : View.ld x6 r0_4 = x6 := by
  funext y
  pointwise []
  exact congrArg x6 (funext fun a => by fin_cases a <;> first | rfl | exact Subsingleton.elim (α := Fin 1) _ _)

theorem ld_final : View.ld x7 r0_5 = x7 := by
  funext y
  pointwise []
  exact congrArg x7 (funext fun a => by fin_cases a <;> first | rfl | exact Subsingleton.elim (α := Fin 1) _ _)

theorem ld_first (r : Fin 256) (d : Fin 1024) : View.ld x0 r0_1 (ix3 0 r d) = x0 (ix3 0 ⟨r, by omega⟩ d) := by
  pointwise []

theorem ld_second (r : Fin 256) (d : Fin 1024) : View.ld x0 r0_6 (ix3 0 r d) = x0 (ix3 0 ⟨256 + r, by omega⟩ d) := by
  pointwise []

theorem token_of (z : Vec Ideal S1x256x1024 .f32) (r : Fin 256) (n : Fin 512) (h : ∀ d, z (ix3 0 r d) = x0 (ix3 0 n d)) (x : S1x256x1024.Idx) (hr : r.val = (x 1).val) :
    tile z x1 x3 x4 x5 x6 x7 x = token x0 x1 x3 x4 x5 x6 x7 n (x 2) := by
  obtain ⟨d, hd⟩ : ∃ d : Fin 1024, d = x 2 := ⟨x 2, rfl⟩
  have hx : x = ix3 0 r d := by
    funext a
    fin_cases a
    · exact Subsingleton.elim (α := Fin 1) _ _
    · exact Fin.ext hr.symm
    · exact hd.symm
  rw [← hd, hx, tile_at, token]
  simp only [h]

theorem block_at (i : grid0.Coords) (y : S1x512x1024.Idx) :
    out0_8 i x0 x1 x2 x3 x4 x5 x6 x7 y = token x0 x1 x3 x4 x5 x6 x7 (y 1) (y 2) := by
  unfold out0_8
  rw [first_eq, second_eq, ld_mod, ld_gain, ld_up, ld_up, ld_down, ld_final]
  canon_tiles x hx
  · exact token_of x0 x1 x3 x4 x5 x6 x7 _ ⟨x 1, x1_lt⟩ (y 1) (fun d => (ld_second x0 _ d).trans (congrArg (fun n => x0 (ix3 0 n d)) (Fin.ext hx1.symm))) x rfl
      |>.trans (congrArg _ (Fin.ext hx2.symm))
  · exact token_of x0 x1 x3 x4 x5 x6 x7 _ ⟨x 1, x1_lt⟩ (y 1) (fun d => (ld_first x0 _ d).trans (congrArg (fun n => x0 (ix3 0 n d)) (Fin.ext hx1.symm))) x rfl
      |>.trans (congrArg _ (Fin.ext hx2.symm))
end

end Cert.Kernel2Ideal.Ffn
end
-- ==== Proof.Ffn.Array.lean ====
/- The channel call's result array at an index, over the extended reals, from its operands as the region finds them. -/
module

public import proofs.«01_k».proof.Proof.Gen.Kernel2Ideal.Value
public import proofs.«01_k».proof.Proof.Ffn.Block

@[expose] public section

set_option synthInstance.maxSize 4096
set_option maxRecDepth 16384

noncomputable section

namespace Cert.Kernel2Ideal.Ffn

open Cert.Kernel2Ideal.Gen Idealize.ShloMosaic Idealize.ShloMosaic.TcCoe Idealize.SL.Sem

/-- What a token of the stream becomes. -/
def Row (X : FVec Ideal S2x8192x1024 .f32) (M : FVec Ideal S2x8x6x1024 .f32) (G : FVec Ideal S2x1x1024 .f32) (W1 W3 : FVec Ideal S2x1024x2816 .bf16)
    (W2 : FVec Ideal S2x2816x1024 .bf16) (FG : FVec Ideal S1x1024 .f32) (b : Fin 2) (n : Fin 8192) (d : Fin 1024) : EReal :=
  Cert.Ffn.normed (Cert.Ffn.channel (fun d => X (ix3 b n d)) (fun d => M (ix4 1 ⟨b, by omega⟩ 3 d)) (fun d => M (ix4 1 ⟨b, by omega⟩ 4 d)) (fun d => M (ix4 1 ⟨b, by omega⟩ 5 d))
    (fun d => G (ix3 1 0 d)) (fun d j => W1 (ix3 1 d j)) (fun d j => W3 (ix3 1 d j)) (fun j d => W2 (ix3 1 j d))) (fun d => FG (ix2 0 d)) d

theorem row_eq (X : FVec Ideal S2x8192x1024 .f32) (M : FVec Ideal S2x8x6x1024 .f32) (G : FVec Ideal S2x1x1024 .f32) (W1 W3 : FVec Ideal S2x1024x2816 .bf16)
    (W2 : FVec Ideal S2x2816x1024 .bf16) (FG : FVec Ideal S1x1024 .f32) (b : Fin 2) (n : Fin 8192) (d : Fin 1024) (g f : Fin 1024 → EReal)
    (hG : ∀ d : Fin 1024, G (ix3 1 0 d) = g d) (hF : ∀ d : Fin 1024, FG (ix2 0 d) = f d) :
    Row X M G W1 W3 W2 FG b n d = Cert.Ffn.normed (Cert.Ffn.channel (fun d => X (ix3 b n d)) (fun d => M (ix4 1 ⟨b, by omega⟩ 3 d)) (fun d => M (ix4 1 ⟨b, by omega⟩ 4 d))
      (fun d => M (ix4 1 ⟨b, by omega⟩ 5 d)) g (fun d j => W1 (ix3 1 d j)) (fun d j => W3 (ix3 1 d j)) (fun j d => W2 (ix3 1 j d))) f d := by
  unfold Row
  simp only [hG, hF]

variable (m : (ℓ : Loc nD τ sig) → Buf (Elt Ideal) ℓ)

theorem idx : ∀ t : Fin cfg0.N, (win0_8.index t 0 < 2 ∧ win0_8.index t 1 < 16 ∧ win0_8.index t 2 = 0)
    ∧ (win0_0.index t 0 = win0_8.index t 0 ∧ win0_0.index t 1 = win0_8.index t 1 ∧ win0_0.index t 2 = 0)
    ∧ (win0_1.index t 0 = 1 ∧ win0_1.index t 1 = win0_8.index t 0 ∧ win0_1.index t 2 = 0 ∧ win0_1.index t 3 = 0)
    ∧ (win0_3.index t 0 = 1 ∧ win0_3.index t 1 = 0 ∧ win0_3.index t 2 = 0)
    ∧ (win0_4.index t 0 = 1 ∧ win0_4.index t 1 = 0 ∧ win0_4.index t 2 = 0)
    ∧ (win0_5.index t 0 = 1 ∧ win0_5.index t 1 = 0 ∧ win0_5.index t 2 = 0)
    ∧ (win0_6.index t 0 = 1 ∧ win0_6.index t 1 = 0 ∧ win0_6.index t 2 = 0)
    ∧ win0_7.index t 0 = 0 ∧ win0_7.index t 1 = 0 :=
  (by decide +kernel : ∀ t : Fin grid0.N, (win0_8.index t 0 < 2 ∧ win0_8.index t 1 < 16 ∧ win0_8.index t 2 = 0)
    ∧ (win0_0.index t 0 = win0_8.index t 0 ∧ win0_0.index t 1 = win0_8.index t 1 ∧ win0_0.index t 2 = 0)
    ∧ (win0_1.index t 0 = 1 ∧ win0_1.index t 1 = win0_8.index t 0 ∧ win0_1.index t 2 = 0 ∧ win0_1.index t 3 = 0)
    ∧ (win0_3.index t 0 = 1 ∧ win0_3.index t 1 = 0 ∧ win0_3.index t 2 = 0)
    ∧ (win0_4.index t 0 = 1 ∧ win0_4.index t 1 = 0 ∧ win0_4.index t 2 = 0)
    ∧ (win0_5.index t 0 = 1 ∧ win0_5.index t 1 = 0 ∧ win0_5.index t 2 = 0)
    ∧ (win0_6.index t 0 = 1 ∧ win0_6.index t 1 = 0 ∧ win0_6.index t 2 = 0)
    ∧ win0_7.index t 0 = 0 ∧ win0_7.index t 1 = 0)

theorem read0 (A : FVec Ideal S2x8192x1024 .f32) (t : Fin cfg0.N) (r : Fin 512) (d : Fin 1024) (b : Fin 2) (n : Fin 8192)
    (hb : b.val = win0_8.index t 0) (hn : n.val = 512 * win0_8.index t 1 + r) :
    ((cfg0.win 0).blk t).view.read (Elt Ideal) A (ix3 0 r d) = A (ix3 b n d) := by
  obtain ⟨_, ⟨h0, h1, h2⟩, _⟩ := idx t
  blk_ext [h0, h1, h2]

theorem read1 (A : FVec Ideal S2x8x6x1024 .f32) (t : Fin cfg0.N) (k : Fin 6) (d : Fin 1024) (b : Fin 8) (hb : b.val = win0_8.index t 0) :
    ((cfg0.win 1).blk t).view.read (Elt Ideal) A (ix4 0 0 k d) = A (ix4 1 b k d) := by
  obtain ⟨_, _, ⟨h0, h1, h2, h3⟩, _⟩ := idx t
  blk_ext [h0, h1, h2, h3]

theorem read3 (A : FVec Ideal S2x1x1024 .f32) (t : Fin cfg0.N) (d : Fin 1024) :
    ((cfg0.win 3).blk t).view.read (Elt Ideal) A (ix3 0 0 d) = A (ix3 1 0 d) := by
  obtain ⟨_, _, _, ⟨h0, h1, h2⟩, _⟩ := idx t
  blk_ext [h0, h1, h2]

theorem read4 (A : FVec Ideal S2x1024x2816 .bf16) (t : Fin cfg0.N) (d : Fin 1024) (j : Fin 2816) :
    ((cfg0.win 4).blk t).view.read (Elt Ideal) A (ix3 0 d j) = A (ix3 1 d j) := by
  obtain ⟨_, _, _, _, ⟨h0, h1, h2⟩, _⟩ := idx t
  blk_ext [h0, h1, h2]

theorem read5 (A : FVec Ideal S2x1024x2816 .bf16) (t : Fin cfg0.N) (d : Fin 1024) (j : Fin 2816) :
    ((cfg0.win 5).blk t).view.read (Elt Ideal) A (ix3 0 d j) = A (ix3 1 d j) := by
  obtain ⟨_, _, _, _, _, ⟨h0, h1, h2⟩, _⟩ := idx t
  blk_ext [h0, h1, h2]

theorem read6 (A : FVec Ideal S2x2816x1024 .bf16) (t : Fin cfg0.N) (j : Fin 2816) (d : Fin 1024) :
    ((cfg0.win 6).blk t).view.read (Elt Ideal) A (ix3 0 j d) = A (ix3 1 j d) := by
  obtain ⟨_, _, _, _, _, _, ⟨h0, h1, h2⟩, _⟩ := idx t
  blk_ext [h0, h1, h2]

theorem read7 (A : FVec Ideal S1x1024 .f32) (t : Fin cfg0.N) (d : Fin 1024) :
    ((cfg0.win 7).blk t).view.read (Elt Ideal) A (ix2 0 d) = A (ix2 0 d) := by
  obtain ⟨_, _, _, _, _, _, _, h0, h1⟩ := idx t
  blk_ext [h0, h1]

/-- Every element of the result, from the operands. -/
theorem arr_at (c : Dev nD) (i : S2x8192x1024.Idx) :
    (dats m 0 c).arrAt 8 cfg0.N i = Row (V m c main_arg0) (V m c main_arg1) (V m c main_v3) (V m c main_v0) (V m c main_v1) (V m c main_v2) (V m c main_v4) (i 0) (i 1) (i 2) := by
  refine (dats m 0 c).arrAt_forall_of_covers 8 (fun i v => v = Row (V m c main_arg0) (V m c main_arg1) (V m c main_v3) (V m c main_v0) (V m c main_v1) (V m c main_v2) (V m c main_v4) (i 0) (i 1) (i 2))
    (by decide +kernel) (fun t hf y => ?_) i
  blk_simp
  rw [after0_8]
  refine (block_at (iblk m c 0 t) (iblk m c 1 t) (iblk m c 2 t) (iblk m c 3 t) (iblk m c 4 t) (iblk m c 5 t) (iblk m c 6 t) (iblk m c 7 t) (grid0.coords t) y).trans ?_
  obtain ⟨⟨i0, i1, i2⟩, _⟩ := idx t
  have y0 : (y 0).val < 1 := (y 0).isLt
  obtain ⟨b, hb⟩ : ∃ b : Fin 2, b = (win0_8.blk t).view.emb y 0 := ⟨_, rfl⟩
  obtain ⟨n, hn⟩ : ∃ n : Fin 8192, n = (win0_8.blk t).view.emb y 1 := ⟨_, rfl⟩
  obtain ⟨d, hd⟩ : ∃ d : Fin 1024, d = (win0_8.blk t).view.emb y 2 := ⟨_, rfl⟩
  have e0 := congrArg Fin.val hb
  have e1 := congrArg Fin.val hn
  have e2 := congrArg Fin.val hd
  blk_simp at e0 e1 e2
  change b.val = win0_8.index t 0 at e0
  change n.val = win0_8.index t 1 * 512 + (y 1).val at e1
  change d.val = win0_8.index t 2 * 1024 + (y 2).val at e2
  obtain ⟨r, hr⟩ : ∃ r : Fin 512, r = y 1 := ⟨_, rfl⟩
  have hr' := congrArg Fin.val hr
  have hd' : d = y 2 := Fin.ext (by omega)
  rw [← hb, ← hn, ← hd]
  refine (congrArg₂ (token (iblk m c 0 t) (iblk m c 1 t) (iblk m c 3 t) (iblk m c 4 t) (iblk m c 5 t) (iblk m c 6 t) (iblk m c 7 t)) hr.symm hd'.symm).trans ?_
  unfold token Row
  have a0 : ∀ d, iblk m c 0 t (ix3 0 r d) = (V m c main_arg0 : FVec Ideal S2x8192x1024 .f32) (ix3 b n d) := fun d => read0 _ t r d b n (by omega) (by omega)
  have a1 : ∀ k d, iblk m c 1 t (ix4 0 0 k d) = (V m c main_arg1 : FVec Ideal S2x8x6x1024 .f32) (ix4 1 ⟨b, by omega⟩ k d) := fun k d => read1 _ t k d ⟨b, by omega⟩ (by simp only; omega)
  have a3 : ∀ d, iblk m c 3 t (ix3 0 0 d) = (V m c main_v3 : FVec Ideal S2x1x1024 .f32) (ix3 1 0 d) := fun d => read3 _ t d
  have a4 : ∀ d j, iblk m c 4 t (ix3 0 d j) = (V m c main_v0 : FVec Ideal S2x1024x2816 .bf16) (ix3 1 d j) := fun d j => read4 _ t d j
  have a5 : ∀ d j, iblk m c 5 t (ix3 0 d j) = (V m c main_v1 : FVec Ideal S2x1024x2816 .bf16) (ix3 1 d j) := fun d j => read5 _ t d j
  have a6 : ∀ j d, iblk m c 6 t (ix3 0 j d) = (V m c main_v2 : FVec Ideal S2x2816x1024 .bf16) (ix3 1 j d) := fun j d => read6 _ t j d
  have a7 : ∀ d, iblk m c 7 t (ix2 0 d) = (V m c main_v4 : FVec Ideal S1x1024 .f32) (ix2 0 d) := fun d => read7 _ t d
  simp only [a0, a1, a3, a4, a5, a6, a7]

end Cert.Kernel2Ideal.Ffn
end
-- ==== Proof.Ffn.Entry.lean ====
/- The channel call's host operands, from the arguments: casts and reshapes of them. -/
module

public import proofs.«01_k».proof.Proof.Gen.Kernel2Ideal.Value
public import Idealize.ShloMosaic.PureOps.Ideal
public import Idealize.ShloMosaic.Lib.Pointwise
public import Idealize.ShloMosaic.Lib.StableHlo.Run
public import Idealize.ShloMosaic.Lib.StableHlo.RunRead

@[expose] public section

set_option synthInstance.maxSize 4096
set_option maxRecDepth 16384

noncomputable section

namespace Cert.Kernel2Ideal.Ffn

open Cert.Kernel2Ideal.Gen Idealize.ShloMosaic Idealize.ShloMosaic.TcCoe Idealize.SL.Sem

variable (m : (ℓ : Loc nD τ sig) → Buf (Elt Ideal) ℓ) (c : Dev nD)

theorem V_w1 : V m c main_v0 = (m (c.tc.loc main_arg3) : FVec Ideal S2x1024x2816 .f32) := by
  unfold_abbrev_sides
  after_reads_simp <;> rfl

theorem V_w3 : V m c main_v1 = (m (c.tc.loc main_arg4) : FVec Ideal S2x1024x2816 .f32) := by
  unfold_abbrev_sides
  after_reads_simp <;> rfl

theorem V_w2 : V m c main_v2 = (m (c.tc.loc main_arg5) : FVec Ideal S2x2816x1024 .f32) := by
  unfold_abbrev_sides
  after_reads_simp <;> rfl

theorem V_gain : V m c main_v3 = shapeCast S2x1x1024 (m (c.tc.loc main_arg2) : FVec Ideal S2x1024 .f32) shapeCasts_S2x1024_S2x1x1024 := by
  unfold_abbrev_sides
  after_reads_simp <;> rfl

theorem V_final : V m c main_v4 = shapeCast S1x1024 (m (c.tc.loc main_arg6) : FVec Ideal S1024 .f32) shapeCasts_S1024_S1x1024 := by
  unfold_abbrev_sides
  after_reads_simp <;> rfl

theorem gain_at (g : FVec Ideal S2x1024 .f32) (d : Fin 1024) : shapeCast S2x1x1024 g shapeCasts_S2x1024_S2x1x1024 (ix3 1 0 d) = g (ix2 1 d) := by
  pointwise []

theorem final_at (g : FVec Ideal S1024 .f32) (d : Fin 1024) : shapeCast S1x1024 g shapeCasts_S1024_S1x1024 (ix2 0 d) = g (ix1 d) := by
  pointwise []

end Cert.Kernel2Ideal.Ffn
end
-- ==== Proof.Ffn.Ref.lean ====
/- The reference's result at an index. -/
module

public import proofs.«01_k».proof.Proof.Gen.Reference2Ideal.Run
public import proofs.«01_k».proof.Proof.Ffn.Swiglu
public import Idealize.ShloMosaic.PureOps.Ideal
public import Idealize.ShloMosaic.Lib.Pointwise
public import Idealize.ShloMosaic.Lib.IdealHost

@[expose] public section

set_option synthInstance.maxSize 4096
set_option maxRecDepth 16384

noncomputable section

namespace Cert.Reference2Ideal.Ffn

open Cert.Reference2Ideal.Gen Idealize.ShloMosaic Idealize.ShloMosaic.TcCoe Idealize.SL.Sem

section
variable {F : FTy → Type} [FloatOps F]

/-- A sample's line on each of its tokens. -/
def perSample (v : FVec F S2x1x1024 .f32) : FVec F S2x8192x1024 .f32 :=
  broadcastInDim S2x8192x1024 ![0, 1, 2] bcast_S2x1x1024_S2x8192x1024_0_1_2 v

/-- One of the second layer's modulation lines of every sample. -/
def line (n : ℕ) (h : S2x8x6x1024.Slices ![1, 0, n, 0] S1x2x1x1024) (m : FVec F S2x8x6x1024 .f32) : FVec F S2x1x1024 .f32 :=
  broadcastInDim S2x1x1024 ![0, 2] bcast_S2x1024_S2x1x1024_0_2 (shapeCast S2x1024 (extractStridedSlice S1x2x1x1024 ![1, 0, n, 0] m h) shapeCasts_S1x2x1x1024_S2x1024)

/-- Gains on every token. -/
def gains (g : FVec F S1024 .f32) : FVec F S2x8192x1024 .f32 :=
  broadcastInDim S2x8192x1024 ![0, 1, 2] bcast_S1x1x1024_S2x8192x1024_0_1_2 (broadcastInDim S1x1x1024 ![2] bcast_S1024_S1x1x1024_2 g)

def squares (x : FVec F S2x8192x1024 .f32) : FVec F S2x8192 .f32 :=
  Host.reduceAdd (mulf x x) (constant S_ .f32 0x00000000#32) reducesTo_S2x8192x1024_S2x8192_d2 h_S_

def scales (s : FVec F S2x8192 .f32) : FVec F S2x8192x1024 .f32 :=
  broadcastInDim S2x8192x1024 ![0, 1, 2] bcast_S2x8192x1_S2x8192x1024_0_1_2 (Host.rsqrt (addf (Host.divf (broadcastInDim S2x8192x1 ![0, 1] bcast_S2x8192_S2x8192x1_0_1 s)
    (broadcastInDim S2x8192x1 ![] bcast_S_S2x8192x1 (constant S_ .f32 0x44800000#32))) (broadcastInDim S2x8192x1 ![] bcast_S_S2x8192x1 (constant S_ .f32 0x358637BD#32))))

def norms (x : FVec F S2x8192x1024 .f32) (g : FVec F S1024 .f32) : FVec F S2x8192x1024 .f32 :=
  mulf (mulf x (scales (squares x))) (gains g)

def modulate (x : FVec F S2x8192x1024 .f32) (sh sc : FVec F S2x1x1024 .f32) : FVec F S2x8192x1024 .f32 :=
  addf (mulf x (perSample (addf (broadcastInDim S2x1x1024 ![] bcast_S_S2x1x1024 (constant S_ .f32 0x3F800000#32)) sc))) (perSample sh)

def up (h : FVec F S2x8192x1024 .f32) (w : FVec F S2x1024x2816 .f32) : FVec F S2x8192x2816 .f32 :=
  Host.dotGeneral dot_S2x8192x1024_S1024x2816_S2x8192x2816_2_0_01_1_n_n none h
    (shapeCast S1024x2816 (extractStridedSlice S1x1024x2816 ![1, 0, 0] w slices_S2x1024x2816_S1x1024x2816_1_0_0) shapeCasts_S1x1024x2816_S1024x2816)

def silu (u : FVec F S2x8192x2816 .f32) : FVec F S2x8192x2816 .f32 :=
  mulf u (Host.divf (broadcastInDim S2x8192x2816 ![] bcast_S_S2x8192x2816 (constant S_ .f32 0x3F800000#32))
    (addf (broadcastInDim S2x8192x2816 ![] bcast_S_S2x8192x2816 (constant S_ .f32 0x3F800000#32)) (Host.exp (Host.negf u))))

def down (a : FVec F S2x8192x2816 .f32) (w : FVec F S2x2816x1024 .f32) : FVec F S2x8192x1024 .f32 :=
  Host.dotGeneral dot_S2x8192x2816_S2816x1024_S2x8192x1024_2_0_01_1_n_n none a
    (shapeCast S2816x1024 (extractStridedSlice S1x2816x1024 ![1, 0, 0] w slices_S2x2816x1024_S1x2816x1024_1_0_0) shapeCasts_S1x2816x1024_S2816x1024)

def gate (h : FVec F S2x8192x1024 .f32) (w1 w3 : FVec F S2x1024x2816 .f32) : FVec F S2x8192x2816 .f32 := mulf (silu (up h w1)) (up h w3)

/-- The tokens after the channel part of the second layer. -/
def channel (x : FVec F S2x8192x1024 .f32) (m : FVec F S2x8x6x1024 .f32) (g : FVec F S2x1024 .f32) (w1 w3 : FVec F S2x1024x2816 .f32) (w2 : FVec F S2x2816x1024 .f32) :
    FVec F S2x8192x1024 .f32 :=
  addf x (mulf (perSample (line 5 slices_S2x8x6x1024_S1x2x1x1024_1_0_5_0 m))
    (down (gate (modulate (norms x (shapeCast S1024 (extractStridedSlice S1x1024 ![1, 0] g slices_S2x1024_S1x1024_1_0) shapeCasts_S1x1024_S1024))
      (line 3 slices_S2x8x6x1024_S1x2x1x1024_1_0_3_0 m) (line 4 slices_S2x8x6x1024_S1x2x1x1024_1_0_4_0 m)) w1 w3) w2))
end

theorem res_eq (m : (ℓ : Loc nD τ sig) → Buf (Elt Ideal) ℓ) (c : Dev nD) :
    Value.res_out0 m c = norms (F := Ideal) (channel (F := Ideal) (m (c.tc.loc main_arg0)) (m (c.tc.loc main_arg1)) (m (c.tc.loc main_arg2)) (m (c.tc.loc main_arg3)) (m (c.tc.loc main_arg4)) (m (c.tc.loc main_arg5)))
      (m (c.tc.loc main_arg6)) := by
  unfold Value.res_out0 Value.res_main_v56
  rfl

section
variable (x : FVec Ideal S2x8192x1024 .f32) (v sh sc : FVec Ideal S2x1x1024 .f32) (b : Fin 2) (n : Fin 8192) (d : Fin 1024) (j : Fin 2816)

theorem perSample_at : perSample v (ix3 b n d) = v (ix3 b 0 d) := by
  pointwise [perSample]

theorem line_at (k : Fin 6) (h : S2x8x6x1024.Slices ![1, 0, k.val, 0] S1x2x1x1024) (m : FVec Ideal S2x8x6x1024 .f32) :
    line k.val h m (ix3 b 0 d) = m (ix4 1 ⟨b, by omega⟩ k d) := by
  pointwise [line]

theorem gains_at (g : FVec Ideal S1024 .f32) : gains g (ix3 b n d) = g (ix1 d) := by
  pointwise [gains]

theorem squares_at : squares x (ix2 b n) = ∑ d, x (ix3 b n d) * x (ix3 b n d) := by
  pointwise [squares]

theorem scales_at (s : FVec Ideal S2x8192 .f32) : scales s (ix3 b n d) = Ideal.rsqrt (Ideal.div (s (ix2 b n)) (Ideal.ofBits .f32 0x44800000#32) + Ideal.ofBits .f32 0x358637BD#32) := by
  pointwise [scales]

theorem norms_at (g : FVec Ideal S1024 .f32) : norms x g (ix3 b n d) = Cert.Ffn.normed (fun d => x (ix3 b n d)) (fun d => g (ix1 d)) d := by
  show x (ix3 b n d) * scales (squares x) (ix3 b n d) * gains g (ix3 b n d) = _
  rw [scales_at, squares_at, gains_at]
  rfl

theorem modulate_at : modulate x sh sc (ix3 b n d) = Cert.Ffn.modulated (fun d => x (ix3 b n d)) (fun d => sh (ix3 b 0 d)) (fun d => sc (ix3 b 0 d)) d := by
  show x (ix3 b n d) * perSample (F := Ideal) _ (ix3 b n d) + perSample sh (ix3 b n d) = _
  rw [perSample_at, perSample_at]
  show x (ix3 b n d) * (Ideal.ofBits .f32 0x3F800000#32 + sc (ix3 b 0 d)) + sh (ix3 b 0 d) = _
  rw [Ideal.ofBits_one_f32]
  rfl

theorem up_at (w : FVec Ideal S2x1024x2816 .f32) : up x w (ix3 b n j) = ∑ d, x (ix3 b n d) * w (ix3 1 d j) := by
  pointwise [up]

theorem silu_at (u : FVec Ideal S2x8192x2816 .f32) : silu u (ix3 b n j) = u (ix3 b n j) * Ideal.logistic (u (ix3 b n j)) := by
  show u (ix3 b n j) * Ideal.div (Ideal.ofBits .f32 0x3F800000#32) (Ideal.ofBits .f32 0x3F800000#32 + Ideal.exp (-(u (ix3 b n j)))) = _
  rw [Ideal.ofBits_one_f32]
  rfl

theorem gate_at (w1 w3 : FVec Ideal S2x1024x2816 .f32) : gate x w1 w3 (ix3 b n j)
    = Cert.Ffn.hidden (fun d => x (ix3 b n d)) (fun d j => w1 (ix3 1 d j)) (fun d j => w3 (ix3 1 d j)) j := by
  show silu (up x w1) (ix3 b n j) * up x w3 (ix3 b n j) = _
  rw [silu_at, up_at, up_at]
  rfl

theorem down_at (a : FVec Ideal S2x8192x2816 .f32) (w : FVec Ideal S2x2816x1024 .f32) : down a w (ix3 b n d) = ∑ j, a (ix3 b n j) * w (ix3 1 j d) := by
  pointwise [down]

theorem gain_at (g : FVec Ideal S2x1024 .f32) : shapeCast S1024 (extractStridedSlice S1x1024 ![1, 0] g slices_S2x1024_S1x1024_1_0) shapeCasts_S1x1024_S1024 (ix1 d) = g (ix2 1 d) := by
  pointwise []

theorem channel_at (m : FVec Ideal S2x8x6x1024 .f32) (g : FVec Ideal S2x1024 .f32) (w1 w3 : FVec Ideal S2x1024x2816 .f32) (w2 : FVec Ideal S2x2816x1024 .f32) :
    channel x m g w1 w3 w2 (ix3 b n d) = Cert.Ffn.channel (fun d => x (ix3 b n d)) (fun d => m (ix4 1 ⟨b, by omega⟩ 3 d)) (fun d => m (ix4 1 ⟨b, by omega⟩ 4 d))
      (fun d => m (ix4 1 ⟨b, by omega⟩ 5 d)) (fun d => g (ix2 1 d)) (fun d j => w1 (ix3 1 d j)) (fun d j => w3 (ix3 1 d j)) (fun j d => w2 (ix3 1 j d)) d := by
  have e3 : ∀ d, line 3 slices_S2x8x6x1024_S1x2x1x1024_1_0_3_0 m (ix3 b 0 d) = m (ix4 1 ⟨b, by omega⟩ 3 d) := fun d => line_at b d 3 _ m
  have e4 : ∀ d, line 4 slices_S2x8x6x1024_S1x2x1x1024_1_0_4_0 m (ix3 b 0 d) = m (ix4 1 ⟨b, by omega⟩ 4 d) := fun d => line_at b d 4 _ m
  have e5 : ∀ d, line 5 slices_S2x8x6x1024_S1x2x1x1024_1_0_5_0 m (ix3 b 0 d) = m (ix4 1 ⟨b, by omega⟩ 5 d) := fun d => line_at b d 5 _ m
  show x (ix3 b n d) + perSample (F := Ideal) _ (ix3 b n d) * down (F := Ideal) _ _ (ix3 b n d) = _
  rw [perSample_at, down_at, e5]
  simp only [gate_at, modulate_at, norms_at, gain_at, e3, e4]
  rfl

/-- The reference's result: every token's line after the channel part, normed. -/
theorem out_at (m : FVec Ideal S2x8x6x1024 .f32) (g : FVec Ideal S2x1024 .f32) (w1 w3 : FVec Ideal S2x1024x2816 .f32) (w2 : FVec Ideal S2x2816x1024 .f32) (fg : FVec Ideal S1024 .f32) :
    norms (channel x m g w1 w3 w2) fg (ix3 b n d) = Cert.Ffn.normed (Cert.Ffn.channel (fun d => x (ix3 b n d)) (fun d => m (ix4 1 ⟨b, by omega⟩ 3 d)) (fun d => m (ix4 1 ⟨b, by omega⟩ 4 d))
      (fun d => m (ix4 1 ⟨b, by omega⟩ 5 d)) (fun d => g (ix2 1 d)) (fun d j => w1 (ix3 1 d j)) (fun d j => w3 (ix3 1 d j)) (fun j d => w2 (ix3 1 j d))) (fun d => fg (ix1 d)) d := by
  rw [norms_at]
  simp only [channel_at]
end

end Cert.Reference2Ideal.Ffn
end
-- ==== Proof.Ffn.Tie.lean ====
/- The channel call's result array is the reference's, of memories that agree on the arguments. -/
module

public import proofs.«01_k».proof.Defs
public import proofs.«01_k».proof.Proof.Ffn.Array
public import proofs.«01_k».proof.Proof.Ffn.Entry
public import proofs.«01_k».proof.Proof.Ffn.Ref

@[expose] public section

set_option synthInstance.maxSize 4096
set_option maxRecDepth 16384

noncomputable section

namespace Cert.Ffn

open Idealize.ShloMosaic Idealize.ShloMosaic.TcCoe Idealize.SL.Sem

abbrev MemK := (ℓ : Loc Kernel2Ideal.nD Kernel2Ideal.τ Kernel2Ideal.sig) → Buf (Elt Ideal) ℓ
abbrev MemR := (ℓ : Loc Reference2Ideal.nD Reference2Ideal.τ Reference2Ideal.sig) → Buf (Elt Ideal) ℓ

/-- The kernel's result at an index, from the arguments. -/
theorem kernel_at (m : MemK) (c : Dev Kernel2Ideal.nD) (b : Fin 2) (n : Fin 8192) (d : Fin 1024)
    (X : FVec Ideal Kernel2Ideal.S2x8192x1024 .f32) (hX : m (c.tc.loc Kernel2Ideal.main_arg0) = X)
    (M : FVec Ideal Kernel2Ideal.S2x8x6x1024 .f32) (hM : m (c.tc.loc Kernel2Ideal.main_arg1) = M)
    (g : FVec Ideal Kernel2Ideal.S2x1024 .f32) (hg : m (c.tc.loc Kernel2Ideal.main_arg2) = g)
    (w1 : FVec Ideal Kernel2Ideal.S2x1024x2816 .f32) (h1 : m (c.tc.loc Kernel2Ideal.main_arg3) = w1)
    (w3 : FVec Ideal Kernel2Ideal.S2x1024x2816 .f32) (h3 : m (c.tc.loc Kernel2Ideal.main_arg4) = w3)
    (w2 : FVec Ideal Kernel2Ideal.S2x2816x1024 .f32) (h2 : m (c.tc.loc Kernel2Ideal.main_arg5) = w2)
    (fg : FVec Ideal Kernel2Ideal.S1024 .f32) (hf : m (c.tc.loc Kernel2Ideal.main_arg6) = fg) :
    (Kernel2Ideal.Gen.dats m 0 c).arrAt 8 Kernel2Ideal.cfg0.N (ix3 b n d) = normed (channel (fun d => X (ix3 b n d)) (fun d => M (ix4 1 ⟨b, by omega⟩ 3 d)) (fun d => M (ix4 1 ⟨b, by omega⟩ 4 d))
      (fun d => M (ix4 1 ⟨b, by omega⟩ 5 d)) (fun d => g (ix2 1 d)) (fun d j => w1 (ix3 1 d j)) (fun d j => w3 (ix3 1 d j)) (fun j d => w2 (ix3 1 j d))) (fun d => fg (ix1 d)) d := by
  refine (Kernel2Ideal.Ffn.arr_at m c (ix3 b n d)).trans ?_
  rw [Kernel2Ideal.Gen.V_main_arg0, Kernel2Ideal.Gen.V_main_arg1, Kernel2Ideal.Ffn.V_w1, Kernel2Ideal.Ffn.V_w3, Kernel2Ideal.Ffn.V_w2, Kernel2Ideal.Ffn.V_gain, Kernel2Ideal.Ffn.V_final,
    hX, hM, hg, h1, h3, h2, hf]
  exact Kernel2Ideal.Ffn.row_eq _ _ _ _ _ _ _ b n d _ _ (Kernel2Ideal.Ffn.gain_at g) (Kernel2Ideal.Ffn.final_at fg)

theorem out_eq (m : MemK) (m' : MemR) (c : Dev Kernel2Ideal.nD)
    (h0 : m' ((c.tc : Thread Reference2Ideal.nD Reference2Ideal.τ).loc Reference2Ideal.main_arg0) = m ((c.tc : Thread Kernel2Ideal.nD Kernel2Ideal.τ).loc Kernel2Ideal.main_arg0))
    (h1 : m' ((c.tc : Thread Reference2Ideal.nD Reference2Ideal.τ).loc Reference2Ideal.main_arg1) = m ((c.tc : Thread Kernel2Ideal.nD Kernel2Ideal.τ).loc Kernel2Ideal.main_arg1))
    (h2 : m' ((c.tc : Thread Reference2Ideal.nD Reference2Ideal.τ).loc Reference2Ideal.main_arg2) = m ((c.tc : Thread Kernel2Ideal.nD Kernel2Ideal.τ).loc Kernel2Ideal.main_arg2))
    (h3 : m' ((c.tc : Thread Reference2Ideal.nD Reference2Ideal.τ).loc Reference2Ideal.main_arg3) = m ((c.tc : Thread Kernel2Ideal.nD Kernel2Ideal.τ).loc Kernel2Ideal.main_arg3))
    (h4 : m' ((c.tc : Thread Reference2Ideal.nD Reference2Ideal.τ).loc Reference2Ideal.main_arg4) = m ((c.tc : Thread Kernel2Ideal.nD Kernel2Ideal.τ).loc Kernel2Ideal.main_arg4))
    (h5 : m' ((c.tc : Thread Reference2Ideal.nD Reference2Ideal.τ).loc Reference2Ideal.main_arg5) = m ((c.tc : Thread Kernel2Ideal.nD Kernel2Ideal.τ).loc Kernel2Ideal.main_arg5))
    (h6 : m' ((c.tc : Thread Reference2Ideal.nD Reference2Ideal.τ).loc Reference2Ideal.main_arg6) = m ((c.tc : Thread Kernel2Ideal.nD Kernel2Ideal.τ).loc Kernel2Ideal.main_arg6)) :
    (Kernel2Ideal.Gen.dats m 0 c).arrAt 8 Kernel2Ideal.cfg0.N = Reference2Ideal.Value.res_out0 m' c := by
  rw [Reference2Ideal.Ffn.res_eq, h0, h1, h2, h3, h4, h5, h6]
  funext i
  obtain ⟨b, n, d, rfl⟩ : ∃ (b : Fin 2) (n : Fin 8192) (d : Fin 1024), i = ix3 b n d := ⟨i 0, i 1, i 2, ValueIdx.eq_ix3 i⟩
  exact (kernel_at m c b n d _ rfl _ rfl _ rfl _ rfl _ rfl _ rfl _ rfl).trans (Reference2Ideal.Ffn.out_at ..).symm

end Cert.Ffn
end
-- ==== Proof.Mix.Same.lean ====
/- The merge's program and its ideal form have one text. -/
module

public import proofs.«01_k».proof.Proof.Gen.Kernel3
public import proofs.«01_k».proof.Proof.Gen.Kernel3Ideal

@[expose] public section

set_option maxRecDepth 16384
set_option maxHeartbeats 4000000

noncomputable section

namespace Cert.Mix

open Idealize.ShloMosaic Idealize.SL.Sem

variable {F : FTy → Type} [FloatOps F]

/-- The table of the kernel's bodies: one label, and the body at it. -/
theorem bodies_same : Kernel3.defs₀ (F := F) = Kernel3Ideal.defs₀ (F := F) := by
  funext p l a
  cases p with
  | tc =>
    obtain ⟨_ | n, h⟩ := l
    · obtain ⟨t, s⟩ := a
      rfl
    · exact absurd h (by omega)
  | scScalar _ => rfl
  | scVector _ _ => rfl

theorem defs_same : Kernel3.defs (F := F) = Kernel3Ideal.defs (F := F) := congrArg (Pipeline.defs Kernel3Ideal.pcfgs) bodies_same

theorem main_same : Kernel3.main (F := F) = Kernel3Ideal.main (F := F) := rfl

end Cert.Mix
end
-- ==== Proof.Mix.Run.lean ====
/- The run of one grid point's body of the merge, and the pieces its stores leave. -/
module

public import proofs.«01_k».proof.Proof.Gen.Kernel3Ideal.Frame.Runs

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- What the body's stores leave in the output's buffer and the two scratch buffers, as pieces (last first), with the proof that
    the body runs from the inputs at their contents to the buffers with their pieces written. -/
noncomputable def kernelRun0_A (c : Dev nD) (i : grid0.Coords) (arg2 : Memref sig .tc .vmem S1x256x1024 .f32) (harg2 : arg2.IsWhole) (arg3 : Memref sig .tc .vmem S1x512x256 .bf16) (harg3 : arg3.IsWhole) (arg4 : Memref sig .tc .vmem S1x1x6x1024 .f32) (harg4 : arg4.IsWhole) (arg5 : Memref sig .tc .vmem S1x256x256 .f32) (harg5 : arg5.IsWhole) (arg6 : Memref sig .tc .vmem S1x16x256 .f32) (harg6 : arg6.IsWhole) (arg7 : Memref sig .tc .vmem S1x16x256 .f32) (harg7 : arg7.IsWhole) (arg8 : Memref sig .tc .vmem S1x256x256 .f32) (harg8 : arg8.IsWhole) (arg9 : Memref sig .tc .vmem S1x16x256 .f32) (harg9 : arg9.IsWhole) (arg10 : Memref sig .tc .vmem S1x16x256 .f32) (harg10 : arg10.IsWhole) (arg11 : Memref sig .tc .vmem S1x256x256 .f32) (harg11 : arg11.IsWhole) (arg12 : Memref sig .tc .vmem S1x1x1024 .f32) (harg12 : arg12.IsWhole) (arg13 : Memref sig .tc .vmem S1x1024x3200 .bf16) (harg13 : arg13.IsWhole) (arg14 : Memref sig .tc .vmem S1x512x1152 .bf16) (harg14 : arg14.IsWhole) (arg15 : Memref sig .tc .vmem S1x31x256 .f32) (harg15 : arg15.IsWhole) (arg16 : Memref sig .tc .vmem S1x1x256 .f32) (harg16 : arg16.IsWhole) (arg17 : Memref sig .tc .vmem S1x1x256 .f32) (harg17 : arg17.IsWhole) (arg18 : Memref sig .tc .vmem S1x1x256 .f32) (harg18 : arg18.IsWhole) (arg19 : Memref sig .tc .vmem S1x256x1152 .bf16) (harg19 : arg19.IsWhole) (arg20 : Memref sig .tc .vmem S1x3x256 .f32) (harg20 : arg20.IsWhole) (arg21 : Memref sig .tc .vmem S1x256x1152 .bf16) (harg21 : arg21.IsWhole) (arg22 : Memref sig .tc .vmem S1x1024x1152 .bf16) (harg22 : arg22.IsWhole) (arg23 : Memref sig .tc .vmem S1x256x1024 .f32) (harg23 : arg23.IsWhole) (arg24 : Memref sig .tc .vmem S288x256 .f32) (harg24 : arg24.IsWhole) (arg25 : Memref sig .tc .vmem S288x256 .f32) (harg25 : arg25.IsWhole)
    (x0 : Vec F S1x256x1024 .f32) (x1 : Vec F S1x512x256 .bf16) (x2 : Vec F S1x1x6x1024 .f32) (x3 : Vec F S1x256x256 .f32) (x4 : Vec F S1x16x256 .f32) (x5 : Vec F S1x16x256 .f32) (x6 : Vec F S1x256x256 .f32) (x7 : Vec F S1x16x256 .f32) (x8 : Vec F S1x16x256 .f32) (x9 : Vec F S1x256x256 .f32) (x10 : Vec F S1x1x1024 .f32) (x11 : Vec F S1x1024x3200 .bf16) (x12 : Vec F S1x512x1152 .bf16) (x13 : Vec F S1x31x256 .f32) (x14 : Vec F S1x1x256 .f32) (x15 : Vec F S1x1x256 .f32) (x16 : Vec F S1x1x256 .f32) (x17 : Vec F S1x256x1152 .bf16) (x18 : Vec F S1x3x256 .f32) (x19 : Vec F S1x256x1152 .bf16) (x20 : Vec F S1x1024x1152 .bf16) :
    Σ' (L21 : List (View.Piece (Elt F) S1x256x1024 .f32)), Σ' (LT0 : List (View.Piece (Elt F) S288x256 .f32)), { LT1 : List (View.Piece (Elt F) S288x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f LT0) ∗ (∃ f, arg25.view.loc (c : Thread nD τ) ↦[arg25.view.set]{fullShare} arg25.view.writes (Elt F) f LT1)) -∗ K ⟨⟩))
          ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, fun E K => ?run⟩
  case run =>
    simp only [cc0_merge_eq_skeleton]; unfold cc0_merge_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]; · iexists _; iexact H21
    isplitl [HS0]; · iexists _; iexact HS0
    iexists _; iexact HS1

end Cert.Kernel3Ideal.Gen

end
-- ==== Proof.Mix.Frame.lean ====
/- The frame of the merge: what its output holds point by point, the body obligation, the run of the program. -/
module

public import proofs.«01_k».proof.Proof.Mix.Run
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's one piece covers the output block. -/
theorem cover0_A_21 (c : Dev nD) (i : grid0.Coords) (arg2 : Memref sig .tc .vmem S1x256x1024 .f32) (harg2 : arg2.IsWhole) (arg3 : Memref sig .tc .vmem S1x512x256 .bf16) (harg3 : arg3.IsWhole) (arg4 : Memref sig .tc .vmem S1x1x6x1024 .f32) (harg4 : arg4.IsWhole) (arg5 : Memref sig .tc .vmem S1x256x256 .f32) (harg5 : arg5.IsWhole) (arg6 : Memref sig .tc .vmem S1x16x256 .f32) (harg6 : arg6.IsWhole) (arg7 : Memref sig .tc .vmem S1x16x256 .f32) (harg7 : arg7.IsWhole) (arg8 : Memref sig .tc .vmem S1x256x256 .f32) (harg8 : arg8.IsWhole) (arg9 : Memref sig .tc .vmem S1x16x256 .f32) (harg9 : arg9.IsWhole) (arg10 : Memref sig .tc .vmem S1x16x256 .f32) (harg10 : arg10.IsWhole) (arg11 : Memref sig .tc .vmem S1x256x256 .f32) (harg11 : arg11.IsWhole) (arg12 : Memref sig .tc .vmem S1x1x1024 .f32) (harg12 : arg12.IsWhole) (arg13 : Memref sig .tc .vmem S1x1024x3200 .bf16) (harg13 : arg13.IsWhole) (arg14 : Memref sig .tc .vmem S1x512x1152 .bf16) (harg14 : arg14.IsWhole) (arg15 : Memref sig .tc .vmem S1x31x256 .f32) (harg15 : arg15.IsWhole) (arg16 : Memref sig .tc .vmem S1x1x256 .f32) (harg16 : arg16.IsWhole) (arg17 : Memref sig .tc .vmem S1x1x256 .f32) (harg17 : arg17.IsWhole) (arg18 : Memref sig .tc .vmem S1x1x256 .f32) (harg18 : arg18.IsWhole) (arg19 : Memref sig .tc .vmem S1x256x1152 .bf16) (harg19 : arg19.IsWhole) (arg20 : Memref sig .tc .vmem S1x3x256 .f32) (harg20 : arg20.IsWhole) (arg21 : Memref sig .tc .vmem S1x256x1152 .bf16) (harg21 : arg21.IsWhole) (arg22 : Memref sig .tc .vmem S1x1024x1152 .bf16) (harg22 : arg22.IsWhole) (arg23 : Memref sig .tc .vmem S1x256x1024 .f32) (harg23 : arg23.IsWhole) (arg24 : Memref sig .tc .vmem S288x256 .f32) (harg24 : arg24.IsWhole) (arg25 : Memref sig .tc .vmem S288x256 .f32) (harg25 : arg25.IsWhole)
    (x0 : Vec F S1x256x1024 .f32) (x1 : Vec F S1x512x256 .bf16) (x2 : Vec F S1x1x6x1024 .f32) (x3 : Vec F S1x256x256 .f32) (x4 : Vec F S1x16x256 .f32) (x5 : Vec F S1x16x256 .f32) (x6 : Vec F S1x256x256 .f32) (x7 : Vec F S1x16x256 .f32) (x8 : Vec F S1x16x256 .f32) (x9 : Vec F S1x256x256 .f32) (x10 : Vec F S1x1x1024 .f32) (x11 : Vec F S1x1024x3200 .bf16) (x12 : Vec F S1x512x1152 .bf16) (x13 : Vec F S1x31x256 .f32) (x14 : Vec F S1x1x256 .f32) (x15 : Vec F S1x1x256 .f32) (x16 : Vec F S1x1x256 .f32) (x17 : Vec F S1x256x1152 .bf16) (x18 : Vec F S1x3x256 .f32) (x19 : Vec F S1x256x1152 .bf16) (x20 : Vec F S1x1024x1152 .bf16) (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).1 S1x256x1024.size (by sl_kernel_rfl) y

/-- What the run leaves in the output's buffer. -/
def out0_A_21 (c : Dev nD) (i : grid0.Coords) (arg2 : Memref sig .tc .vmem S1x256x1024 .f32) (harg2 : arg2.IsWhole) (arg3 : Memref sig .tc .vmem S1x512x256 .bf16) (harg3 : arg3.IsWhole) (arg4 : Memref sig .tc .vmem S1x1x6x1024 .f32) (harg4 : arg4.IsWhole) (arg5 : Memref sig .tc .vmem S1x256x256 .f32) (harg5 : arg5.IsWhole) (arg6 : Memref sig .tc .vmem S1x16x256 .f32) (harg6 : arg6.IsWhole) (arg7 : Memref sig .tc .vmem S1x16x256 .f32) (harg7 : arg7.IsWhole) (arg8 : Memref sig .tc .vmem S1x256x256 .f32) (harg8 : arg8.IsWhole) (arg9 : Memref sig .tc .vmem S1x16x256 .f32) (harg9 : arg9.IsWhole) (arg10 : Memref sig .tc .vmem S1x16x256 .f32) (harg10 : arg10.IsWhole) (arg11 : Memref sig .tc .vmem S1x256x256 .f32) (harg11 : arg11.IsWhole) (arg12 : Memref sig .tc .vmem S1x1x1024 .f32) (harg12 : arg12.IsWhole) (arg13 : Memref sig .tc .vmem S1x1024x3200 .bf16) (harg13 : arg13.IsWhole) (arg14 : Memref sig .tc .vmem S1x512x1152 .bf16) (harg14 : arg14.IsWhole) (arg15 : Memref sig .tc .vmem S1x31x256 .f32) (harg15 : arg15.IsWhole) (arg16 : Memref sig .tc .vmem S1x1x256 .f32) (harg16 : arg16.IsWhole) (arg17 : Memref sig .tc .vmem S1x1x256 .f32) (harg17 : arg17.IsWhole) (arg18 : Memref sig .tc .vmem S1x1x256 .f32) (harg18 : arg18.IsWhole) (arg19 : Memref sig .tc .vmem S1x256x1152 .bf16) (harg19 : arg19.IsWhole) (arg20 : Memref sig .tc .vmem S1x3x256 .f32) (harg20 : arg20.IsWhole) (arg21 : Memref sig .tc .vmem S1x256x1152 .bf16) (harg21 : arg21.IsWhole) (arg22 : Memref sig .tc .vmem S1x1024x1152 .bf16) (harg22 : arg22.IsWhole) (arg23 : Memref sig .tc .vmem S1x256x1024 .f32) (harg23 : arg23.IsWhole) (arg24 : Memref sig .tc .vmem S288x256 .f32) (harg24 : arg24.IsWhole) (arg25 : Memref sig .tc .vmem S288x256 .f32) (harg25 : arg25.IsWhole)
    (x0 : Vec F S1x256x1024 .f32) (x1 : Vec F S1x512x256 .bf16) (x2 : Vec F S1x1x6x1024 .f32) (x3 : Vec F S1x256x256 .f32) (x4 : Vec F S1x16x256 .f32) (x5 : Vec F S1x16x256 .f32) (x6 : Vec F S1x256x256 .f32) (x7 : Vec F S1x16x256 .f32) (x8 : Vec F S1x16x256 .f32) (x9 : Vec F S1x256x256 .f32) (x10 : Vec F S1x1x1024 .f32) (x11 : Vec F S1x1024x3200 .bf16) (x12 : Vec F S1x512x1152 .bf16) (x13 : Vec F S1x31x256 .f32) (x14 : Vec F S1x1x256 .f32) (x15 : Vec F S1x1x256 .f32) (x16 : Vec F S1x1x256 .f32) (x17 : Vec F S1x256x1152 .bf16) (x18 : Vec F S1x3x256 .f32) (x19 : Vec F S1x256x1152 .bf16) (x20 : Vec F S1x1024x1152 .bf16) : Vec F S1x256x1024 .f32 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).1)

/-! ## What the outputs hold after each point -/

/-- What the output's buffer holds after the body at point `t`. -/
def outsAt0 (c : Dev nD) (t : Fin cfg0.N) : Vec F S1x256x1024 .f32 :=
  out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)

/-! ## The pipeline's proof data -/

/-- The proof data: the arrays as found, each input's buffer at its block after the body, the output's at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (outsAt0 m c t)
    | ⟨_ + 22, h⟩ => absurd h (Nat.not_lt.2 (Nat.le_add_left _ _))
  Φ _ := Pipeline.ΦA spec0 c
  q w := Pipeline.shareOf spec0 w
  owed _ := 0

/-- The proof data's arrays are those found at entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = (outsAt0 m c t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 2400000 in
/-- The body at any point, from the run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  rw [show (dats m 0 c).Φ t.castSucc = Pipeline.ΦA spec0 c from rfl, PhiA0_eq]
  unfold outsAt0
  unfold out0_A_21
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [HS0]; · iexact HS0
  isplitl [HS1]; · iexact HS1
  iintro ⟨H0, H1, H2, H3, H4, H5, H6, H7, H8, H9, H10, H11, H12, H13, H14, H15, H16, H17, H18, H19, H20, ⟨%e21, H21⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  unfold owns; iexists _; isplitr
  swap; · iexact H21
  ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body at point `t`. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every execution ends, with the arrays at what the proof data gives. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.Kernel3Ideal.Gen

end
-- ==== Proof.Mix.Value.lean ====
/- What the merge leaves in its arrays. -/
module

public import proofs.«01_k».proof.Proof.Mix.Frame
public import Idealize.ShloMosaic.Lib.Pipeline.Value

@[expose] public section

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to the output array. -/
theorem flushed21 (c : Dev nD) (t : Fin cfg0.N) :
    (dats m 0 c).flushed 21 t = (cfg0.win 21).cut (grid0.coords t) (outsAt0 m c t) := by
  show (cfg0.win 21).cut (grid0.coords t) ((dats m 0 c).after 21 t) = _
  rw [after0_21]

/-- The same, as the run's named term. -/
theorem flushed21_A (c : Dev nD) (t : Fin cfg0.N) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) := by
  simp only [flushed21, outsAt0]

/-- Distinct points have distinct blocks. -/
theorem idx_inj21 : ∀ t t' : Fin cfg0.N, win0_21.index t = win0_21.index t' → t = t' :=
  (by decide +kernel : ∀ t t' : Fin grid0.N, win0_21.index t = win0_21.index t' → t = t')

/-- So their blocks share no index. -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- Block `t` of the final array is what point `t` wrote back. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index no block covers keeps its value. -/
theorem entry21 (c : Dev nD) (i : S2x8192x1024.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- The output array after the run. -/
theorem post21 (r : PUnit × MemSt nD τ sig (Elt F)) (h : Pipeline.FramePost cfgs (dats m) 0 (V m) r) (c : Dev nD) :
    r.2.mem ((c : Thread nD τ).loc main_v17) = (dats m 0 c).arrAt 21 cfg0.N :=
  (h c).1 21

/-- The argument is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The argument is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The argument is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The argument is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- The argument is as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 8).trans (((dats m 0 c).arrAt_in 8 rfl _).trans ((A_eq m c 8).trans (V_main_arg4 m c)))

/-- The argument is as launched. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 9).trans (((dats m 0 c).arrAt_in 9 rfl _).trans ((A_eq m c 9).trans (V_main_arg5 m c)))

/-- The argument is as launched. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The argument is as launched. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The argument is as launched. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The argument is as launched. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 13).trans (((dats m 0 c).arrAt_in 13 rfl _).trans ((A_eq m c 13).trans (V_main_arg9 m c)))

/-- The argument is as launched. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- The argument is as launched. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- The argument is as launched. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- The argument is as launched. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- The argument is as launched. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 18).trans (((dats m 0 c).arrAt_in 18 rfl _).trans ((A_eq m c 18).trans (V_main_arg14 m c)))

/-- The argument is as launched. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- The argument is as launched. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- The run with the output array named, the arguments unchanged. -/
theorem run_blocks : θ_run defs (onTc (τ := τ) (main (F := F))) ⟨m, fun _ => 0, ρ⟩ fun r => ∀ c : Dev nD,
      r.2.mem ((c : Thread nD τ).loc main_v17) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨post21 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c⟩)
    (run_main m ρ)

end Cert.Kernel3Ideal.Value

end
-- ==== Proof.Mix.Gated.lean ====
/- The merge of the three branches on one token's line, over the extended reals. -/
module

public import proofs.«01_k».proof.Proof.Ffn.Swiglu

@[expose] public section

noncomputable section

namespace Cert.Mix

open Idealize.ShloMosaic

/-- A channel's 8192 values with 16 zeros before them and zeros after. -/
def padded (u : Fin 8192 → EReal) (s : ℕ) : EReal := if h : 16 ≤ s ∧ s < 8208 then u ⟨s - 16, by omega⟩ else 0

/-- The weighted sum of the values from place `s` on. -/
def conv {K : ℕ} (w : Fin K → EReal) (p : ℕ → EReal) (s : ℕ) : EReal := ∑ k : Fin K, w k * p (s + k.val)

def mean (u : Fin 256 → EReal) : EReal := Ideal.div (∑ c, u c) (Ideal.ofBits .f32 0x43800000#32)

/-- One over the root of the line's variance and the small constant. -/
def spread (v : Fin 256 → EReal) : EReal := Ideal.rsqrt (Ideal.div (∑ c, v c * v c) (Ideal.ofBits .f32 0x43800000#32) + Ideal.ofBits .f32 0x358637BD#32)

/-- The line less its mean, scaled to variance one, times the gains, plus the offsets. -/
def layered (u g b : Fin 256 → EReal) (c : Fin 256) : EReal := (u c - mean u) * spread (fun c => u c - mean u) * g c + b c

def silu (x : EReal) : EReal := x * Ideal.logistic x

def gate (h : Fin 1024 → EReal) (w : Fin 1024 → Fin 1024 → EReal) (d : Fin 1024) : EReal := Ideal.logistic (∑ e, h e * w e d)

/-- The three branches' lines, each times its gate, summed. -/
def merged (h : Fin 1024 → EReal) (w0 w1 w2 : Fin 1024 → Fin 1024 → EReal) (att : Fin 512 → EReal) (wm : Fin 512 → Fin 1024 → EReal)
    (u : Fin 256 → EReal) (wc : Fin 256 → Fin 1024 → EReal) (s : Fin 256 → EReal) (ws : Fin 256 → Fin 1024 → EReal) (d : Fin 1024) : EReal :=
  gate h w0 d * (∑ j, att j * wm j d) + gate h w1 d * (∑ c, u c * wc c d) + gate h w2 d * (∑ c, s c * ws c d)

/-- The normed and modulated line. -/
def normed (x g sh sc : Fin 1024 → EReal) : Fin 1024 → EReal := Cert.Ffn.modulated (Cert.Ffn.normed x g) sh sc

/-- The convolution branch's line: the convolved values `u` under layer norm and silu. -/
def branch (u g b : Fin 256 → EReal) (c : Fin 256) : EReal := silu (layered u g b c)

/-- What a token becomes: itself plus the gated projection of the merged line. -/
def token (x g1 m : Fin 1024 → EReal) (wo : Fin 1024 → Fin 1024 → EReal) (d : Fin 1024) : EReal := x d + g1 d * ∑ e, m e * wo e d

theorem conv3 (w : Fin 3 → EReal) (p : ℕ → EReal) (s : ℕ) : w 1 * p (s + 1) + w 2 * p (s + 2) + w 0 * p s = conv w p s := by
  rw [conv, Fin.sum_univ_three]
  show _ = w 0 * p s + w 1 * p (s + 1) + w 2 * p (s + 2)
  abel

/-- The 31 products summed in the kernel's order: by the residue of the place, eight apart within one. -/
theorem conv31 (w : Fin 31 → EReal) (p : ℕ → EReal) (s : ℕ) :
    (w 7 * p (s + 7) + w 15 * p (s + 15) + w 23 * p (s + 23))
      + (w 0 * p (s + 0) + w 8 * p (s + 8) + w 16 * p (s + 16) + w 24 * p (s + 24))
      + (w 1 * p (s + 1) + w 9 * p (s + 9) + w 17 * p (s + 17) + w 25 * p (s + 25))
      + (w 2 * p (s + 2) + w 10 * p (s + 10) + w 18 * p (s + 18) + w 26 * p (s + 26))
      + (w 3 * p (s + 3) + w 11 * p (s + 11) + w 19 * p (s + 19) + w 27 * p (s + 27))
      + (w 4 * p (s + 4) + w 12 * p (s + 12) + w 20 * p (s + 20) + w 28 * p (s + 28))
      + (w 5 * p (s + 5) + w 13 * p (s + 13) + w 21 * p (s + 21) + w 29 * p (s + 29))
      + (w 6 * p (s + 6) + w 14 * p (s + 14) + w 22 * p (s + 22) + w 30 * p (s + 30)) = conv w p s := by
  have key : ∀ f : Fin 31 → EReal,
      (f 7 + f 15 + f 23) + (f 0 + f 8 + f 16 + f 24) + (f 1 + f 9 + f 17 + f 25) + (f 2 + f 10 + f 18 + f 26)
        + (f 3 + f 11 + f 19 + f 27) + (f 4 + f 12 + f 20 + f 28) + (f 5 + f 13 + f 21 + f 29) + (f 6 + f 14 + f 22 + f 30) = ∑ k, f k := by
    intro f
    rw [show (∑ k, f k) = ∑ i ∈ (List.finRange 31).toFinset, f i from by simp]
    rw [List.sum_toFinset _ (List.nodup_finRange 31)]
    simp only [List.finRange, List.ofFn_succ, List.ofFn_zero, List.map_cons, List.map_nil, List.sum_cons, List.sum_nil]
    show _ = f 0 + (f 1 + (f 2 + (f 3 + (f 4 + (f 5 + (f 6 + (f 7 + (f 8 + (f 9 + (f 10 + (f 11 + (f 12 + (f 13 + (f 14 + (f 15 + (f 16 + (f 17 + (f 18
      + (f 19 + (f 20 + (f 21 + (f 22 + (f 23 + (f 24 + (f 25 + (f 26 + (f 27 + (f 28 + (f 29 + (f 30 + 0))))))))))))))))))))))))))))))
    abel
  exact key fun k => w k * p (s + k.val)

end Cert.Mix
end
-- ==== Proof.Mix.Tile.lean ====
/- What one grid point computes of a tile of 256 tokens, at an index, over the extended reals. -/
module

public import proofs.«01_k».proof.Proof.Gen.Kernel3Ideal.Skeleton
public import proofs.«01_k».proof.Proof.Mix.Gated
public import Idealize.ShloMosaic.PureOps.Ideal
public import Idealize.ShloMosaic.Lib.Pointwise
public import Idealize.ShloMosaic.Lib.IdealHost

@[expose] public section

set_option synthInstance.maxSize 4096
set_option maxRecDepth 16384

noncomputable section

namespace Cert.Kernel3Ideal.Mix

open Cert.Kernel3Ideal.Gen Idealize.ShloMosaic Idealize.SL.Sem

section
variable {F : FTy → Type} [FloatOps F]

/-- One line on every token. -/
def lines (v : FVec F S1x1024 .f32) : FVec F S256x1024 .f32 := broadcastTo S256x1024 v broadcasts_S1x1024_S256x1024
def lines' (v : FVec F S1x256 .f32) : FVec F S256x256 .f32 := broadcastTo S256x256 v broadcasts_S1x256_S256x256

/-- Every token's sum of squares, and its scale to mean square one. -/
def squares (x : FVec F S256x1024 .f32) : FVec F S256 .f32 :=
  multiReduction .add [1] S256 (mulf x x) 0x00000000#32 reduces_S256x1024_S256 (.inl rfl) rfl
def scales (s : FVec F S256 .f32) : FVec F S256x1024 .f32 :=
  broadcastTo S256x1024 (rsqrt (addf (divf (shapeCast S256x1 s shapeCasts_S256_S256x1) (broadcast S256x1 (Scalar.ofBits .f32 0x44800000#32)))
    (broadcast S256x1 (Scalar.ofBits .f32 0x358637BD#32)))) broadcasts_S256x1_S256x1024

def norms (x : FVec F S256x1024 .f32) (g : FVec F S1x1024 .f32) : FVec F S256x1024 .f32 :=
  mulf (mulf x (scales (squares x))) (lines g)

def modulate (x : FVec F S256x1024 .f32) (sh sc : FVec F S1x1024 .f32) : FVec F S256x1024 .f32 :=
  addf (mulf x (lines (addf (broadcast S1x1024 (Scalar.ofBits .f32 0x3F800000#32)) sc))) (lines sh)

def gates (h : FVec F S256x1024 .bf16) (w : Vec F S1x1024x1024 .bf16) : FVec F S256x1024 .f32 :=
  matmul dot_S256x1024_S1024x1024_S256x1024_1_0_0_1_n_n none h (shapeCast S1024x1024 w shapeCasts_S1x1024x1024_S1024x1024) (constant S256x1024 .f32 0x00000000#32)

def sigm (u : FVec F S256x1024 .f32) : FVec F S256x1024 .f32 :=
  addf (mulf (broadcast S256x1024 (Scalar.ofBits .f32 0x3F000000#32)) (tanh (mulf (broadcast S256x1024 (Scalar.ofBits .f32 0x3F000000#32)) u)))
    (broadcast S256x1024 (Scalar.ofBits .f32 0x3F000000#32))

def attend (a : Vec F S1x512x256 .bf16) (w : Vec F S1x512x1024 .bf16) : FVec F S256x1024 .f32 :=
  matmul dot_S512x256_S512x1024_S256x1024_0_0_1_1_n_n none (shapeCast S512x256 a shapeCasts_S1x512x256_S512x256 : FVec F S512x256 .bf16)
    (shapeCast S512x1024 w shapeCasts_S1x512x1024_S512x1024) (constant S256x1024 .f32 0x00000000#32)

def project (a : FVec F S256x256 .f32) (w : Vec F S1x256x1024 .bf16) : FVec F S256x1024 .f32 :=
  matmul dot_S256x256_S256x1024_S256x1024_1_0_0_1_n_n none (truncf .bf16 a bitsLt_bf16_f32)
    (shapeCast S256x1024 w shapeCasts_S1x256x1024_S256x1024) (constant S256x1024 .f32 0x00000000#32)

/-- One tap: a weight of each channel times the rows it meets. -/
def tap (w : Vec F S1x1x256 .f32) (b : Vec F S264x256 .f32) : FVec F S264x256 .f32 :=
  mulf (broadcastTo S264x256 (shapeCast S1x256 w shapeCasts_S1x1x256_S1x256) broadcasts_S1x256_S264x256) b

/-- Four taps, eight rows apart. -/
def taps (w0 w1 w2 w3 : Vec F S1x1x256 .f32) (b0 b1 b2 b3 : Vec F S264x256 .f32) : FVec F S264x256 .f32 :=
  addf (addf (addf (tap w0 b0) (tap w1 b1)) (tap w2 b2)) (tap w3 b3)

def long (w : Fin 31 → Vec F S1x1x256 .f32) (b0 b1 b2 b3 : Vec F S264x256 .f32) : FVec F S256x256 .f32 :=
  addf (addf (addf (addf (addf (addf (addf
    (extractStridedSlice S256x256 ![0, 0] (addf (addf (tap (w 7) b1) (tap (w 15) b2)) (tap (w 23) b3)) slices_S264x256_o0_0_S256x256)
    (extractStridedSlice S256x256 ![1, 0] (taps (w 0) (w 8) (w 16) (w 24) b0 b1 b2 b3) slices_S264x256_o1_0_S256x256))
    (extractStridedSlice S256x256 ![2, 0] (taps (w 1) (w 9) (w 17) (w 25) b0 b1 b2 b3) slices_S264x256_o2_0_S256x256))
    (extractStridedSlice S256x256 ![3, 0] (taps (w 2) (w 10) (w 18) (w 26) b0 b1 b2 b3) slices_S264x256_o3_0_S256x256))
    (extractStridedSlice S256x256 ![4, 0] (taps (w 3) (w 11) (w 19) (w 27) b0 b1 b2 b3) slices_S264x256_o4_0_S256x256))
    (extractStridedSlice S256x256 ![5, 0] (taps (w 4) (w 12) (w 20) (w 28) b0 b1 b2 b3) slices_S264x256_o5_0_S256x256))
    (extractStridedSlice S256x256 ![6, 0] (taps (w 5) (w 13) (w 21) (w 29) b0 b1 b2 b3) slices_S264x256_o6_0_S256x256))
    (extractStridedSlice S256x256 ![7, 0] (taps (w 6) (w 14) (w 22) (w 30) b0 b1 b2 b3) slices_S264x256_o7_0_S256x256)

def short (w : Fin 3 → Vec F S1x1x256 .f32) (b1 b2 : Vec F S264x256 .f32) : FVec F S256x256 .f32 :=
  addf (addf (extractStridedSlice S256x256 ![0, 0] (tap (w 1) b2) slices_S264x256_o0_0_S256x256)
    (extractStridedSlice S256x256 ![1, 0] (tap (w 2) b2) slices_S264x256_o1_0_S256x256))
    (extractStridedSlice S256x256 ![7, 0] (tap (w 0) b1) slices_S264x256_o7_0_S256x256)

def sums (u : FVec F S256x256 .f32) : FVec F S256 .f32 :=
  multiReduction .add [1] S256 u 0x00000000#32 reduces_S256x256_S256 (.inl rfl) rfl

def centred (u : FVec F S256x256 .f32) : FVec F S256x256 .f32 :=
  subf u (broadcastTo S256x256 (divf (shapeCast S256x1 (sums u) shapeCasts_S256_S256x1) (broadcast S256x1 (Scalar.ofBits .f32 0x43800000#32))) broadcasts_S256x1_S256x256)

def spreads (v : FVec F S256x256 .f32) : FVec F S256x256 .f32 :=
  broadcastTo S256x256 (rsqrt (addf (divf (shapeCast S256x1 (sums (mulf v v)) shapeCasts_S256_S256x1) (broadcast S256x1 (Scalar.ofBits .f32 0x43800000#32)))
    (broadcast S256x1 (Scalar.ofBits .f32 0x358637BD#32)))) broadcasts_S256x1_S256x256

def layer (v : FVec F S256x256 .f32) (g b : Vec F S1x1x256 .f32) : FVec F S256x256 .f32 :=
  addf (mulf (mulf v (spreads v)) (lines' (shapeCast S1x256 g shapeCasts_S1x1x256_S1x256))) (lines' (shapeCast S1x256 b shapeCasts_S1x1x256_S1x256))

def silu (u : FVec F S256x256 .f32) : FVec F S256x256 .f32 :=
  mulf u (addf (mulf (broadcast S256x256 (Scalar.ofBits .f32 0x3F000000#32)) (tanh (mulf (broadcast S256x256 (Scalar.ofBits .f32 0x3F000000#32)) u)))
    (broadcast S256x256 (Scalar.ofBits .f32 0x3F000000#32)))

/-- The tile's normed and modulated lines. -/
def hidden (x : Vec F S1x256x1024 .f32) (g : Vec F S1x1x1024 .f32) (sh sc : Vec F S1x1x1x1024 .f32) : FVec F S256x1024 .bf16 :=
  truncf .bf16 (modulate (norms (shapeCast S256x1024 x shapeCasts_S1x256x1024_S256x1024) (shapeCast S1x1024 g shapeCasts_S1x1x1024_S1x1024))
    (shapeCast S1x1024 sh shapeCasts_S1x1x1x1024_S1x1024) (shapeCast S1x1024 sc shapeCasts_S1x1x1x1024_S1x1024)) bitsLt_bf16_f32

def merge (h : FVec F S256x1024 .bf16) (w0 w1 w2 : Vec F S1x1024x1024 .bf16) (att : Vec F S1x512x256 .bf16) (wm : Vec F S1x512x1024 .bf16)
    (u : FVec F S256x256 .f32) (wc : Vec F S1x256x1024 .bf16) (s : FVec F S256x256 .f32) (ws : Vec F S1x256x1024 .bf16) : FVec F S256x1024 .f32 :=
  addf (addf (mulf (sigm (gates h w0)) (attend att wm)) (mulf (sigm (gates h w1)) (project u wc))) (mulf (sigm (gates h w2)) (project s ws))

def branch (u : FVec F S256x256 .f32) (bias g b : Vec F S1x1x256 .f32) : FVec F S256x256 .f32 :=
  silu (layer (centred (addf u (lines' (shapeCast S1x256 bias shapeCasts_S1x1x256_S1x256)))) g b)

/-- What is stored of a tile. -/
def tile (x : Vec F S1x256x1024 .f32) (g1 : Vec F S1x1x1x1024 .f32) (m : FVec F S256x1024 .f32) (wo : Vec F S1x1024x1024 .bf16) : FVec F S1x256x1024 .f32 :=
  shapeCast S1x256x1024 (addf (shapeCast S256x1024 x shapeCasts_S1x256x1024_S256x1024) (mulf (lines (shapeCast S1x1024 g1 shapeCasts_S1x1x1x1024_S1x1024))
    (gates (truncf .bf16 m bitsLt_bf16_f32) wo))) shapeCasts_S256x1024_S1x256x1024

theorem hidden_eq (x : Vec F S1x256x1024 .f32) (g : Vec F S1x1x1024 .f32) (sh sc : Vec F S1x1x1x1024 .f32) :
    k0_pay16 (k0_pay11 x) (k0_pay12 g) (k0_pay13 sh) (k0_pay14 sc) (k0_pay15 x) (Scalar.ofBits .f32 0x358637BD#32) = hidden x g sh sc := rfl

theorem first_eq (x : Vec F S1x256x1024 .f32) (g : Vec F S1x1x1024 .f32) (sh sc : Vec F S1x1x1x1024 .f32) (att : Vec F S1x512x256 .bf16)
    (w0 : Vec F S1x1024x1024 .bf16) (wm : Vec F S1x512x1024 .bf16) :
    k0_pay17 (k0_pay11 x) (k0_pay12 g) (k0_pay13 sh) (k0_pay14 sc) (k0_pay15 x) (Scalar.ofBits .f32 0x358637BD#32) att w0 wm
      = mulf (sigm (gates (hidden x g sh sc) w0)) (attend att wm) := rfl

/-- The first seven groups of taps. -/
def long7 (w : Fin 31 → Vec F S1x1x256 .f32) (b0 b1 b2 b3 : Vec F S264x256 .f32) : FVec F S256x256 .f32 :=
  k0_pay31 (k0_pay28 (k0_pay25 (k0_pay23 (k0_pay20 (k0_pay18 (w 7) b1) (k0_pay19 (w 15)) b2 (w 23) b3) (k0_pay21 (w 0) b0 (w 8) b1 (w 16) b2) (k0_pay22 (w 24) b3)
    (w 1) b0 (w 9) b1 (w 17) b2 (w 25) b3) (k0_pay24 (w 2) b0) (w 10) b1 (w 18) b2 (w 26) b3)
    (k0_pay26 (w 3) b0 (w 11) b1) (k0_pay27 (w 19)) b2 (w 27) b3) (k0_pay29 (w 4) b0 (w 12) b1 (w 20) b2) (k0_pay30 (w 28) b3) (w 5) b0 (w 13) b1 (w 21) b2 (w 29) b3

theorem centred_eq (w : Fin 31 → Vec F S1x1x256 .f32) (b0 b1 b2 b3 : Vec F S264x256 .f32) (bias : Vec F S1x1x256 .f32) :
    k0_pay33 (long7 w b0 b1 b2 b3) (k0_pay32 (w 6) b0) (w 14) b1 (w 22) b2 (w 30) b3 bias
      = centred (addf (long w b0 b1 b2 b3) (lines' (shapeCast S1x256 bias shapeCasts_S1x1x256_S1x256))) := rfl

theorem spreads_eq (w : Fin 31 → Vec F S1x1x256 .f32) (b0 b1 b2 b3 : Vec F S264x256 .f32) (bias : Vec F S1x1x256 .f32) :
    k0_pay34 (long7 w b0 b1 b2 b3) (k0_pay32 (w 6) b0) (w 14) b1 (w 22) b2 (w 30) b3 bias
      = spreads (k0_pay33 (long7 w b0 b1 b2 b3) (k0_pay32 (w 6) b0) (w 14) b1 (w 22) b2 (w 30) b3 bias) := rfl

theorem second_eq (h : FVec F S256x1024 .bf16) (a : FVec F S256x1024 .f32) (v : FVec F S256x256 .f32) (g b : Vec F S1x1x256 .f32)
    (w1 : Vec F S1x1024x1024 .bf16) (wc : Vec F S1x256x1024 .bf16) :
    k0_pay35 h a v (spreads v) g b w1 wc = addf a (mulf (sigm (gates h w1)) (project (silu (layer v g b)) wc)) := rfl

theorem third_eq (h : FVec F S256x1024 .bf16) (bg : Vec F S1x256x256 .f32) (w : Fin 3 → Vec F S1x1x256 .f32) (b1 b2 : Vec F S264x256 .f32)
    (w2 : Vec F S1x1024x1024 .bf16) (ws : Vec F S1x256x1024 .bf16) :
    k0_pay37 h (k0_pay36 bg) (w 1) b2 (w 2) b2 (w 0) b1 w2 ws
      = mulf (sigm (gates h w2)) (project (mulf (shapeCast S256x256 bg shapeCasts_S1x256x256_S256x256) (short w b1 b2)) ws) := rfl

theorem tile_eq (x : Vec F S1x256x1024 .f32) (g : Vec F S1x1x1024 .f32) (sh sc g1 : Vec F S1x1x1x1024 .f32) (att : Vec F S1x512x256 .bf16)
    (w0 w1 w2 : Vec F S1x1024x1024 .bf16) (wm : Vec F S1x512x1024 .bf16) (w : Fin 31 → Vec F S1x1x256 .f32) (b0 b1 b2 b3 : Vec F S264x256 .f32)
    (bias cg cb : Vec F S1x1x256 .f32) (wc : Vec F S1x256x1024 .bf16) (bg : Vec F S1x256x256 .f32) (sw : Fin 3 → Vec F S1x1x256 .f32) (s1 s2 : Vec F S264x256 .f32)
    (ws : Vec F S1x256x1024 .bf16) (wo : Vec F S1x1024x1024 .bf16) :
    k0_pay1 (k0_pay11 x) (k0_pay35 (k0_pay16 (k0_pay11 x) (k0_pay12 g) (k0_pay13 sh) (k0_pay14 sc) (k0_pay15 x) (Scalar.ofBits .f32 0x358637BD#32))
        (k0_pay17 (k0_pay11 x) (k0_pay12 g) (k0_pay13 sh) (k0_pay14 sc) (k0_pay15 x) (Scalar.ofBits .f32 0x358637BD#32) att w0 wm)
        (k0_pay33 (long7 w b0 b1 b2 b3) (k0_pay32 (w 6) b0) (w 14) b1 (w 22) b2 (w 30) b3 bias)
        (k0_pay34 (long7 w b0 b1 b2 b3) (k0_pay32 (w 6) b0) (w 14) b1 (w 22) b2 (w 30) b3 bias) cg cb w1 wc)
      (k0_pay37 (k0_pay16 (k0_pay11 x) (k0_pay12 g) (k0_pay13 sh) (k0_pay14 sc) (k0_pay15 x) (Scalar.ofBits .f32 0x358637BD#32)) (k0_pay36 bg)
        (sw 1) s2 (sw 2) s2 (sw 0) s1 w2 ws) g1 wo
      = tile x g1 (merge (hidden x g sh sc) w0 w1 w2 att wm (branch (long w b0 b1 b2 b3) bias cg cb) wc
          (mulf (shapeCast S256x256 bg shapeCasts_S1x256x256_S256x256) (short sw s1 s2)) ws) wo := by
  rw [spreads_eq, centred_eq, hidden_eq, first_eq, second_eq, third_eq]
  rfl
end

end Cert.Kernel3Ideal.Mix
end
-- ==== Proof.Mix.At.lean ====
/- The tile's parts at an index, over the extended reals. -/
module

public import proofs.«01_k».proof.Proof.Mix.Tile

@[expose] public section

set_option synthInstance.maxSize 4096
set_option maxRecDepth 16384

noncomputable section

namespace Cert.Kernel3Ideal.Mix

open Cert.Kernel3Ideal.Gen Idealize.ShloMosaic Idealize.SL.Sem

section
variable (x : FVec Ideal S256x1024 .f32) (u : FVec Ideal S256x256 .f32) (v sh sc g : FVec Ideal S1x1024 .f32) (r : Fin 256) (d : Fin 1024) (c : Fin 256)

theorem lines_at : lines v (ix2 r d) = v (ix2 0 d) := by
  pointwise [lines]

theorem lines'_at (v : FVec Ideal S1x256 .f32) : lines' v (ix2 r c) = v (ix2 0 c) := by
  pointwise [lines']

theorem squares_at : squares x (ix1 r) = ∑ d : Fin 1024, x (ix2 r d) * x (ix2 r d) := by
  pointwise [squares]

theorem scales_at (s : FVec Ideal S256 .f32) : scales s (ix2 r d) = Ideal.rsqrt (Ideal.div (s (ix1 r)) (Ideal.ofBits .f32 0x44800000#32) + Ideal.ofBits .f32 0x358637BD#32) := by
  pointwise [scales]

theorem norms_at : norms x g (ix2 r d) = Cert.Ffn.normed (fun d => x (ix2 r d)) (fun d => g (ix2 0 d)) d := by
  show x (ix2 r d) * scales (squares x) (ix2 r d) * lines g (ix2 r d) = _
  rw [scales_at, squares_at, lines_at]
  rfl

theorem modulate_at : modulate x sh sc (ix2 r d) = Cert.Ffn.modulated (fun d => x (ix2 r d)) (fun d => sh (ix2 0 d)) (fun d => sc (ix2 0 d)) d := by
  show x (ix2 r d) * lines _ (ix2 r d) + lines sh (ix2 r d) = _
  rw [lines_at, lines_at]
  show x (ix2 r d) * (Ideal.ofBits .f32 0x3F800000#32 + sc (ix2 0 d)) + sh (ix2 0 d) = _
  rw [Ideal.ofBits_one_f32]
  rfl

theorem gates_at (h : FVec Ideal S256x1024 .bf16) (w : Vec Ideal S1x1024x1024 .bf16) : gates h w (ix2 r d) = ∑ e : Fin 1024, h (ix2 r e) * w (ix3 0 e d) := by
  pointwise [gates]

theorem sigm_at : sigm x (ix2 r d) = Ideal.logistic (x (ix2 r d)) := by
  rw [← Cert.Ffn.sigmoid_eq]
  rfl

theorem attend_at (a : Vec Ideal S1x512x256 .bf16) (w : Vec Ideal S1x512x1024 .bf16) : attend a w (ix2 r d) = ∑ j : Fin 512, a (ix3 0 j r) * w (ix3 0 j d) := by
  pointwise [attend]

theorem project_at (w : Vec Ideal S1x256x1024 .bf16) : project u w (ix2 r d) = ∑ c : Fin 256, u (ix2 r c) * w (ix3 0 c d) := by
  pointwise [project]

theorem tap_at (w : Vec Ideal S1x1x256 .f32) (b : Vec Ideal S264x256 .f32) (j : Fin 264) : tap w b (ix2 j c) = w (ix3 0 0 c) * b (ix2 j c) := by
  pointwise [tap]

theorem taps_at (w0 w1 w2 w3 : Vec Ideal S1x1x256 .f32) (b0 b1 b2 b3 : Vec Ideal S264x256 .f32) (j : Fin 264) :
    taps w0 w1 w2 w3 b0 b1 b2 b3 (ix2 j c)
      = w0 (ix3 0 0 c) * b0 (ix2 j c) + w1 (ix3 0 0 c) * b1 (ix2 j c) + w2 (ix3 0 0 c) * b2 (ix2 j c) + w3 (ix3 0 0 c) * b3 (ix2 j c) := by
  rw [← tap_at, ← tap_at, ← tap_at, ← tap_at]
  rfl

theorem cut_at (k : Fin 8) (h : S264x256.Slices ![k.val, 0] S256x256) (b : FVec Ideal S264x256 .f32) :
    extractStridedSlice S256x256 ![k.val, 0] b h (ix2 r c) = b (ix2 ⟨k.val + r.val, by omega⟩ c) := by
  pointwise []

/-- The long convolution of a tile, its four reads of the buffer being of the values `p` from row 0, 8, 16 and 24 on. -/
theorem long_at (w : Fin 31 → Vec Ideal S1x1x256 .f32) (b0 b1 b2 b3 : Vec Ideal S264x256 .f32) (p : ℕ → EReal)
    (h0 : ∀ j : Fin 264, b0 (ix2 j c) = p j.val) (h1 : ∀ j : Fin 264, b1 (ix2 j c) = p (8 + j.val))
    (h2 : ∀ j : Fin 264, b2 (ix2 j c) = p (16 + j.val)) (h3 : ∀ j : Fin 264, b3 (ix2 j c) = p (24 + j.val)) :
    long w b0 b1 b2 b3 (ix2 r c) = Cert.Mix.conv (fun k => w k (ix3 0 0 c)) p (1 + r.val) := by
  rw [← Cert.Mix.conv31]
  have t : ∀ (k : Fin 8) (hk : S264x256.Slices ![k.val, 0] S256x256) (w0 w1 w2 w3 : Vec Ideal S1x1x256 .f32),
      extractStridedSlice S256x256 ![k.val, 0] (taps w0 w1 w2 w3 b0 b1 b2 b3) hk (ix2 r c)
        = w0 (ix3 0 0 c) * p (k.val + r.val) + w1 (ix3 0 0 c) * p (8 + (k.val + r.val)) + w2 (ix3 0 0 c) * p (16 + (k.val + r.val))
          + w3 (ix3 0 0 c) * p (24 + (k.val + r.val)) := by
    intro k hk w0 w1 w2 w3
    rw [cut_at, taps_at, h0, h1, h2, h3]
  have t0 : extractStridedSlice S256x256 ![0, 0] (addf (addf (tap (w 7) b1) (tap (w 15) b2)) (tap (w 23) b3)) slices_S264x256_o0_0_S256x256 (ix2 r c)
      = w 7 (ix3 0 0 c) * p (8 + (0 + r.val)) + w 15 (ix3 0 0 c) * p (16 + (0 + r.val)) + w 23 (ix3 0 0 c) * p (24 + (0 + r.val)) := by
    refine (cut_at r c 0 _ _).trans ?_
    show tap (w 7) b1 (ix2 _ c) + tap (w 15) b2 (ix2 _ c) + tap (w 23) b3 (ix2 _ c) = _
    rw [tap_at, tap_at, tap_at, h1, h2, h3]
    rfl
  have q : ∀ a b : ℕ, a = b → p a = p b := fun a b h => congrArg p h
  have e : ∀ (a : EReal) (m n : ℕ), m = n → a * p m = a * p n := fun a m n h => by rw [h]
  show extractStridedSlice S256x256 ![0, 0] (addf (F := Ideal) (addf (F := Ideal) (tap (w 7) b1) (tap (w 15) b2)) (tap (w 23) b3)) slices_S264x256_o0_0_S256x256 (ix2 r c)
      + extractStridedSlice S256x256 ![1, 0] (taps (F := Ideal) (w 0) (w 8) (w 16) (w 24) b0 b1 b2 b3) slices_S264x256_o1_0_S256x256 (ix2 r c)
      + extractStridedSlice S256x256 ![2, 0] (taps (F := Ideal) (w 1) (w 9) (w 17) (w 25) b0 b1 b2 b3) slices_S264x256_o2_0_S256x256 (ix2 r c)
      + extractStridedSlice S256x256 ![3, 0] (taps (F := Ideal) (w 2) (w 10) (w 18) (w 26) b0 b1 b2 b3) slices_S264x256_o3_0_S256x256 (ix2 r c)
      + extractStridedSlice S256x256 ![4, 0] (taps (F := Ideal) (w 3) (w 11) (w 19) (w 27) b0 b1 b2 b3) slices_S264x256_o4_0_S256x256 (ix2 r c)
      + extractStridedSlice S256x256 ![5, 0] (taps (F := Ideal) (w 4) (w 12) (w 20) (w 28) b0 b1 b2 b3) slices_S264x256_o5_0_S256x256 (ix2 r c)
      + extractStridedSlice S256x256 ![6, 0] (taps (F := Ideal) (w 5) (w 13) (w 21) (w 29) b0 b1 b2 b3) slices_S264x256_o6_0_S256x256 (ix2 r c)
      + extractStridedSlice S256x256 ![7, 0] (taps (F := Ideal) (w 6) (w 14) (w 22) (w 30) b0 b1 b2 b3) slices_S264x256_o7_0_S256x256 (ix2 r c) = _
  refine congrArg₂ (· + ·) (congrArg₂ (· + ·) (congrArg₂ (· + ·) (congrArg₂ (· + ·) (congrArg₂ (· + ·) (congrArg₂ (· + ·) (congrArg₂ (· + ·) (t0.trans ?_)
    ((t 1 _ _ _ _ _).trans ?_)) ((t 2 _ _ _ _ _).trans ?_)) ((t 3 _ _ _ _ _).trans ?_)) ((t 4 _ _ _ _ _).trans ?_)) ((t 5 _ _ _ _ _).trans ?_))
    ((t 6 _ _ _ _ _).trans ?_)) ((t 7 _ _ _ _ _).trans ?_)
  · exact congrArg₂ (· + ·) (congrArg₂ (· + ·) (e _ _ _ (by omega)) (e _ _ _ (by omega))) (e _ _ _ (by omega))
  all_goals
    exact congrArg₂ (· + ·) (congrArg₂ (· + ·) (congrArg₂ (· + ·) (e _ _ _ (by simp; try omega)) (e _ _ _ (by simp; try omega))) (e _ _ _ (by simp; try omega))) (e _ _ _ (by simp; try omega))

theorem short_at (w : Fin 3 → Vec Ideal S1x1x256 .f32) (b1 b2 : Vec Ideal S264x256 .f32) (p : ℕ → EReal)
    (h1 : ∀ j : Fin 264, b1 (ix2 j c) = p (8 + j.val)) (h2 : ∀ j : Fin 264, b2 (ix2 j c) = p (16 + j.val)) :
    short w b1 b2 (ix2 r c) = Cert.Mix.conv (fun k => w k (ix3 0 0 c)) p (15 + r.val) := by
  rw [← Cert.Mix.conv3]
  have e : ∀ (a : EReal) (m n : ℕ), m = n → a * p m = a * p n := fun a m n h => by rw [h]
  show extractStridedSlice S256x256 ![0, 0] (tap (F := Ideal) (w 1) b2) slices_S264x256_o0_0_S256x256 (ix2 r c)
      + extractStridedSlice S256x256 ![1, 0] (tap (F := Ideal) (w 2) b2) slices_S264x256_o1_0_S256x256 (ix2 r c)
      + extractStridedSlice S256x256 ![7, 0] (tap (F := Ideal) (w 0) b1) slices_S264x256_o7_0_S256x256 (ix2 r c) = _
  refine congrArg₂ (· + ·) (congrArg₂ (· + ·) ((cut_at r c 0 _ _).trans ?_) ((cut_at r c 1 _ _).trans ?_)) ((cut_at r c 7 _ _).trans ?_)
  · rw [tap_at, h2]; exact e _ _ _ (by simp; try omega)
  · rw [tap_at, h2]; exact e _ _ _ (by simp; try omega)
  · rw [tap_at, h1]; exact e _ _ _ (by simp; try omega)

theorem sums_at : sums u (ix1 r) = ∑ c : Fin 256, u (ix2 r c) := by
  pointwise [sums]

theorem means_at (s : FVec Ideal S256 .f32) :
    (broadcastTo S256x256 (divf (shapeCast S256x1 s shapeCasts_S256_S256x1) (broadcast S256x1 (Scalar.ofBits .f32 0x43800000#32))) broadcasts_S256x1_S256x256 : FVec Ideal S256x256 .f32) (ix2 r c)
      = Ideal.div (s (ix1 r)) (Ideal.ofBits .f32 0x43800000#32) := by
  pointwise []

theorem centred_at : centred u (ix2 r c) = u (ix2 r c) - Cert.Mix.mean fun c => u (ix2 r c) := by
  show u (ix2 r c) - (broadcastTo S256x256 (divf (shapeCast S256x1 (sums u) shapeCasts_S256_S256x1) (broadcast S256x1 (Scalar.ofBits .f32 0x43800000#32))) broadcasts_S256x1_S256x256 : FVec Ideal S256x256 .f32) (ix2 r c) = _
  rw [means_at, sums_at]
  rfl

theorem roots_at (s : FVec Ideal S256 .f32) :
    (broadcastTo S256x256 (rsqrt (addf (divf (shapeCast S256x1 s shapeCasts_S256_S256x1) (broadcast S256x1 (Scalar.ofBits .f32 0x43800000#32)))
      (broadcast S256x1 (Scalar.ofBits .f32 0x358637BD#32)))) broadcasts_S256x1_S256x256 : FVec Ideal S256x256 .f32) (ix2 r c)
      = Ideal.rsqrt (Ideal.div (s (ix1 r)) (Ideal.ofBits .f32 0x43800000#32) + Ideal.ofBits .f32 0x358637BD#32) := by
  pointwise []

theorem spreads_at : spreads u (ix2 r c) = Cert.Mix.spread fun c => u (ix2 r c) := by
  refine (roots_at r c _).trans ?_
  rw [sums_at]
  rfl

theorem layer_at (g b : Vec Ideal S1x1x256 .f32) :
    layer u g b (ix2 r c) = u (ix2 r c) * Cert.Mix.spread (fun c => u (ix2 r c)) * g (ix3 0 0 c) + b (ix3 0 0 c) := by
  show u (ix2 r c) * spreads u (ix2 r c) * lines' _ (ix2 r c) + lines' _ (ix2 r c) = _
  rw [spreads_at, lines'_at, lines'_at]
  pointwise []

theorem silu_at : silu u (ix2 r c) = Cert.Mix.silu (u (ix2 r c)) := by
  rw [Cert.Mix.silu, ← Cert.Ffn.sigmoid_eq]
  rfl

theorem bias_at (bias : Vec Ideal S1x1x256 .f32) :
    (addf u (lines' (shapeCast S1x256 bias shapeCasts_S1x1x256_S1x256)) : FVec Ideal S256x256 .f32) (ix2 r c) = u (ix2 r c) + bias (ix3 0 0 c) := by
  pointwise [lines']

theorem branch_at (bias g b : Vec Ideal S1x1x256 .f32) :
    branch u bias g b (ix2 r c) = Cert.Mix.branch (fun c => u (ix2 r c) + bias (ix3 0 0 c)) (fun c => g (ix3 0 0 c)) (fun c => b (ix3 0 0 c)) c := by
  unfold branch
  rw [silu_at, layer_at]
  simp only [centred_at, bias_at]
  rfl

theorem hidden_at (x : Vec Ideal S1x256x1024 .f32) (g : Vec Ideal S1x1x1024 .f32) (sh sc : Vec Ideal S1x1x1x1024 .f32) :
    (hidden x g sh sc (ix2 r d) : EReal)
      = Cert.Mix.normed (fun d => x (ix3 0 r d)) (fun d => g (ix3 0 0 d)) (fun d => sh (ix4 0 0 0 d)) (fun d => sc (ix4 0 0 0 d)) d := by
  unfold hidden
  refine (modulate_at ..).trans ?_
  have hx : ∀ d, (shapeCast S256x1024 x shapeCasts_S1x256x1024_S256x1024 : FVec Ideal S256x1024 .f32) (ix2 r d) = x (ix3 0 r d) := by
    intro d; pointwise []
  have hg : ∀ d, (shapeCast S1x1024 g shapeCasts_S1x1x1024_S1x1024 : FVec Ideal S1x1024 .f32) (ix2 0 d) = g (ix3 0 0 d) := by
    intro d; pointwise []
  have hl : ∀ (v : Vec Ideal S1x1x1x1024 .f32) d, (shapeCast S1x1024 v shapeCasts_S1x1x1x1024_S1x1024 : FVec Ideal S1x1024 .f32) (ix2 0 d) = v (ix4 0 0 0 d) := by
    intro v d; pointwise []
  simp only [norms_at, hx, hg, hl]
  rfl

theorem merge_at (h : FVec Ideal S256x1024 .bf16) (w0 w1 w2 : Vec Ideal S1x1024x1024 .bf16) (att : Vec Ideal S1x512x256 .bf16) (wm : Vec Ideal S1x512x1024 .bf16)
    (wc : Vec Ideal S1x256x1024 .bf16) (s : FVec Ideal S256x256 .f32) (ws : Vec Ideal S1x256x1024 .bf16) :
    merge h w0 w1 w2 att wm u wc s ws (ix2 r d) = Cert.Mix.merged (fun e => h (ix2 r e)) (fun e d => w0 (ix3 0 e d)) (fun e d => w1 (ix3 0 e d)) (fun e d => w2 (ix3 0 e d))
      (fun j => att (ix3 0 j r)) (fun j d => wm (ix3 0 j d)) (fun c => u (ix2 r c)) (fun c d => wc (ix3 0 c d)) (fun c => s (ix2 r c)) (fun c d => ws (ix3 0 c d)) d := by
  show sigm (F := Ideal) _ (ix2 r d) * attend (F := Ideal) _ _ (ix2 r d) + sigm (F := Ideal) _ (ix2 r d) * project (F := Ideal) _ _ (ix2 r d)
    + sigm (F := Ideal) _ (ix2 r d) * project (F := Ideal) _ _ (ix2 r d) = _
  rw [sigm_at, sigm_at, sigm_at, gates_at, gates_at, gates_at, attend_at, project_at, project_at]
  rfl

theorem tile_at (x : Vec Ideal S1x256x1024 .f32) (g1 : Vec Ideal S1x1x1x1024 .f32) (m : FVec Ideal S256x1024 .f32) (wo : Vec Ideal S1x1024x1024 .bf16) :
    tile x g1 m wo (ix3 0 r d) = Cert.Mix.token (fun d => x (ix3 0 r d)) (fun d => g1 (ix4 0 0 0 d)) (fun d => m (ix2 r d)) (fun e d => wo (ix3 0 e d)) d := by
  have hx : ∀ z : FVec Ideal S256x1024 .f32, shapeCast S1x256x1024 z shapeCasts_S256x1024_S1x256x1024 (ix3 0 r d) = z (ix2 r d) := by
    intro z; pointwise []
  have hy : (shapeCast S256x1024 x shapeCasts_S1x256x1024_S256x1024 : FVec Ideal S256x1024 .f32) (ix2 r d) = x (ix3 0 r d) := by
    pointwise []
  have hl : (shapeCast S1x1024 g1 shapeCasts_S1x1x1x1024_S1x1024 : FVec Ideal S1x1024 .f32) (ix2 0 d) = g1 (ix4 0 0 0 d) := by
    pointwise []
  refine (hx _).trans ?_
  show (shapeCast S256x1024 x shapeCasts_S1x256x1024_S256x1024 : FVec Ideal S256x1024 .f32) (ix2 r d)
    + lines (F := Ideal) _ (ix2 r d) * gates (F := Ideal) _ _ (ix2 r d) = _
  rw [lines_at, gates_at, hy, hl]
  rfl
end

end Cert.Kernel3Ideal.Mix
end
-- ==== Proof.Mix.Pieces.lean ====
/- What one grid point's body reads and stores: its loads, the two buffers it fills, and the one store of its tile. -/
module

public import proofs.«01_k».proof.Proof.Mix.Frame
public import proofs.«01_k».proof.Proof.Mix.At

@[expose] public section

set_option synthInstance.maxSize 4096
set_option maxRecDepth 100000

noncomputable section

namespace Cert.Kernel3Ideal.Mix

open Cert.Kernel3Ideal.Gen Idealize.ShloMosaic Idealize.SL.Sem

variable {F : FTy → Type} [FloatOps F]

theorem inb31 (k : Fin 31) : ∀ a, (![0, k.val, 0] : Fin 3 → ℕ) a + S1x1x256.size a ≤ S1x31x256.size a := by
  intro a
  fin_cases a
  · exact Nat.le_refl _
  · exact k.isLt
  · exact Nat.le_refl _

theorem inb3 (k : Fin 3) : ∀ a, (![0, k.val, 0] : Fin 3 → ℕ) a + S1x1x256.size a ≤ S1x3x256.size a := by
  intro a
  fin_cases a
  · exact Nat.le_refl _
  · exact k.isLt
  · exact Nat.le_refl _

/-- A buffer's three stores, last first: 16 rows, 256 rows between, 16 rows. -/
def fill (top bottom : FVec F S16x256 .f32) (mid : FVec F S256x256 .f32) : List (View.Piece (Elt F) S288x256 .f32) :=
  [⟨Rect.unit (s := S288x256) ![272, 0] S16x256.size inb_S288x256_S16x256_272_0, bottom⟩,
   ⟨Rect.unit (s := S288x256) ![16, 0] S256x256.size inb_S288x256_S256x256_16_0, mid⟩,
   ⟨Rect.unit (s := S288x256) ![0, 0] S16x256.size inb_S288x256_S16x256_0_0, top⟩]

def edge (arg : Memref sig .tc .vmem S1x16x256 .f32) (harg : arg.IsWhole) (x : Vec F S1x16x256 .f32) : Vec F S1x16x256 .f32 :=
  View.readAt (Elt F) arg.view (Rect.unit (s := S1x16x256) ![0, 0, 0] S1x16x256.size inb_S1x16x256_S1x16x256_0_0_0).toLoadRect (harg.unread x)

def core (arg : Memref sig .tc .vmem S1x256x256 .f32) (harg : arg.IsWhole) (x : Vec F S1x256x256 .f32) : Vec F S1x256x256 .f32 :=
  View.readAt (Elt F) arg.view (Rect.unit (s := S1x256x256) ![0, 0, 0] S1x256x256.size inb_S1x256x256_S1x256x256_0_0_0).toLoadRect (harg.unread x)

/-- What is stored, from the loads. -/
def stored (x : Vec F S1x256x1024 .f32) (g : Vec F S1x1x1024 .f32) (sh sc g1 : Vec F S1x1x1x1024 .f32) (att : Vec F S1x512x256 .bf16)
    (w0 w1 w2 : Vec F S1x1024x1024 .bf16) (wm : Vec F S1x512x1024 .bf16) (w : Fin 31 → Vec F S1x1x256 .f32) (b0 b1 b2 b3 : Vec F S264x256 .f32)
    (bias cg cb : Vec F S1x1x256 .f32) (wc : Vec F S1x256x1024 .bf16) (bg : Vec F S1x256x256 .f32) (sw : Fin 3 → Vec F S1x1x256 .f32) (s1 s2 : Vec F S264x256 .f32)
    (ws : Vec F S1x256x1024 .bf16) (wo : Vec F S1x1024x1024 .bf16) : FVec F S1x256x1024 .f32 :=
  k0_pay1 (k0_pay11 x) (k0_pay35 (k0_pay16 (k0_pay11 x) (k0_pay12 g) (k0_pay13 sh) (k0_pay14 sc) (k0_pay15 x) (Scalar.ofBits .f32 0x358637BD#32))
      (k0_pay17 (k0_pay11 x) (k0_pay12 g) (k0_pay13 sh) (k0_pay14 sc) (k0_pay15 x) (Scalar.ofBits .f32 0x358637BD#32) att w0 wm)
      (k0_pay33 (long7 w b0 b1 b2 b3) (k0_pay32 (w 6) b0) (w 14) b1 (w 22) b2 (w 30) b3 bias)
      (k0_pay34 (long7 w b0 b1 b2 b3) (k0_pay32 (w 6) b0) (w 14) b1 (w 22) b2 (w 30) b3 bias) cg cb w1 wc)
    (k0_pay37 (k0_pay16 (k0_pay11 x) (k0_pay12 g) (k0_pay13 sh) (k0_pay14 sc) (k0_pay15 x) (Scalar.ofBits .f32 0x358637BD#32)) (k0_pay36 bg)
      (sw 1) s2 (sw 2) s2 (sw 0) s1 w2 ws) g1 wo

theorem pieces_eq (c : Dev nD) (i : grid0.Coords) (arg2 : Memref sig .tc .vmem S1x256x1024 .f32) (harg2 : arg2.IsWhole) (arg3 : Memref sig .tc .vmem S1x512x256 .bf16) (harg3 : arg3.IsWhole) (arg4 : Memref sig .tc .vmem S1x1x6x1024 .f32) (harg4 : arg4.IsWhole) (arg5 : Memref sig .tc .vmem S1x256x256 .f32) (harg5 : arg5.IsWhole) (arg6 : Memref sig .tc .vmem S1x16x256 .f32) (harg6 : arg6.IsWhole) (arg7 : Memref sig .tc .vmem S1x16x256 .f32) (harg7 : arg7.IsWhole) (arg8 : Memref sig .tc .vmem S1x256x256 .f32) (harg8 : arg8.IsWhole) (arg9 : Memref sig .tc .vmem S1x16x256 .f32) (harg9 : arg9.IsWhole) (arg10 : Memref sig .tc .vmem S1x16x256 .f32) (harg10 : arg10.IsWhole) (arg11 : Memref sig .tc .vmem S1x256x256 .f32) (harg11 : arg11.IsWhole) (arg12 : Memref sig .tc .vmem S1x1x1024 .f32) (harg12 : arg12.IsWhole) (arg13 : Memref sig .tc .vmem S1x1024x3200 .bf16) (harg13 : arg13.IsWhole) (arg14 : Memref sig .tc .vmem S1x512x1152 .bf16) (harg14 : arg14.IsWhole) (arg15 : Memref sig .tc .vmem S1x31x256 .f32) (harg15 : arg15.IsWhole) (arg16 : Memref sig .tc .vmem S1x1x256 .f32) (harg16 : arg16.IsWhole) (arg17 : Memref sig .tc .vmem S1x1x256 .f32) (harg17 : arg17.IsWhole) (arg18 : Memref sig .tc .vmem S1x1x256 .f32) (harg18 : arg18.IsWhole) (arg19 : Memref sig .tc .vmem S1x256x1152 .bf16) (harg19 : arg19.IsWhole) (arg20 : Memref sig .tc .vmem S1x3x256 .f32) (harg20 : arg20.IsWhole) (arg21 : Memref sig .tc .vmem S1x256x1152 .bf16) (harg21 : arg21.IsWhole) (arg22 : Memref sig .tc .vmem S1x1024x1152 .bf16) (harg22 : arg22.IsWhole) (arg23 : Memref sig .tc .vmem S1x256x1024 .f32) (harg23 : arg23.IsWhole) (arg24 : Memref sig .tc .vmem S288x256 .f32) (harg24 : arg24.IsWhole) (arg25 : Memref sig .tc .vmem S288x256 .f32) (harg25 : arg25.IsWhole)
    (x0 : Vec F S1x256x1024 .f32) (x1 : Vec F S1x512x256 .bf16) (x2 : Vec F S1x1x6x1024 .f32) (x3 : Vec F S1x256x256 .f32) (x4 : Vec F S1x16x256 .f32) (x5 : Vec F S1x16x256 .f32) (x6 : Vec F S1x256x256 .f32) (x7 : Vec F S1x16x256 .f32) (x8 : Vec F S1x16x256 .f32) (x9 : Vec F S1x256x256 .f32) (x10 : Vec F S1x1x1024 .f32) (x11 : Vec F S1x1024x3200 .bf16) (x12 : Vec F S1x512x1152 .bf16) (x13 : Vec F S1x31x256 .f32) (x14 : Vec F S1x1x256 .f32) (x15 : Vec F S1x1x256 .f32) (x16 : Vec F S1x1x256 .f32) (x17 : Vec F S1x256x1152 .bf16) (x18 : Vec F S1x3x256 .f32) (x19 : Vec F S1x256x1152 .bf16) (x20 : Vec F S1x1024x1152 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20).1 =
      [⟨Rect.unit (s := S1x256x1024) ![0, 0, 0] S1x256x1024.size inb_S1x256x1024_S1x256x1024_0_0_0,
        stored (View.readAt (Elt F) arg2.view (Rect.unit (s := S1x256x1024) ![0, 0, 0] S1x256x1024.size inb_S1x256x1024_S1x256x1024_0_0_0).toLoadRect (harg2.unread x0))
          (View.readAt (Elt F) arg12.view (Rect.unit (s := S1x1x1024) ![0, 0, 0] S1x1x1024.size inb_S1x1x1024_S1x1x1024_0_0_0).toLoadRect (harg12.unread x10))
          (View.readAt (Elt F) arg4.view (Rect.unit (s := S1x1x6x1024) ![0, 0, 0, 0] S1x1x1x1024.size inb_S1x1x6x1024_S1x1x1x1024_0_0_0_0).toLoadRect (harg4.unread x2))
          (View.readAt (Elt F) arg4.view (Rect.unit (s := S1x1x6x1024) ![0, 0, 1, 0] S1x1x1x1024.size inb_S1x1x6x1024_S1x1x1x1024_0_0_1_0).toLoadRect (harg4.unread x2))
          (View.readAt (Elt F) arg4.view (Rect.unit (s := S1x1x6x1024) ![0, 0, 2, 0] S1x1x1x1024.size inb_S1x1x6x1024_S1x1x1x1024_0_0_2_0).toLoadRect (harg4.unread x2))
          (View.readAt (Elt F) arg3.view (Rect.unit (s := S1x512x256) ![0, 0, 0] S1x512x256.size inb_S1x512x256_S1x512x256_0_0_0).toLoadRect (harg3.unread x1))
          (View.readAt (Elt F) arg13.view (Rect.unit (s := S1x1024x3200) ![0, 0, 0] S1x1024x1024.size inb_S1x1024x3200_S1x1024x1024_0_0_0).toLoadRect (harg13.unread x11))
          (View.readAt (Elt F) arg13.view (Rect.unit (s := S1x1024x3200) ![0, 0, 1024] S1x1024x1024.size inb_S1x1024x3200_S1x1024x1024_0_0_1024).toLoadRect (harg13.unread x11))
          (View.readAt (Elt F) arg13.view (Rect.unit (s := S1x1024x3200) ![0, 0, 2048] S1x1024x1024.size inb_S1x1024x3200_S1x1024x1024_0_0_2048).toLoadRect (harg13.unread x11))
          (View.readAt (Elt F) arg14.view (Rect.unit (s := S1x512x1152) ![0, 0, 0] S1x512x1024.size inb_S1x512x1152_S1x512x1024_0_0_0).toLoadRect (harg14.unread x12))
          (fun k => View.readAt (Elt F) arg15.view (Rect.unit (s := S1x31x256) ![0, k.val, 0] S1x1x256.size (inb31 k)).toLoadRect (harg15.unread x13))
          (arg24.view.readCov (fill (k0_pay4 i (edge arg6 harg6 x4)) (k0_pay6 i (edge arg7 harg7 x5)) (k0_pay5 (core arg5 harg5 x3))) (Rect.unit (s := S288x256) ![0, 0] S264x256.size inb_S288x256_S264x256_0_0).toLoadRect)
          (arg24.view.readCov (fill (k0_pay4 i (edge arg6 harg6 x4)) (k0_pay6 i (edge arg7 harg7 x5)) (k0_pay5 (core arg5 harg5 x3))) (Rect.unit (s := S288x256) ![8, 0] S264x256.size inb_S288x256_S264x256_8_0).toLoadRect)
          (arg24.view.readCov (fill (k0_pay4 i (edge arg6 harg6 x4)) (k0_pay6 i (edge arg7 harg7 x5)) (k0_pay5 (core arg5 harg5 x3))) (Rect.unit (s := S288x256) ![16, 0] S264x256.size inb_S288x256_S264x256_16_0).toLoadRect)
          (arg24.view.readCov (fill (k0_pay4 i (edge arg6 harg6 x4)) (k0_pay6 i (edge arg7 harg7 x5)) (k0_pay5 (core arg5 harg5 x3))) (Rect.unit (s := S288x256) ![24, 0] S264x256.size inb_S288x256_S264x256_24_0).toLoadRect)
          (View.readAt (Elt F) arg16.view (Rect.unit (s := S1x1x256) ![0, 0, 0] S1x1x256.size inb_S1x1x256_S1x1x256_0_0_0).toLoadRect (harg16.unread x14))
          (View.readAt (Elt F) arg17.view (Rect.unit (s := S1x1x256) ![0, 0, 0] S1x1x256.size inb_S1x1x256_S1x1x256_0_0_0).toLoadRect (harg17.unread x15))
          (View.readAt (Elt F) arg18.view (Rect.unit (s := S1x1x256) ![0, 0, 0] S1x1x256.size inb_S1x1x256_S1x1x256_0_0_0).toLoadRect (harg18.unread x16))
          (View.readAt (Elt F) arg19.view (Rect.unit (s := S1x256x1152) ![0, 0, 0] S1x256x1024.size inb_S1x256x1152_S1x256x1024_0_0_0).toLoadRect (harg19.unread x17))
          (View.readAt (Elt F) arg11.view (Rect.unit (s := S1x256x256) ![0, 0, 0] S1x256x256.size inb_S1x256x256_S1x256x256_0_0_0).toLoadRect (harg11.unread x9))
          (fun k => View.readAt (Elt F) arg20.view (Rect.unit (s := S1x3x256) ![0, k.val, 0] S1x1x256.size (inb3 k)).toLoadRect (harg20.unread x18))
          (arg25.view.readCov (fill (k0_pay8 (k0_pay7 i (edge arg9 harg9 x7))) (k0_pay10 (k0_pay3 i) (edge arg10 harg10 x8)) (k0_pay9 (core arg8 harg8 x6))) (Rect.unit (s := S288x256) ![8, 0] S264x256.size inb_S288x256_S264x256_8_0).toLoadRect)
          (arg25.view.readCov (fill (k0_pay8 (k0_pay7 i (edge arg9 harg9 x7))) (k0_pay10 (k0_pay3 i) (edge arg10 harg10 x8)) (k0_pay9 (core arg8 harg8 x6))) (Rect.unit (s := S288x256) ![16, 0] S264x256.size inb_S288x256_S264x256_16_0).toLoadRect)
          (View.readAt (Elt F) arg21.view (Rect.unit (s := S1x256x1152) ![0, 0, 0] S1x256x1024.size inb_S1x256x1152_S1x256x1024_0_0_0).toLoadRect (harg21.unread x19))
          (View.readAt (Elt F) arg22.view (Rect.unit (s := S1x1024x1152) ![0, 0, 0] S1x1024x1024.size inb_S1x1024x1152_S1x1024x1024_0_0_0).toLoadRect (harg22.unread x20))⟩] := by
  rfl

end Cert.Kernel3Ideal.Mix
end
-- ==== Proof.Mix.Buffer.lean ====
/- The two buffers of a grid point at an index, over the extended reals, and the stored tile from the loads. -/
module

public import proofs.«01_k».proof.Proof.Mix.Pieces
public import Idealize.ShloMosaic.Lib.Pipeline.ValueKit

@[expose] public section

set_option synthInstance.maxSize 4096
set_option maxRecDepth 16384

noncomputable section

namespace Cert.Kernel3Ideal.Mix

open Cert.Kernel3Ideal.Gen Idealize.ShloMosaic Idealize.SL.Sem

/-- The buffer's 288 rows are the values `p` of every channel: the rows before the block and after it are kept or zeroed. -/
def Line (i : grid0.Coords) (mid : Vec Ideal S1x256x256 .f32) (top bottom : Vec Ideal S1x16x256 .f32) (p : Fin 256 → ℕ → EReal) : Prop :=
  (∀ (j : Fin 16) (c : Fin 256), top (ix3 0 j c) * k0_pay2 (F := Ideal) i = p c j.val)
  ∧ (∀ (r c : Fin 256), mid (ix3 0 r c) = p c (16 + r.val))
  ∧ ∀ (j : Fin 16) (c : Fin 256), bottom (ix3 0 j c) * k0_pay3 (F := Ideal) i = p c (272 + j.val)

section
variable (x : Vec Ideal S1x16x256 .f32) (y : Vec Ideal S1x256x256 .f32) (i : grid0.Coords) (j : Fin 16) (r c : Fin 256)

theorem cells_at : shapeCast S16x256 x shapeCasts_S1x16x256_S16x256 (ix2 j c) = x (ix3 0 j c) := by
  pointwise []

theorem same_at (z : FVec Ideal S16x256 .f32) : shapeCast S16x256 z shapeCasts_S16x256_S16x256 (ix2 j c) = z (ix2 j c) := by
  pointwise []

theorem top_at : k0_pay4 (F := Ideal) i x (ix2 j c) = x (ix3 0 j c) * k0_pay2 (F := Ideal) i := by
  pointwise [k0_pay4]

theorem bottom_at : k0_pay6 (F := Ideal) i x (ix2 j c) = x (ix3 0 j c) * k0_pay3 (F := Ideal) i := by
  pointwise [k0_pay6]

theorem top'_at : k0_pay8 (F := Ideal) (k0_pay7 i x) (ix2 j c) = x (ix3 0 j c) * k0_pay2 (F := Ideal) i := by
  pointwise [k0_pay8, k0_pay7]

theorem bottom'_at : k0_pay10 (F := Ideal) (k0_pay3 i) x (ix2 j c) = x (ix3 0 j c) * k0_pay3 (F := Ideal) i := by
  pointwise [k0_pay10]

theorem mid_at : k0_pay5 (F := Ideal) y (ix2 r c) = y (ix3 0 r c) := by
  pointwise [k0_pay5]

theorem mid'_at : k0_pay9 (F := Ideal) y (ix2 r c) = y (ix3 0 r c) := by
  pointwise [k0_pay9]

theorem edge_at (arg : Memref sig .tc .vmem S1x16x256 .f32) (harg : arg.IsWhole) : edge arg harg x (ix3 0 j c) = x (ix3 0 j c) := by
  unfold edge
  rw [View.readAt_eq_ld, harg.read_unread]
  pointwise []

theorem core_at (arg : Memref sig .tc .vmem S1x256x256 .f32) (harg : arg.IsWhole) : core arg harg y (ix3 0 r c) = y (ix3 0 r c) := by
  unfold core
  rw [View.readAt_eq_ld, harg.read_unread]
  pointwise []
end

section
variable (T B : FVec Ideal S16x256 .f32) (M : FVec Ideal S256x256 .f32) (p : Fin 256 → ℕ → EReal)
  (hT : ∀ (j : Fin 16) (c : Fin 256), T (ix2 j c) = p c j.val) (hM : ∀ r c : Fin 256, M (ix2 r c) = p c (16 + r.val))
  (hB : ∀ (j : Fin 16) (c : Fin 256), B (ix2 j c) = p c (272 + j.val))
include hT hM hB

theorem fill_at (y : S288x256.Idx) : View.canon (fill T B M) y = p (y 1) (y 0).val := by
  have e : ∀ {a b : Fin 256} {s t : ℕ}, a.val = b.val → s = t → p a s = p b t := by
    intro a b s t h h'; rw [Fin.ext h, h']
  unfold fill
  have cover : ∃ q ∈ ([⟨Rect.unit (s := S288x256) ![272, 0] S16x256.size inb_S288x256_S16x256_272_0, B⟩, ⟨Rect.unit (s := S288x256) ![16, 0] S256x256.size inb_S288x256_S256x256_16_0, M⟩,
      ⟨Rect.unit (s := S288x256) ![0, 0] S16x256.size inb_S288x256_S16x256_0_0, T⟩] : List (View.Piece (Elt Ideal) S288x256 .f32)), y ∈ q.1.set := by
    have h0 : (y 0).val < 288 := (y 0).isLt
    have h1 : (y 1).val < 256 := (y 1).isLt
    have m0 : (272 ≤ (y 0).val) → y ∈ (Rect.unit (s := S288x256) ![272, 0] S16x256.size inb_S288x256_S16x256_272_0).set := fun g => Rect.mem_set_unit.mpr fun a => by
      fin_cases a
      · exact ⟨g, h0⟩
      · exact ⟨Nat.zero_le _, show (y 1).val < 0 + 256 by omega⟩
    have m1 : (16 ≤ (y 0).val ∧ (y 0).val < 272) → y ∈ (Rect.unit (s := S288x256) ![16, 0] S256x256.size inb_S288x256_S256x256_16_0).set := fun g => Rect.mem_set_unit.mpr fun a => by
      fin_cases a
      · exact g
      · exact ⟨Nat.zero_le _, show (y 1).val < 0 + 256 by omega⟩
    have m2 : (y 0).val < 16 → y ∈ (Rect.unit (s := S288x256) ![0, 0] S16x256.size inb_S288x256_S16x256_0_0).set := fun g => Rect.mem_set_unit.mpr fun a => by
      fin_cases a
      · exact ⟨Nat.zero_le _, show (y 0).val < 0 + 16 by omega⟩
      · exact ⟨Nat.zero_le _, show (y 1).val < 0 + 256 by omega⟩
    by_cases g : 272 ≤ (y 0).val
    · exact ⟨_, List.mem_cons_self .., m0 g⟩
    by_cases g' : 16 ≤ (y 0).val
    · exact ⟨_, List.mem_cons_of_mem _ (List.mem_cons_self ..), m1 ⟨g', by omega⟩⟩
    · exact ⟨_, List.mem_cons_of_mem _ (List.mem_cons_of_mem _ (List.mem_cons_self ..)), m2 (by omega)⟩
  have eT : ∀ x : S16x256.Idx, T x = p (x 1) (x 0).val := fun x => (congrArg T (ValueIdx.eq_ix2 x)).trans (hT _ _)
  have eM : ∀ x : S256x256.Idx, M x = p (x 1) (16 + (x 0).val) := fun x => (congrArg M (ValueIdx.eq_ix2 x)).trans (hM _ _)
  have eB : ∀ x : S16x256.Idx, B x = p (x 1) (272 + (x 0).val) := fun x => (congrArg B (ValueIdx.eq_ix2 x)).trans (hB _ _)
  canon_tiles x hx using cover
  · exact (eB x).trans (e hx1.symm (by omega))
  · exact (eM x).trans (e hx1.symm (by omega))
  · exact (eT x).trans (e hx1.symm (by omega))

theorem read_at (v : View sig .tc .vmem S288x256 .f32) (o : ℕ) (h : ∀ a, (![o, 0] : Fin 2 → ℕ) a + S264x256.size a ≤ S288x256.size a) (j : Fin 264) (c : Fin 256) :
    v.readCov (fill T B M) (Rect.unit (s := S288x256) ![o, 0] S264x256.size h).toLoadRect (ix2 j c) = p c (o + j.val) := by
  rw [View.readCov_eq_canon']
  refine (fill_at T B M p hT hM hB _).trans ?_
  have e : ∀ {a b : Fin 256} {s t : ℕ}, a.val = b.val → s = t → p a s = p b t := by
    intro a b s t h h'; rw [Fin.ext h, h']
  refine e ?_ ?_
  · show 0 + 1 * c.val = c.val
    omega
  · show o + 1 * j.val = o + j.val
    omega
end

/-- The stored tile at an index, its convolutions' reads being of the values `p` and `q`. -/
theorem stored_at (x : Vec Ideal S1x256x1024 .f32) (g : Vec Ideal S1x1x1024 .f32) (sh sc g1 : Vec Ideal S1x1x1x1024 .f32) (att : Vec Ideal S1x512x256 .bf16)
    (w0 w1 w2 : Vec Ideal S1x1024x1024 .bf16) (wm : Vec Ideal S1x512x1024 .bf16) (w : Fin 31 → Vec Ideal S1x1x256 .f32) (b0 b1 b2 b3 : Vec Ideal S264x256 .f32)
    (bias cg cb : Vec Ideal S1x1x256 .f32) (wc : Vec Ideal S1x256x1024 .bf16) (bg : Vec Ideal S1x256x256 .f32) (sw : Fin 3 → Vec Ideal S1x1x256 .f32) (s1 s2 : Vec Ideal S264x256 .f32)
    (ws : Vec Ideal S1x256x1024 .bf16) (wo : Vec Ideal S1x1024x1024 .bf16) (p q : Fin 256 → ℕ → EReal)
    (h0 : ∀ c (j : Fin 264), b0 (ix2 j c) = p c (0 + j.val)) (h1 : ∀ c (j : Fin 264), b1 (ix2 j c) = p c (8 + j.val))
    (h2 : ∀ c (j : Fin 264), b2 (ix2 j c) = p c (16 + j.val)) (h3 : ∀ c (j : Fin 264), b3 (ix2 j c) = p c (24 + j.val))
    (k1 : ∀ c (j : Fin 264), s1 (ix2 j c) = q c (8 + j.val)) (k2 : ∀ c (j : Fin 264), s2 (ix2 j c) = q c (16 + j.val)) (r : Fin 256) (d : Fin 1024) :
    stored x g sh sc g1 att w0 w1 w2 wm w b0 b1 b2 b3 bias cg cb wc bg sw s1 s2 ws wo (ix3 0 r d)
      = Cert.Mix.token (fun d => x (ix3 0 r d)) (fun d => g1 (ix4 0 0 0 d))
        (Cert.Mix.merged (Cert.Mix.normed (fun d => x (ix3 0 r d)) (fun d => g (ix3 0 0 d)) (fun d => sh (ix4 0 0 0 d)) (fun d => sc (ix4 0 0 0 d)))
          (fun e d => w0 (ix3 0 e d)) (fun e d => w1 (ix3 0 e d)) (fun e d => w2 (ix3 0 e d)) (fun j => att (ix3 0 j r)) (fun j d => wm (ix3 0 j d))
          (Cert.Mix.branch (fun c => Cert.Mix.conv (fun k => w k (ix3 0 0 c)) (p c) (1 + r.val) + bias (ix3 0 0 c)) (fun c => cg (ix3 0 0 c)) (fun c => cb (ix3 0 0 c)))
          (fun c d => wc (ix3 0 c d)) (fun c => bg (ix3 0 r c) * Cert.Mix.conv (fun k => sw k (ix3 0 0 c)) (q c) (15 + r.val)) (fun c d => ws (ix3 0 c d)))
        (fun e d => wo (ix3 0 e d)) d := by
  unfold stored
  rw [tile_eq, tile_at]
  have e0 : ∀ c (j : Fin 264), b0 (ix2 j c) = p c j.val := fun c j => (h0 c j).trans (congrArg (p c) (Nat.zero_add _))
  have hl : ∀ c, long w b0 b1 b2 b3 (ix2 r c) = Cert.Mix.conv (fun k => w k (ix3 0 0 c)) (p c) (1 + r.val) :=
    fun c => long_at r c w b0 b1 b2 b3 (p c) (e0 c) (h1 c) (h2 c) (h3 c)
  have hb : ∀ c, (shapeCast S256x256 bg shapeCasts_S1x256x256_S256x256 : FVec Ideal S256x256 .f32) (ix2 r c) = bg (ix3 0 r c) := by
    intro c; pointwise []
  have hs : ∀ c, (mulf (shapeCast S256x256 bg shapeCasts_S1x256x256_S256x256) (short sw s1 s2) : FVec Ideal S256x256 .f32) (ix2 r c)
      = bg (ix3 0 r c) * Cert.Mix.conv (fun k => sw k (ix3 0 0 c)) (q c) (15 + r.val) :=
    fun c => congrArg₂ (· * ·) (hb c) (short_at r c sw s1 s2 (q c) (k1 c) (k2 c))
  simp only [merge_at, hidden_at, branch_at, hl, hs]

end Cert.Kernel3Ideal.Mix
end
-- ==== Proof.Mix.Block.lean ====
/- One grid point's output block at an index, over the extended reals, from its input blocks. -/
module

public import proofs.«01_k».proof.Proof.Mix.Buffer

@[expose] public section

set_option synthInstance.maxSize 4096
set_option maxRecDepth 16384

noncomputable section

namespace Cert.Kernel3Ideal.Mix

open Cert.Kernel3Ideal.Gen Idealize.ShloMosaic Idealize.SL.Sem

theorem ld_x (x : Vec Ideal S1x256x1024 .f32) (r : Fin 256) (d : Fin 1024) : View.ld x (Rect.unit (s := S1x256x1024) ![0, 0, 0] S1x256x1024.size inb_S1x256x1024_S1x256x1024_0_0_0) (ix3 0 r d) = x (ix3 0 r d) := by
  pointwise []

theorem ld_gain (x : Vec Ideal S1x1x1024 .f32) (d : Fin 1024) : View.ld x (Rect.unit (s := S1x1x1024) ![0, 0, 0] S1x1x1024.size inb_S1x1x1024_S1x1x1024_0_0_0) (ix3 0 0 d) = x (ix3 0 0 d) := by
  pointwise []

theorem ld_mod0 (x : Vec Ideal S1x1x6x1024 .f32) (d : Fin 1024) : View.ld x (Rect.unit (s := S1x1x6x1024) ![0, 0, 0, 0] S1x1x1x1024.size inb_S1x1x6x1024_S1x1x1x1024_0_0_0_0) (ix4 0 0 0 d) = x (ix4 0 0 0 d) := by
  pointwise []

theorem ld_mod1 (x : Vec Ideal S1x1x6x1024 .f32) (d : Fin 1024) : View.ld x (Rect.unit (s := S1x1x6x1024) ![0, 0, 1, 0] S1x1x1x1024.size inb_S1x1x6x1024_S1x1x1x1024_0_0_1_0) (ix4 0 0 0 d) = x (ix4 0 0 1 d) := by
  pointwise []

theorem ld_mod2 (x : Vec Ideal S1x1x6x1024 .f32) (d : Fin 1024) : View.ld x (Rect.unit (s := S1x1x6x1024) ![0, 0, 2, 0] S1x1x1x1024.size inb_S1x1x6x1024_S1x1x1x1024_0_0_2_0) (ix4 0 0 0 d) = x (ix4 0 0 2 d) := by
  pointwise []

theorem ld_att (x : Vec Ideal S1x512x256 .bf16) (j : Fin 512) (r : Fin 256) : View.ld x (Rect.unit (s := S1x512x256) ![0, 0, 0] S1x512x256.size inb_S1x512x256_S1x512x256_0_0_0) (ix3 0 j r) = x (ix3 0 j r) := by
  pointwise []

theorem ld_gate0 (x : Vec Ideal S1x1024x3200 .bf16) (e d : Fin 1024) : View.ld x (Rect.unit (s := S1x1024x3200) ![0, 0, 0] S1x1024x1024.size inb_S1x1024x3200_S1x1024x1024_0_0_0) (ix3 0 e d) = x (ix3 0 e ⟨d.val, by omega⟩) := by
  pointwise []

theorem ld_gate1 (x : Vec Ideal S1x1024x3200 .bf16) (e d : Fin 1024) : View.ld x (Rect.unit (s := S1x1024x3200) ![0, 0, 1024] S1x1024x1024.size inb_S1x1024x3200_S1x1024x1024_0_0_1024) (ix3 0 e d) = x (ix3 0 e ⟨1024 + d.val, by omega⟩) := by
  pointwise []

theorem ld_gate2 (x : Vec Ideal S1x1024x3200 .bf16) (e d : Fin 1024) : View.ld x (Rect.unit (s := S1x1024x3200) ![0, 0, 2048] S1x1024x1024.size inb_S1x1024x3200_S1x1024x1024_0_0_2048) (ix3 0 e d) = x (ix3 0 e ⟨2048 + d.val, by omega⟩) := by
  pointwise []

theorem ld_wm (x : Vec Ideal S1x512x1152 .bf16) (j : Fin 512) (d : Fin 1024) : View.ld x (Rect.unit (s := S1x512x1152) ![0, 0, 0] S1x512x1024.size inb_S1x512x1152_S1x512x1024_0_0_0) (ix3 0 j d) = x (ix3 0 j ⟨d.val, by omega⟩) := by
  pointwise []

theorem ld_line (x : Vec Ideal S1x1x256 .f32) (c : Fin 256) : View.ld x (Rect.unit (s := S1x1x256) ![0, 0, 0] S1x1x256.size inb_S1x1x256_S1x1x256_0_0_0) (ix3 0 0 c) = x (ix3 0 0 c) := by
  pointwise []

theorem ld_proj (x : Vec Ideal S1x256x1152 .bf16) (c : Fin 256) (d : Fin 1024) : View.ld x (Rect.unit (s := S1x256x1152) ![0, 0, 0] S1x256x1024.size inb_S1x256x1152_S1x256x1024_0_0_0) (ix3 0 c d) = x (ix3 0 c ⟨d.val, by omega⟩) := by
  pointwise []

theorem ld_bg (x : Vec Ideal S1x256x256 .f32) (r c : Fin 256) : View.ld x (Rect.unit (s := S1x256x256) ![0, 0, 0] S1x256x256.size inb_S1x256x256_S1x256x256_0_0_0) (ix3 0 r c) = x (ix3 0 r c) := by
  pointwise []

theorem ld_wo (x : Vec Ideal S1x1024x1152 .bf16) (e d : Fin 1024) : View.ld x (Rect.unit (s := S1x1024x1152) ![0, 0, 0] S1x1024x1024.size inb_S1x1024x1152_S1x1024x1024_0_0_0) (ix3 0 e d) = x (ix3 0 e ⟨d.val, by omega⟩) := by
  pointwise []

theorem ld_tap31 (x : Vec Ideal S1x31x256 .f32) (k : Fin 31) (c : Fin 256) :
    View.ld x (Rect.unit (s := S1x31x256) ![0, k.val, 0] S1x1x256.size (inb31 k)) (ix3 0 0 c) = x (ix3 0 k c) := by
  pointwise []

theorem ld_tap3 (x : Vec Ideal S1x3x256 .f32) (k : Fin 3) (c : Fin 256) :
    View.ld x (Rect.unit (s := S1x3x256) ![0, k.val, 0] S1x1x256.size (inb3 k)) (ix3 0 0 c) = x (ix3 0 k c) := by
  pointwise []

/-- The token's line, of equal parts. -/
theorem token_congr {x x' g1 g1' g g' sh sh' sc sc' : Fin 1024 → EReal} {w0 w0' w1 w1' w2 w2' : Fin 1024 → Fin 1024 → EReal} {att att' : Fin 512 → EReal} {wm wm' : Fin 512 → Fin 1024 → EReal} {w w' : Fin 256 → Fin 31 → EReal}
    {bias bias' cg cg' cb cb' : Fin 256 → EReal} {wc wc' : Fin 256 → Fin 1024 → EReal} {bg bg' : Fin 256 → EReal} {sw sw' : Fin 256 → Fin 3 → EReal} {ws ws' : Fin 256 → Fin 1024 → EReal} {wo wo' : Fin 1024 → Fin 1024 → EReal} (p q : Fin 256 → ℕ → EReal) (s s' : ℕ) (d : Fin 1024)
    (hx : x = x') (hg1 : g1 = g1') (hg : g = g') (hsh : sh = sh') (hsc : sc = sc') (hw0 : w0 = w0') (hw1 : w1 = w1') (hw2 : w2 = w2') (hatt : att = att') (hwm : wm = wm') (hw : w = w') (hbias : bias = bias') (hcg : cg = cg') (hcb : cb = cb') (hwc : wc = wc') (hbg : bg = bg') (hsw : sw = sw') (hws : ws = ws') (hwo : wo = wo') :
    Cert.Mix.token x g1 (Cert.Mix.merged (Cert.Mix.normed x g sh sc) w0 w1 w2 att wm (Cert.Mix.branch (fun c => Cert.Mix.conv (w c) (p c) s + bias c) cg cb) wc
        (fun c => bg c * Cert.Mix.conv (sw c) (q c) s') ws) wo d
      = Cert.Mix.token x' g1' (Cert.Mix.merged (Cert.Mix.normed x' g' sh' sc') w0' w1' w2' att' wm' (Cert.Mix.branch (fun c => Cert.Mix.conv (w' c) (p c) s + bias' c) cg' cb') wc'
        (fun c => bg' c * Cert.Mix.conv (sw' c) (q c) s') ws') wo' d := by
  subst hx hg1 hg hsh hsc hw0 hw1 hw2 hatt hwm hw hbias hcg hcb hwc hbg hsw hws hwo
  rfl

section
variable (x0 : Vec Ideal S1x256x1024 .f32) (x1 : Vec Ideal S1x512x256 .bf16) (x2 : Vec Ideal S1x1x6x1024 .f32) (x3 : Vec Ideal S1x256x256 .f32) (x4 : Vec Ideal S1x16x256 .f32) (x5 : Vec Ideal S1x16x256 .f32) (x6 : Vec Ideal S1x256x256 .f32) (x7 : Vec Ideal S1x16x256 .f32) (x8 : Vec Ideal S1x16x256 .f32) (x9 : Vec Ideal S1x256x256 .f32) (x10 : Vec Ideal S1x1x1024 .f32) (x11 : Vec Ideal S1x1024x3200 .bf16) (x12 : Vec Ideal S1x512x1152 .bf16) (x13 : Vec Ideal S1x31x256 .f32) (x14 : Vec Ideal S1x1x256 .f32) (x15 : Vec Ideal S1x1x256 .f32) (x16 : Vec Ideal S1x1x256 .f32) (x17 : Vec Ideal S1x256x1152 .bf16) (x18 : Vec Ideal S1x3x256 .f32) (x19 : Vec Ideal S1x256x1152 .bf16) (x20 : Vec Ideal S1x1024x1152 .bf16)

/-- What a block's token becomes, the values around its block's channels being `p` and `q`. -/
def mixed (p q : Fin 256 → ℕ → EReal) (r : Fin 256) (d : Fin 1024) : EReal :=
  Cert.Mix.token (fun d => x0 (ix3 0 r d)) (fun d => x2 (ix4 0 0 2 d))
    (Cert.Mix.merged (Cert.Mix.normed (fun d => x0 (ix3 0 r d)) (fun d => x10 (ix3 0 0 d)) (fun d => x2 (ix4 0 0 0 d)) (fun d => x2 (ix4 0 0 1 d)))
      (fun e d => x11 (ix3 0 e ⟨d.val, by omega⟩)) (fun e d => x11 (ix3 0 e ⟨1024 + d.val, by omega⟩)) (fun e d => x11 (ix3 0 e ⟨2048 + d.val, by omega⟩))
      (fun j => x1 (ix3 0 j r)) (fun j d => x12 (ix3 0 j ⟨d.val, by omega⟩))
      (Cert.Mix.branch (fun c => Cert.Mix.conv (fun k => x13 (ix3 0 k c)) (p c) (1 + r.val) + x14 (ix3 0 0 c)) (fun c => x15 (ix3 0 0 c)) (fun c => x16 (ix3 0 0 c)))
      (fun c d => x17 (ix3 0 c ⟨d.val, by omega⟩)) (fun c => x9 (ix3 0 r c) * Cert.Mix.conv (fun k => x18 (ix3 0 k c)) (q c) (15 + r.val)) (fun c d => x19 (ix3 0 c ⟨d.val, by omega⟩)))
    (fun e d => x20 (ix3 0 e ⟨d.val, by omega⟩)) d

theorem block_at (c : Dev nD) (i : grid0.Coords) (arg2 : Memref sig .tc .vmem S1x256x1024 .f32) (harg2 : arg2.IsWhole) (arg3 : Memref sig .tc .vmem S1x512x256 .bf16) (harg3 : arg3.IsWhole) (arg4 : Memref sig .tc .vmem S1x1x6x1024 .f32) (harg4 : arg4.IsWhole) (arg5 : Memref sig .tc .vmem S1x256x256 .f32) (harg5 : arg5.IsWhole) (arg6 : Memref sig .tc .vmem S1x16x256 .f32) (harg6 : arg6.IsWhole) (arg7 : Memref sig .tc .vmem S1x16x256 .f32) (harg7 : arg7.IsWhole) (arg8 : Memref sig .tc .vmem S1x256x256 .f32) (harg8 : arg8.IsWhole) (arg9 : Memref sig .tc .vmem S1x16x256 .f32) (harg9 : arg9.IsWhole) (arg10 : Memref sig .tc .vmem S1x16x256 .f32) (harg10 : arg10.IsWhole) (arg11 : Memref sig .tc .vmem S1x256x256 .f32) (harg11 : arg11.IsWhole) (arg12 : Memref sig .tc .vmem S1x1x1024 .f32) (harg12 : arg12.IsWhole) (arg13 : Memref sig .tc .vmem S1x1024x3200 .bf16) (harg13 : arg13.IsWhole) (arg14 : Memref sig .tc .vmem S1x512x1152 .bf16) (harg14 : arg14.IsWhole) (arg15 : Memref sig .tc .vmem S1x31x256 .f32) (harg15 : arg15.IsWhole) (arg16 : Memref sig .tc .vmem S1x1x256 .f32) (harg16 : arg16.IsWhole) (arg17 : Memref sig .tc .vmem S1x1x256 .f32) (harg17 : arg17.IsWhole) (arg18 : Memref sig .tc .vmem S1x1x256 .f32) (harg18 : arg18.IsWhole) (arg19 : Memref sig .tc .vmem S1x256x1152 .bf16) (harg19 : arg19.IsWhole) (arg20 : Memref sig .tc .vmem S1x3x256 .f32) (harg20 : arg20.IsWhole) (arg21 : Memref sig .tc .vmem S1x256x1152 .bf16) (harg21 : arg21.IsWhole) (arg22 : Memref sig .tc .vmem S1x1024x1152 .bf16) (harg22 : arg22.IsWhole) (arg23 : Memref sig .tc .vmem S1x256x1024 .f32) (harg23 : arg23.IsWhole) (arg24 : Memref sig .tc .vmem S288x256 .f32) (harg24 : arg24.IsWhole) (arg25 : Memref sig .tc .vmem S288x256 .f32) (harg25 : arg25.IsWhole) (p q : Fin 256 → ℕ → EReal) (hp : Line i x3 x4 x5 p) (hq : Line i x6 x7 x8 q) (y : S1x256x1024.Idx) :
    out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 y = mixed x0 x1 x2 x9 x10 x11 x12 x13 x14 x15 x16 x17 x18 x19 x20 p q (y 1) (y 2) := by
  unfold out0_A_21
  rw [View.read_writes_eq_canon _ _ _ (cover0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20), pieces_eq]
  canon_tiles x hx
  obtain ⟨r, hr⟩ : ∃ r : Fin 256, r = y 1 := ⟨_, rfl⟩
  obtain ⟨d, hd⟩ : ∃ d : Fin 1024, d = y 2 := ⟨_, rfl⟩
  have er := congrArg Fin.val hr
  have ed := congrArg Fin.val hd
  have hxe : x = ix3 0 r d := by
    funext a
    fin_cases a
    · exact Subsingleton.elim (α := Fin 1) _ _
    · exact Fin.ext (by change (x 1).val = r.val; omega)
    · exact Fin.ext (by change (x 2).val = d.val; omega)
  rw [hxe, ← hr, ← hd]
  obtain ⟨p0, p1, p2⟩ := hp
  obtain ⟨q0, q1, q2⟩ := hq
  have P := fun o h j c => read_at _ _ _ p
    (fun j c => (top_at _ i j c).trans ((congrArg (· * k0_pay2 (F := Ideal) i) (edge_at x4 j c arg6 harg6)).trans (p0 j c)))
    (fun r c => (mid_at _ r c).trans ((core_at x3 r c arg5 harg5).trans (p1 r c)))
    (fun j c => (bottom_at _ i j c).trans ((congrArg (· * k0_pay3 (F := Ideal) i) (edge_at x5 j c arg7 harg7)).trans (p2 j c))) arg24.view o h j c
  have Q := fun o h j c => read_at _ _ _ q
    (fun j c => (top'_at _ i j c).trans ((congrArg (· * k0_pay2 (F := Ideal) i) (edge_at x7 j c arg9 harg9)).trans (q0 j c)))
    (fun r c => (mid'_at _ r c).trans ((core_at x6 r c arg8 harg8).trans (q1 r c)))
    (fun j c => (bottom'_at _ i j c).trans ((congrArg (· * k0_pay3 (F := Ideal) i) (edge_at x8 j c arg10 harg10)).trans (q2 j c))) arg25.view o h j c
  refine (stored_at _ _ _ _ _ _ _ _ _ _ _ _ _ _ _ _ _ _ _ _ _ _ _ _ _ p q (fun c j => P 0 _ j c) (fun c j => P 8 _ j c) (fun c j => P 16 _ j c) (fun c j => P 24 _ j c)
    (fun c j => Q 8 _ j c) (fun c j => Q 16 _ j c) r d).trans ?_
  simp only [View.readAt_eq_ld, Memref.IsWhole.read_unread]
  exact token_congr p q (1 + r.val) (15 + r.val) d (funext fun d => ld_x x0 r d)
    (funext fun d => ld_mod2 x2 d)
    (funext fun d => ld_gain x10 d)
    (funext fun d => ld_mod0 x2 d)
    (funext fun d => ld_mod1 x2 d)
    (funext fun a => funext fun b => ld_gate0 x11 a b)
    (funext fun a => funext fun b => ld_gate1 x11 a b)
    (funext fun a => funext fun b => ld_gate2 x11 a b)
    (funext fun j => ld_att x1 j r)
    (funext fun a => funext fun b => ld_wm x12 a b)
    (funext fun c => funext fun k => ld_tap31 x13 k c)
    (funext fun c => ld_line x14 c)
    (funext fun c => ld_line x15 c)
    (funext fun c => ld_line x16 c)
    (funext fun a => funext fun b => ld_proj x17 a b)
    (funext fun c => ld_bg x9 r c)
    (funext fun c => funext fun k => ld_tap3 x18 k c)
    (funext fun a => funext fun b => ld_proj x19 a b)
    (funext fun a => funext fun b => ld_wo x20 a b)
end

end Cert.Kernel3Ideal.Mix
end
-- ==== Proof.Mix.Reads.lean ====
/- The blocks each grid point reads of its operands, and the values its two buffers hold. -/
module

public import proofs.«01_k».proof.Proof.Mix.Value
public import proofs.«01_k».proof.Proof.Mix.Block

@[expose] public section

set_option synthInstance.maxSize 4096
set_option maxRecDepth 16384

noncomputable section

namespace Cert.Kernel3Ideal.Mix

open Cert.Kernel3Ideal.Gen Idealize.ShloMosaic Idealize.ShloMosaic.TcCoe Idealize.SL.Sem

theorem idx21 : ∀ t : Fin cfg0.N, win0_21.index t 0 < 2 ∧ win0_21.index t 1 < 32 ∧ win0_21.index t 2 = 0 :=
  (by decide +kernel : ∀ t : Fin grid0.N, win0_21.index t 0 < 2 ∧ win0_21.index t 1 < 32 ∧ win0_21.index t 2 = 0)

theorem idx0 : ∀ t : Fin cfg0.N, win0_0.index t 0 = win0_21.index t 0 ∧ win0_0.index t 1 = win0_21.index t 1 ∧ win0_0.index t 2 = 0 :=
  (by decide +kernel : ∀ t : Fin grid0.N, win0_0.index t 0 = win0_21.index t 0 ∧ win0_0.index t 1 = win0_21.index t 1 ∧ win0_0.index t 2 = 0)

theorem read0 (A : FVec Ideal S2x8192x1024 .f32) (t : Fin cfg0.N) (r : Fin 256) (d : Fin 1024) (b : Fin 2) (n : Fin 8192)
    (hb : b.val = win0_21.index t 0) (hn : n.val = 256 * win0_21.index t 1 + r) :
    ((cfg0.win 0).blk t).view.read (Elt Ideal) A (ix3 0 r d) = A (ix3 b n d) := by
  obtain ⟨h0, h1, h2⟩ := idx0 t
  blk_ext [h0, h1, h2]

theorem idx1 : ∀ t : Fin cfg0.N, win0_1.index t 0 = win0_21.index t 0 ∧ win0_1.index t 1 = 0 ∧ win0_1.index t 2 = win0_21.index t 1 :=
  (by decide +kernel : ∀ t : Fin grid0.N, win0_1.index t 0 = win0_21.index t 0 ∧ win0_1.index t 1 = 0 ∧ win0_1.index t 2 = win0_21.index t 1)

theorem read1 (A : FVec Ideal S2x512x8192 .bf16) (t : Fin cfg0.N) (j : Fin 512) (r : Fin 256) (b : Fin 2) (n : Fin 8192)
    (hb : b.val = win0_21.index t 0) (hn : n.val = 256 * win0_21.index t 1 + r) :
    ((cfg0.win 1).blk t).view.read (Elt Ideal) A (ix3 0 j r) = A (ix3 b j n) := by
  obtain ⟨h0, h1, h2⟩ := idx1 t
  blk_ext [h0, h1, h2]

theorem idx2 : ∀ t : Fin cfg0.N, win0_2.index t 0 = 1 ∧ win0_2.index t 1 = win0_21.index t 0 ∧ win0_2.index t 2 = 0 ∧ win0_2.index t 3 = 0 :=
  (by decide +kernel : ∀ t : Fin grid0.N, win0_2.index t 0 = 1 ∧ win0_2.index t 1 = win0_21.index t 0 ∧ win0_2.index t 2 = 0 ∧ win0_2.index t 3 = 0)

theorem read2 (A : FVec Ideal S2x8x6x1024 .f32) (t : Fin cfg0.N) (k : Fin 6) (d : Fin 1024) (b : Fin 8) (hb : b.val = win0_21.index t 0) :
    ((cfg0.win 2).blk t).view.read (Elt Ideal) A (ix4 0 0 k d) = A (ix4 1 b k d) := by
  obtain ⟨h0, h1, h2, h3⟩ := idx2 t
  blk_ext [h0, h1, h2, h3]

theorem idx3 : ∀ t : Fin cfg0.N, win0_3.index t 0 = win0_21.index t 0 ∧ win0_3.index t 1 = win0_21.index t 1 ∧ win0_3.index t 2 = 0 :=
  (by decide +kernel : ∀ t : Fin grid0.N, win0_3.index t 0 = win0_21.index t 0 ∧ win0_3.index t 1 = win0_21.index t 1 ∧ win0_3.index t 2 = 0)

theorem read3 (A : FVec Ideal S2x8448x256 .f32) (t : Fin cfg0.N) (r c : Fin 256) (b : Fin 2) (n : Fin 8448)
    (hb : b.val = win0_21.index t 0) (hn : n.val = 256 * win0_21.index t 1 + r) :
    ((cfg0.win 3).blk t).view.read (Elt Ideal) A (ix3 0 r c) = A (ix3 b n c) := by
  obtain ⟨h0, h1, h2⟩ := idx3 t
  blk_ext [h0, h1, h2]

theorem idx4 : ∀ t : Fin cfg0.N, win0_4.index t 0 = win0_21.index t 0 ∧ win0_4.index t 1 = 16 * win0_21.index t 1 - 1 ∧ win0_4.index t 2 = 0 :=
  (by decide +kernel : ∀ t : Fin grid0.N, win0_4.index t 0 = win0_21.index t 0 ∧ win0_4.index t 1 = 16 * win0_21.index t 1 - 1 ∧ win0_4.index t 2 = 0)

theorem read4 (A : FVec Ideal S2x8448x256 .f32) (t : Fin cfg0.N) (r : Fin 16) (c : Fin 256) (b : Fin 2) (n : Fin 8448)
    (hb : b.val = win0_21.index t 0) (hn : n.val = 16 * (16 * win0_21.index t 1 - 1) + r) :
    ((cfg0.win 4).blk t).view.read (Elt Ideal) A (ix3 0 r c) = A (ix3 b n c) := by
  obtain ⟨h0, h1, h2⟩ := idx4 t
  blk_ext [h0, h1, h2]

theorem idx5 : ∀ t : Fin cfg0.N, win0_5.index t 0 = win0_21.index t 0 ∧ win0_5.index t 1 = 16 * (win0_21.index t 1 + 1) ∧ win0_5.index t 2 = 0 :=
  (by decide +kernel : ∀ t : Fin grid0.N, win0_5.index t 0 = win0_21.index t 0 ∧ win0_5.index t 1 = 16 * (win0_21.index t 1 + 1) ∧ win0_5.index t 2 = 0)

theorem read5 (A : FVec Ideal S2x8448x256 .f32) (t : Fin cfg0.N) (r : Fin 16) (c : Fin 256) (b : Fin 2) (n : Fin 8448)
    (hb : b.val = win0_21.index t 0) (hn : n.val = 16 * (16 * (win0_21.index t 1 + 1)) + r) :
    ((cfg0.win 5).blk t).view.read (Elt Ideal) A (ix3 0 r c) = A (ix3 b n c) := by
  obtain ⟨h0, h1, h2⟩ := idx5 t
  blk_ext [h0, h1, h2]

theorem idx6 : ∀ t : Fin cfg0.N, win0_6.index t 0 = win0_21.index t 0 ∧ win0_6.index t 1 = win0_21.index t 1 ∧ win0_6.index t 2 = 0 :=
  (by decide +kernel : ∀ t : Fin grid0.N, win0_6.index t 0 = win0_21.index t 0 ∧ win0_6.index t 1 = win0_21.index t 1 ∧ win0_6.index t 2 = 0)

theorem read6 (A : FVec Ideal S2x8448x256 .f32) (t : Fin cfg0.N) (r c : Fin 256) (b : Fin 2) (n : Fin 8448)
    (hb : b.val = win0_21.index t 0) (hn : n.val = 256 * win0_21.index t 1 + r) :
    ((cfg0.win 6).blk t).view.read (Elt Ideal) A (ix3 0 r c) = A (ix3 b n c) := by
  obtain ⟨h0, h1, h2⟩ := idx6 t
  blk_ext [h0, h1, h2]

theorem idx7 : ∀ t : Fin cfg0.N, win0_7.index t 0 = win0_21.index t 0 ∧ win0_7.index t 1 = 16 * win0_21.index t 1 - 1 ∧ win0_7.index t 2 = 0 :=
  (by decide +kernel : ∀ t : Fin grid0.N, win0_7.index t 0 = win0_21.index t 0 ∧ win0_7.index t 1 = 16 * win0_21.index t 1 - 1 ∧ win0_7.index t 2 = 0)

theorem read7 (A : FVec Ideal S2x8448x256 .f32) (t : Fin cfg0.N) (r : Fin 16) (c : Fin 256) (b : Fin 2) (n : Fin 8448)
    (hb : b.val = win0_21.index t 0) (hn : n.val = 16 * (16 * win0_21.index t 1 - 1) + r) :
    ((cfg0.win 7).blk t).view.read (Elt Ideal) A (ix3 0 r c) = A (ix3 b n c) := by
  obtain ⟨h0, h1, h2⟩ := idx7 t
  blk_ext [h0, h1, h2]

theorem idx8 : ∀ t : Fin cfg0.N, win0_8.index t 0 = win0_21.index t 0 ∧ win0_8.index t 1 = 16 * (win0_21.index t 1 + 1) ∧ win0_8.index t 2 = 0 :=
  (by decide +kernel : ∀ t : Fin grid0.N, win0_8.index t 0 = win0_21.index t 0 ∧ win0_8.index t 1 = 16 * (win0_21.index t 1 + 1) ∧ win0_8.index t 2 = 0)

theorem read8 (A : FVec Ideal S2x8448x256 .f32) (t : Fin cfg0.N) (r : Fin 16) (c : Fin 256) (b : Fin 2) (n : Fin 8448)
    (hb : b.val = win0_21.index t 0) (hn : n.val = 16 * (16 * (win0_21.index t 1 + 1)) + r) :
    ((cfg0.win 8).blk t).view.read (Elt Ideal) A (ix3 0 r c) = A (ix3 b n c) := by
  obtain ⟨h0, h1, h2⟩ := idx8 t
  blk_ext [h0, h1, h2]

theorem idx9 : ∀ t : Fin cfg0.N, win0_9.index t 0 = win0_21.index t 0 ∧ win0_9.index t 1 = win0_21.index t 1 ∧ win0_9.index t 2 = 0 :=
  (by decide +kernel : ∀ t : Fin grid0.N, win0_9.index t 0 = win0_21.index t 0 ∧ win0_9.index t 1 = win0_21.index t 1 ∧ win0_9.index t 2 = 0)

theorem read9 (A : FVec Ideal S2x8448x256 .f32) (t : Fin cfg0.N) (r c : Fin 256) (b : Fin 2) (n : Fin 8448)
    (hb : b.val = win0_21.index t 0) (hn : n.val = 256 * win0_21.index t 1 + r) :
    ((cfg0.win 9).blk t).view.read (Elt Ideal) A (ix3 0 r c) = A (ix3 b n c) := by
  obtain ⟨h0, h1, h2⟩ := idx9 t
  blk_ext [h0, h1, h2]

theorem idx10 : ∀ t : Fin cfg0.N, win0_10.index t 0 = 1 ∧ win0_10.index t 1 = 0 ∧ win0_10.index t 2 = 0 :=
  (by decide +kernel : ∀ t : Fin grid0.N, win0_10.index t 0 = 1 ∧ win0_10.index t 1 = 0 ∧ win0_10.index t 2 = 0)

theorem read10 (A : FVec Ideal S2x1x1024 .f32) (t : Fin cfg0.N) (d : Fin 1024) :
    ((cfg0.win 10).blk t).view.read (Elt Ideal) A (ix3 0 0 d) = A (ix3 1 0 d) := by
  obtain ⟨h0, h1, h2⟩ := idx10 t
  blk_ext [h0, h1, h2]

theorem idx11 : ∀ t : Fin cfg0.N, win0_11.index t 0 = 1 ∧ win0_11.index t 1 = 0 ∧ win0_11.index t 2 = 0 :=
  (by decide +kernel : ∀ t : Fin grid0.N, win0_11.index t 0 = 1 ∧ win0_11.index t 1 = 0 ∧ win0_11.index t 2 = 0)

theorem read11 (A : FVec Ideal S2x1024x3200 .bf16) (t : Fin cfg0.N) (e : Fin 1024) (d : Fin 3200) :
    ((cfg0.win 11).blk t).view.read (Elt Ideal) A (ix3 0 e d) = A (ix3 1 e d) := by
  obtain ⟨h0, h1, h2⟩ := idx11 t
  blk_ext [h0, h1, h2]

theorem idx12 : ∀ t : Fin cfg0.N, win0_12.index t 0 = 1 ∧ win0_12.index t 1 = 0 ∧ win0_12.index t 2 = 0 :=
  (by decide +kernel : ∀ t : Fin grid0.N, win0_12.index t 0 = 1 ∧ win0_12.index t 1 = 0 ∧ win0_12.index t 2 = 0)

theorem read12 (A : FVec Ideal S2x512x1152 .bf16) (t : Fin cfg0.N) (e : Fin 512) (d : Fin 1152) :
    ((cfg0.win 12).blk t).view.read (Elt Ideal) A (ix3 0 e d) = A (ix3 1 e d) := by
  obtain ⟨h0, h1, h2⟩ := idx12 t
  blk_ext [h0, h1, h2]

theorem idx13 : ∀ t : Fin cfg0.N, win0_13.index t 0 = 1 ∧ win0_13.index t 1 = 0 ∧ win0_13.index t 2 = 0 :=
  (by decide +kernel : ∀ t : Fin grid0.N, win0_13.index t 0 = 1 ∧ win0_13.index t 1 = 0 ∧ win0_13.index t 2 = 0)

theorem read13 (A : FVec Ideal S2x31x256 .f32) (t : Fin cfg0.N) (e : Fin 31) (d : Fin 256) :
    ((cfg0.win 13).blk t).view.read (Elt Ideal) A (ix3 0 e d) = A (ix3 1 e d) := by
  obtain ⟨h0, h1, h2⟩ := idx13 t
  blk_ext [h0, h1, h2]

theorem idx14 : ∀ t : Fin cfg0.N, win0_14.index t 0 = 1 ∧ win0_14.index t 1 = 0 ∧ win0_14.index t 2 = 0 :=
  (by decide +kernel : ∀ t : Fin grid0.N, win0_14.index t 0 = 1 ∧ win0_14.index t 1 = 0 ∧ win0_14.index t 2 = 0)

theorem read14 (A : FVec Ideal S2x1x256 .f32) (t : Fin cfg0.N) (d : Fin 256) :
    ((cfg0.win 14).blk t).view.read (Elt Ideal) A (ix3 0 0 d) = A (ix3 1 0 d) := by
  obtain ⟨h0, h1, h2⟩ := idx14 t
  blk_ext [h0, h1, h2]

theorem idx15 : ∀ t : Fin cfg0.N, win0_15.index t 0 = 1 ∧ win0_15.index t 1 = 0 ∧ win0_15.index t 2 = 0 :=
  (by decide +kernel : ∀ t : Fin grid0.N, win0_15.index t 0 = 1 ∧ win0_15.index t 1 = 0 ∧ win0_15.index t 2 = 0)

theorem read15 (A : FVec Ideal S2x1x256 .f32) (t : Fin cfg0.N) (d : Fin 256) :
    ((cfg0.win 15).blk t).view.read (Elt Ideal) A (ix3 0 0 d) = A (ix3 1 0 d) := by
  obtain ⟨h0, h1, h2⟩ := idx15 t
  blk_ext [h0, h1, h2]

theorem idx16 : ∀ t : Fin cfg0.N, win0_16.index t 0 = 1 ∧ win0_16.index t 1 = 0 ∧ win0_16.index t 2 = 0 :=
  (by decide +kernel : ∀ t : Fin grid0.N, win0_16.index t 0 = 1 ∧ win0_16.index t 1 = 0 ∧ win0_16.index t 2 = 0)

theorem read16 (A : FVec Ideal S2x1x256 .f32) (t : Fin cfg0.N) (d : Fin 256) :
    ((cfg0.win 16).blk t).view.read (Elt Ideal) A (ix3 0 0 d) = A (ix3 1 0 d) := by
  obtain ⟨h0, h1, h2⟩ := idx16 t
  blk_ext [h0, h1, h2]

theorem idx17 : ∀ t : Fin cfg0.N, win0_17.index t 0 = 1 ∧ win0_17.index t 1 = 0 ∧ win0_17.index t 2 = 0 :=
  (by decide +kernel : ∀ t : Fin grid0.N, win0_17.index t 0 = 1 ∧ win0_17.index t 1 = 0 ∧ win0_17.index t 2 = 0)

theorem read17 (A : FVec Ideal S2x256x1152 .bf16) (t : Fin cfg0.N) (e : Fin 256) (d : Fin 1152) :
    ((cfg0.win 17).blk t).view.read (Elt Ideal) A (ix3 0 e d) = A (ix3 1 e d) := by
  obtain ⟨h0, h1, h2⟩ := idx17 t
  blk_ext [h0, h1, h2]

theorem idx18 : ∀ t : Fin cfg0.N, win0_18.index t 0 = 1 ∧ win0_18.index t 1 = 0 ∧ win0_18.index t 2 = 0 :=
  (by decide +kernel : ∀ t : Fin grid0.N, win0_18.index t 0 = 1 ∧ win0_18.index t 1 = 0 ∧ win0_18.index t 2 = 0)

theorem read18 (A : FVec Ideal S2x3x256 .f32) (t : Fin cfg0.N) (e : Fin 3) (d : Fin 256) :
    ((cfg0.win 18).blk t).view.read (Elt Ideal) A (ix3 0 e d) = A (ix3 1 e d) := by
  obtain ⟨h0, h1, h2⟩ := idx18 t
  blk_ext [h0, h1, h2]

theorem idx19 : ∀ t : Fin cfg0.N, win0_19.index t 0 = 1 ∧ win0_19.index t 1 = 0 ∧ win0_19.index t 2 = 0 :=
  (by decide +kernel : ∀ t : Fin grid0.N, win0_19.index t 0 = 1 ∧ win0_19.index t 1 = 0 ∧ win0_19.index t 2 = 0)

theorem read19 (A : FVec Ideal S2x256x1152 .bf16) (t : Fin cfg0.N) (e : Fin 256) (d : Fin 1152) :
    ((cfg0.win 19).blk t).view.read (Elt Ideal) A (ix3 0 e d) = A (ix3 1 e d) := by
  obtain ⟨h0, h1, h2⟩ := idx19 t
  blk_ext [h0, h1, h2]

theorem idx20 : ∀ t : Fin cfg0.N, win0_20.index t 0 = 1 ∧ win0_20.index t 1 = 0 ∧ win0_20.index t 2 = 0 :=
  (by decide +kernel : ∀ t : Fin grid0.N, win0_20.index t 0 = 1 ∧ win0_20.index t 1 = 0 ∧ win0_20.index t 2 = 0)

theorem read20 (A : FVec Ideal S2x1024x1152 .bf16) (t : Fin cfg0.N) (e : Fin 1024) (d : Fin 1152) :
    ((cfg0.win 20).blk t).view.read (Elt Ideal) A (ix3 0 e d) = A (ix3 1 e d) := by
  obtain ⟨h0, h1, h2⟩ := idx20 t
  blk_ext [h0, h1, h2]

/-- Whether a point's rows before its block are outside the sequence, and those after it. -/
theorem before : ∀ t : Fin cfg0.N, Scalar.ori (Scalar.cmpi .eq (BitVec.ofNat 32 (grid0.coords t 1).val) 0#32) (Scalar.cmpi .sge (BitVec.ofNat 32 (grid0.coords t 1).val) 32#32)
    = if win0_21.index t 1 = 0 then 1#1 else 0#1 :=
  (by decide +kernel : ∀ t : Fin grid0.N, Scalar.ori (Scalar.cmpi .eq (BitVec.ofNat 32 (grid0.coords t 1).val) 0#32) (Scalar.cmpi .sge (BitVec.ofNat 32 (grid0.coords t 1).val) 32#32)
    = if win0_21.index t 1 = 0 then 1#1 else 0#1)

theorem after : ∀ t : Fin cfg0.N, Scalar.ori (Scalar.cmpi .eq (BitVec.ofNat 32 (grid0.coords t 1).val) 31#32) (Scalar.cmpi .sge (BitVec.ofNat 32 (grid0.coords t 1).val) 32#32)
    = if win0_21.index t 1 = 31 then 1#1 else 0#1 :=
  (by decide +kernel : ∀ t : Fin grid0.N, Scalar.ori (Scalar.cmpi .eq (BitVec.ofNat 32 (grid0.coords t 1).val) 31#32) (Scalar.cmpi .sge (BitVec.ofNat 32 (grid0.coords t 1).val) 32#32)
    = if win0_21.index t 1 = 31 then 1#1 else 0#1)

theorem keep_before (t : Fin cfg0.N) : k0_pay2 (F := Ideal) (grid0.coords t) = if win0_21.index t 1 = 0 then (0 : EReal) else 1 := by
  show Scalar.select (Scalar.ori _ _) (Ideal.ofBits .f32 0x00000000#32) (Ideal.ofBits .f32 0x3F800000#32) = _
  rw [before, Ideal.ofBits_one_f32, Ideal.ofBits_zero_f32]
  split <;> rfl

theorem keep_after (t : Fin cfg0.N) : k0_pay3 (F := Ideal) (grid0.coords t) = if win0_21.index t 1 = 31 then (0 : EReal) else 1 := by
  show Scalar.select (Scalar.ori _ _) (Ideal.ofBits .f32 0x00000000#32) (Ideal.ofBits .f32 0x3F800000#32) = _
  rw [after, Ideal.ofBits_one_f32, Ideal.ofBits_zero_f32]
  split <;> rfl

/-- A channel's values over the sequence. -/
def channel (U : FVec Ideal S2x8448x256 .f32) (b : Fin 2) (c : Fin 256) (n : Fin 8192) : EReal := U (ix3 b ⟨n.val, by omega⟩ c)

theorem padded_of {u : Fin 8192 → EReal} {s : ℕ} (n : Fin 8192) (h : s = 16 + n.val) : Cert.Mix.padded u s = u n := by
  unfold Cert.Mix.padded
  rw [dif_pos ⟨by omega, by omega⟩]
  exact congrArg u (Fin.ext (by simp only; omega))

theorem padded_zero {u : Fin 8192 → EReal} {s : ℕ} (h : ¬ (16 ≤ s ∧ s < 8208)) : Cert.Mix.padded u s = 0 := by
  unfold Cert.Mix.padded
  rw [dif_neg h]

/-- The buffer filled from blocks of `U` around tile `i` holds the padded channels from row `256 i` on. -/
theorem line_of (U : FVec Ideal S2x8448x256 .f32) (t : Fin cfg0.N) (b : Fin 2) (mid : Vec Ideal S1x256x256 .f32) (top bottom : Vec Ideal S1x16x256 .f32)
    (hm : ∀ (r c : Fin 256) (n : Fin 8448), n.val = 256 * win0_21.index t 1 + r → mid (ix3 0 r c) = U (ix3 b n c))
    (ht : ∀ (r : Fin 16) (c : Fin 256) (n : Fin 8448), n.val = 16 * (16 * win0_21.index t 1 - 1) + r → top (ix3 0 r c) = U (ix3 b n c))
    (hb : ∀ (r : Fin 16) (c : Fin 256) (n : Fin 8448), n.val = 16 * (16 * (win0_21.index t 1 + 1)) + r → bottom (ix3 0 r c) = U (ix3 b n c)) :
    Line (grid0.coords t) mid top bottom fun c s => Cert.Mix.padded (channel U b c) (256 * win0_21.index t 1 + s) := by
  obtain ⟨_, hi, _⟩ := idx21 t
  refine ⟨fun j c => ?_, fun r c => ?_, fun j c => ?_⟩
  · rw [keep_before]
    by_cases h : win0_21.index t 1 = 0
    · rw [if_pos h, mul_zero]
      exact (padded_zero (by omega)).symm
    · rw [if_neg h, mul_one]
      have hn : 256 * win0_21.index t 1 + j.val - 16 < 8192 := by omega
      exact (ht j c ⟨256 * win0_21.index t 1 + j.val - 16, by omega⟩ (by simp only; omega)).trans (padded_of (u := channel U b c) (s := 256 * win0_21.index t 1 + j.val) ⟨256 * win0_21.index t 1 + j.val - 16, hn⟩ (by simp only; omega)).symm
  · have hn : 256 * win0_21.index t 1 + r.val < 8192 := by omega
    exact (hm r c ⟨256 * win0_21.index t 1 + r.val, by omega⟩ rfl).trans (padded_of (u := channel U b c) (s := 256 * win0_21.index t 1 + (16 + r.val)) ⟨256 * win0_21.index t 1 + r.val, hn⟩ (by simp only; omega)).symm
  · rw [keep_after]
    by_cases h : win0_21.index t 1 = 31
    · rw [if_pos h, mul_zero]
      exact (padded_zero (by omega)).symm
    · rw [if_neg h, mul_one]
      have hn : 256 * win0_21.index t 1 + 256 + j.val < 8192 := by omega
      exact (hb j c ⟨256 * win0_21.index t 1 + 256 + j.val, by omega⟩ (by simp only; omega)).trans (padded_of (u := channel U b c) (s := 256 * win0_21.index t 1 + (272 + j.val)) ⟨256 * win0_21.index t 1 + 256 + j.val, hn⟩ (by simp only; omega)).symm

/-- The weighted sum from a place of the values from another on. -/
theorem conv_shift {K : ℕ} (w : Fin K → EReal) (p : ℕ → EReal) (a s z : ℕ) (h : z = a + s) :
    Cert.Mix.conv w (fun s => p (a + s)) s = Cert.Mix.conv w p z := by
  subst h
  unfold Cert.Mix.conv
  exact Finset.sum_congr rfl fun k _ => congrArg (fun n => w k * p n) (Nat.add_assoc _ _ _).symm

end Cert.Kernel3Ideal.Mix
end
-- ==== Proof.Mix.Array.lean ====
/- The result array at an index, over the extended reals, from the operands as the region finds them. -/
module

public import proofs.«01_k».proof.Proof.Mix.Reads

@[expose] public section

set_option synthInstance.maxSize 4096
set_option maxRecDepth 16384

noncomputable section

namespace Cert.Kernel3Ideal.Mix

open Cert.Kernel3Ideal.Gen Idealize.ShloMosaic Idealize.ShloMosaic.TcCoe Idealize.SL.Sem

section
variable (X : FVec Ideal S2x8192x1024 .f32) (A : FVec Ideal S2x512x8192 .bf16) (M : FVec Ideal S2x8x6x1024 .f32) (U : FVec Ideal S2x8448x256 .f32) (C : FVec Ideal S2x8448x256 .f32) (B : FVec Ideal S2x8448x256 .f32) (G : FVec Ideal S2x1x1024 .f32) (WG : FVec Ideal S2x1024x3200 .bf16) (WM : FVec Ideal S2x512x1152 .bf16) (DW : FVec Ideal S2x31x256 .f32) (DB : FVec Ideal S2x1x256 .f32) (CG : FVec Ideal S2x1x256 .f32) (CB : FVec Ideal S2x1x256 .f32) (WC : FVec Ideal S2x256x1152 .bf16) (SW : FVec Ideal S2x3x256 .f32) (WS : FVec Ideal S2x256x1152 .bf16) (WO : FVec Ideal S2x1024x1152 .bf16)

/-- What a token of the stream becomes. -/
def Row (b : Fin 2) (n : Fin 8192) (d : Fin 1024) : EReal :=
  Cert.Mix.token (fun d => X (ix3 b n d)) (fun d => M (ix4 1 ⟨b, by omega⟩ 2 d))
    (Cert.Mix.merged (Cert.Mix.normed (fun d => X (ix3 b n d)) (fun d => G (ix3 1 0 d)) (fun d => M (ix4 1 ⟨b, by omega⟩ 0 d)) (fun d => M (ix4 1 ⟨b, by omega⟩ 1 d)))
      (fun e d => WG (ix3 1 e ⟨d.val, by omega⟩)) (fun e d => WG (ix3 1 e ⟨1024 + d.val, by omega⟩)) (fun e d => WG (ix3 1 e ⟨2048 + d.val, by omega⟩))
      (fun j => A (ix3 b j n)) (fun j d => WM (ix3 1 j ⟨d.val, by omega⟩))
      (Cert.Mix.branch (fun c => Cert.Mix.conv (fun k => DW (ix3 1 k c)) (Cert.Mix.padded (channel U b c)) (n.val + 1) + DB (ix3 1 0 c)) (fun c => CG (ix3 1 0 c)) (fun c => CB (ix3 1 0 c)))
      (fun c d => WC (ix3 1 c ⟨d.val, by omega⟩)) (fun c => B (ix3 b ⟨n.val, by omega⟩ c) * Cert.Mix.conv (fun k => SW (ix3 1 k c)) (Cert.Mix.padded (channel C b c)) (n.val + 15))
      (fun c d => WS (ix3 1 c ⟨d.val, by omega⟩)))
    (fun e d => WO (ix3 1 e ⟨d.val, by omega⟩)) d
end

variable (m : (ℓ : Loc nD τ sig) → Buf (Elt Ideal) ℓ)

/-- What a point leaves in its block, its channels' values being padded ones. -/
theorem outs_at (c : Dev nD) (t : Fin cfg0.N) (b : Fin 2) (e0 : b.val = win0_21.index t 0) (y : S1x256x1024.Idx) :
    outsAt0 m c t y = mixed (iblk m c 0 t) (iblk m c 1 t) (iblk m c 2 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (fun e s => Cert.Mix.padded (channel (V m c main_arg3 : FVec Ideal S2x8448x256 .f32) b e) (256 * win0_21.index t 1 + s))
      (fun e s => Cert.Mix.padded (channel (V m c main_arg4 : FVec Ideal S2x8448x256 .f32) b e) (256 * win0_21.index t 1 + s)) (y 1) (y 2) := by
  have L := line_of (V m c main_arg3 : FVec Ideal S2x8448x256 .f32) t b (iblk m c 3 t) (iblk m c 4 t) (iblk m c 5 t)
    (fun r c n h => read3 _ t r c b n e0 h) (fun r c n h => read4 _ t r c b n e0 h) (fun r c n h => read5 _ t r c b n e0 h)
  have L' := line_of (V m c main_arg4 : FVec Ideal S2x8448x256 .f32) t b (iblk m c 6 t) (iblk m c 7 t) (iblk m c 8 t)
    (fun r c n h => read6 _ t r c b n e0 h) (fun r c n h => read7 _ t r c b n e0 h) (fun r c n h => read8 _ t r c b n e0 h)
  rw [outsAt0]
  exact block_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) c (grid0.coords t) _ _ _ _ _ _ _ _ _ _ _ _ _ _ _ _ _ _ _ _ _ _ _ _ _ _ _ _ _ _ _ _ _ _ _ _ _ _ _ _ _ _ _ _ _ _ _ _ _ _ L L' y

/-- A point's token, from the operands. -/
theorem point_at (c : Dev nD) (t : Fin cfg0.N) (b : Fin 2) (n : Fin 8192) (r : Fin 256) (d : Fin 1024) (e0 : b.val = win0_21.index t 0) (en : n.val = 256 * win0_21.index t 1 + r.val) :
    mixed (iblk m c 0 t) (iblk m c 1 t) (iblk m c 2 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (fun e s => Cert.Mix.padded (channel (V m c main_arg3 : FVec Ideal S2x8448x256 .f32) b e) (256 * win0_21.index t 1 + s))
      (fun e s => Cert.Mix.padded (channel (V m c main_arg4 : FVec Ideal S2x8448x256 .f32) b e) (256 * win0_21.index t 1 + s)) r d = Row (V m c main_arg0) (V m c main_v1) (V m c main_arg2) (V m c main_arg3) (V m c main_arg4) (V m c main_arg5) (V m c main_v13) (V m c main_v4) (V m c main_v6) (V m c main_arg9) (V m c main_v14) (V m c main_v15) (V m c main_v16) (V m c main_v8) (V m c main_arg14) (V m c main_v10) (V m c main_v12) b n d := by
  have lm : ∀ k d, iblk m c 2 t (ix4 0 0 k d) = (V m c main_arg2 : FVec Ideal S2x8x6x1024 .f32) (ix4 1 ⟨b, by omega⟩ k d) := fun k d => read2 (V m c main_arg2 : FVec Ideal S2x8x6x1024 .f32) t k d ⟨b, by omega⟩ e0
  unfold mixed Row
  refine (token_congr _ _ (1 + r.val) (15 + r.val) d (funext fun d => read0 (V m c main_arg0 : FVec Ideal S2x8192x1024 .f32) t r d b n e0 en) (funext fun d => lm 2 d) (funext fun d => read10 (V m c main_v13 : FVec Ideal S2x1x1024 .f32) t d) (funext fun d => lm 0 d) (funext fun d => lm 1 d)
    (funext fun e => funext fun d => read11 (V m c main_v4 : FVec Ideal S2x1024x3200 .bf16) t e _) (funext fun e => funext fun d => read11 (V m c main_v4 : FVec Ideal S2x1024x3200 .bf16) t e _) (funext fun e => funext fun d => read11 (V m c main_v4 : FVec Ideal S2x1024x3200 .bf16) t e _)
    (funext fun j => read1 (V m c main_v1 : FVec Ideal S2x512x8192 .bf16) t j r b n e0 en) (funext fun j => funext fun d => read12 (V m c main_v6 : FVec Ideal S2x512x1152 .bf16) t j _) (funext fun h => funext fun k => read13 (V m c main_arg9 : FVec Ideal S2x31x256 .f32) t k h)
    (funext fun h => read14 (V m c main_v14 : FVec Ideal S2x1x256 .f32) t h) (funext fun h => read15 (V m c main_v15 : FVec Ideal S2x1x256 .f32) t h) (funext fun h => read16 (V m c main_v16 : FVec Ideal S2x1x256 .f32) t h) (funext fun e => funext fun d => read17 (V m c main_v8 : FVec Ideal S2x256x1152 .bf16) t e _)
    (funext fun h => read9 (V m c main_arg5 : FVec Ideal S2x8448x256 .f32) t r h b ⟨n.val, by omega⟩ e0 en) (funext fun h => funext fun k => read18 (V m c main_arg14 : FVec Ideal S2x3x256 .f32) t k h)
    (funext fun e => funext fun d => read19 (V m c main_v10 : FVec Ideal S2x256x1152 .bf16) t e _) (funext fun e => funext fun d => read20 (V m c main_v12 : FVec Ideal S2x1024x1152 .bf16) t e _)).trans ?_
  have s1 : ∀ (w : Fin 31 → EReal) (p : ℕ → EReal), Cert.Mix.conv w (fun s => p (256 * win0_21.index t 1 + s)) (1 + r.val) = Cert.Mix.conv w p (n.val + 1) :=
    fun w p => conv_shift w p _ _ _ (by omega)
  have s2 : ∀ (w : Fin 3 → EReal) (p : ℕ → EReal), Cert.Mix.conv w (fun s => p (256 * win0_21.index t 1 + s)) (15 + r.val) = Cert.Mix.conv w p (n.val + 15) :=
    fun w p => conv_shift w p _ _ _ (by omega)
  simp only [s1, s2]

/-- Every element of the result, from the operands. -/
theorem arr_at (c : Dev nD) (i : S2x8192x1024.Idx) :
    (dats m 0 c).arrAt 21 cfg0.N i = Row (V m c main_arg0) (V m c main_v1) (V m c main_arg2) (V m c main_arg3) (V m c main_arg4) (V m c main_arg5) (V m c main_v13) (V m c main_v4) (V m c main_v6) (V m c main_arg9) (V m c main_v14) (V m c main_v15) (V m c main_v16) (V m c main_v8) (V m c main_arg14) (V m c main_v10) (V m c main_v12) (i 0) (i 1) (i 2) := by
  refine (dats m 0 c).arrAt_forall_of_covers 21 (fun i v => v = Row (V m c main_arg0) (V m c main_v1) (V m c main_arg2) (V m c main_arg3) (V m c main_arg4) (V m c main_arg5) (V m c main_v13) (V m c main_v4) (V m c main_v6) (V m c main_arg9) (V m c main_v14) (V m c main_v15) (V m c main_v16) (V m c main_v8) (V m c main_arg14) (V m c main_v10) (V m c main_v12) (i 0) (i 1) (i 2))
    (by decide +kernel) (fun t hf y => ?_) i
  blk_simp
  rw [after0_21]
  obtain ⟨i0, i1, i2⟩ := idx21 t
  have y0 : (y 0).val < 1 := (y 0).isLt
  obtain ⟨b, hb⟩ : ∃ b : Fin 2, b = (win0_21.blk t).view.emb y 0 := ⟨_, rfl⟩
  obtain ⟨n, hn⟩ : ∃ n : Fin 8192, n = (win0_21.blk t).view.emb y 1 := ⟨_, rfl⟩
  obtain ⟨d, hd⟩ : ∃ d : Fin 1024, d = (win0_21.blk t).view.emb y 2 := ⟨_, rfl⟩
  have e0 := congrArg Fin.val hb
  have e1 := congrArg Fin.val hn
  have e2 := congrArg Fin.val hd
  blk_simp at e0 e1 e2
  change b.val = win0_21.index t 0 at e0
  change n.val = win0_21.index t 1 * 256 + (y 1).val at e1
  change d.val = win0_21.index t 2 * 1024 + (y 2).val at e2
  obtain ⟨r, hr⟩ : ∃ r : Fin 256, r = y 1 := ⟨_, rfl⟩
  have hr' := congrArg Fin.val hr
  have hd' : d = y 2 := Fin.ext (by omega)
  have en : n.val = 256 * win0_21.index t 1 + r.val := by omega
  rw [← hb, ← hn, ← hd]
  rw [outs_at m c t b e0 y]
  refine Eq.trans ?_ (point_at m c t b n r d e0 en)
  rw [hr, hd']

end Cert.Kernel3Ideal.Mix
end
-- ==== Proof.Mix.Entry.lean ====
/- The host's operands, from the arguments: a transpose, a slice, and casts, paddings and reshapes. -/
module

public import proofs.«01_k».proof.Proof.Mix.Value
public import Idealize.ShloMosaic.PureOps.Ideal
public import Idealize.ShloMosaic.Lib.Pointwise
public import Idealize.ShloMosaic.Lib.StableHlo.Run
public import Idealize.ShloMosaic.Lib.StableHlo.RunRead

@[expose] public section

set_option synthInstance.maxSize 4096
set_option maxRecDepth 16384

noncomputable section

namespace Cert.Kernel3Ideal.Mix

open Cert.Kernel3Ideal.Gen Idealize.ShloMosaic Idealize.ShloMosaic.TcCoe Idealize.SL.Sem

section
variable (m : (ℓ : Loc nD τ sig) → Buf (Elt Ideal) ℓ) (c : Dev nD)

theorem V_att : V m c main_v1 = transpose S2x512x8192 [0, 2, 1] (m (c.tc.loc main_arg1) : FVec Ideal S2x8192x512 .f32) transposes_S2x8192x512_S2x512x8192_0_2_1 := by
  unfold_abbrev_sides
  after_reads_simp <;> rfl

theorem V_gate : V m c main_v4 = pad S2x1024x3200 ![0, 0, 0] ![0, 0, 128] ![0, 0, 0] (extractStridedSlice S2x1024x3072 ![0, 0, 1952] (m (c.tc.loc main_arg7) : FVec Ideal S2x1024x5024 .f32) slices_S2x1024x5024_S2x1024x3072_0_0_1952 : FVec Ideal S2x1024x3072 .bf16)
    (sitofp (F := Ideal) .bf16 (constantI S_ 32 0#32)) pads_S2x1024x3072_S2x1024x3200_000_000_01280 h_S_ := by
  unfold_abbrev_sides
  after_reads_simp <;> rfl

theorem V_wm : V m c main_v6 = pad S2x512x1152 ![0, 0, 0] ![0, 0, 128] ![0, 0, 0] (m (c.tc.loc main_arg8) : FVec Ideal S2x512x1024 .f32)
    (sitofp (F := Ideal) .f32 (constantI S_ 32 0#32)) pads_S2x512x1024_S2x512x1152_000_000_01280 h_S_ := by
  unfold_abbrev_sides
  after_reads_simp <;> rfl

theorem V_wc : V m c main_v8 = pad S2x256x1152 ![0, 0, 0] ![0, 0, 128] ![0, 0, 0] (m (c.tc.loc main_arg13) : FVec Ideal S2x256x1024 .f32)
    (sitofp (F := Ideal) .f32 (constantI S_ 32 0#32)) pads_S2x256x1024_S2x256x1152_000_000_01280 h_S_ := by
  unfold_abbrev_sides
  after_reads_simp <;> rfl

theorem V_ws : V m c main_v10 = pad S2x256x1152 ![0, 0, 0] ![0, 0, 128] ![0, 0, 0] (m (c.tc.loc main_arg15) : FVec Ideal S2x256x1024 .f32)
    (sitofp (F := Ideal) .f32 (constantI S_ 32 0#32)) pads_S2x256x1024_S2x256x1152_000_000_01280 h_S_ := by
  unfold_abbrev_sides
  after_reads_simp <;> rfl

theorem V_wo : V m c main_v12 = pad S2x1024x1152 ![0, 0, 0] ![0, 0, 128] ![0, 0, 0] (m (c.tc.loc main_arg16) : FVec Ideal S2x1024x1024 .f32)
    (sitofp (F := Ideal) .f32 (constantI S_ 32 0#32)) pads_S2x1024x1024_S2x1024x1152_000_000_01280 h_S_ := by
  unfold_abbrev_sides
  after_reads_simp <;> rfl

theorem V_gain : V m c main_v13 = shapeCast S2x1x1024 (m (c.tc.loc main_arg6) : FVec Ideal S2x1024 .f32) shapeCasts_S2x1024_S2x1x1024 := by
  unfold_abbrev_sides
  after_reads_simp <;> rfl

theorem V_bias : V m c main_v14 = shapeCast S2x1x256 (m (c.tc.loc main_arg10) : FVec Ideal S2x256 .f32) shapeCasts_S2x256_S2x1x256 := by
  unfold_abbrev_sides
  after_reads_simp <;> rfl

theorem V_cg : V m c main_v15 = shapeCast S2x1x256 (m (c.tc.loc main_arg11) : FVec Ideal S2x256 .f32) shapeCasts_S2x256_S2x1x256 := by
  unfold_abbrev_sides
  after_reads_simp <;> rfl

theorem V_cb : V m c main_v16 = shapeCast S2x1x256 (m (c.tc.loc main_arg12) : FVec Ideal S2x256 .f32) shapeCasts_S2x256_S2x1x256 := by
  unfold_abbrev_sides
  after_reads_simp <;> rfl

end

theorem att_at (a : FVec Ideal S2x8192x512 .f32) (b : Fin 2) (j : Fin 512) (n : Fin 8192) :
    transpose S2x512x8192 [0, 2, 1] a transposes_S2x8192x512_S2x512x8192_0_2_1 (ix3 b j n) = a (ix3 b n j) := by
  pointwise []

theorem gate_at (w : FVec Ideal S2x1024x5024 .f32) (z : FVec Ideal S_ .bf16) (e : Fin 1024) (d : Fin 3072) :
    pad S2x1024x3200 ![0, 0, 0] ![0, 0, 128] ![0, 0, 0] (extractStridedSlice S2x1024x3072 ![0, 0, 1952] w slices_S2x1024x5024_S2x1024x3072_0_0_1952 : FVec Ideal S2x1024x3072 .bf16)
      z pads_S2x1024x3072_S2x1024x3200_000_000_01280 h_S_ (ix3 1 e ⟨d.val, by omega⟩) = w (ix3 1 e ⟨1952 + d.val, by omega⟩) := by
  pointwise []

theorem proj512_at (w : FVec Ideal S2x512x1024 .f32) (z : FVec Ideal S_ .f32) (e : Fin 512) (d : Fin 1024) :
    pad S2x512x1152 ![0, 0, 0] ![0, 0, 128] ![0, 0, 0] w z pads_S2x512x1024_S2x512x1152_000_000_01280 h_S_ (ix3 1 e ⟨d.val, by omega⟩) = w (ix3 1 e d) := by
  pointwise []

theorem proj256_at (w : FVec Ideal S2x256x1024 .f32) (z : FVec Ideal S_ .f32) (e : Fin 256) (d : Fin 1024) :
    pad S2x256x1152 ![0, 0, 0] ![0, 0, 128] ![0, 0, 0] w z pads_S2x256x1024_S2x256x1152_000_000_01280 h_S_ (ix3 1 e ⟨d.val, by omega⟩) = w (ix3 1 e d) := by
  pointwise []

theorem proj1024_at (w : FVec Ideal S2x1024x1024 .f32) (z : FVec Ideal S_ .f32) (e : Fin 1024) (d : Fin 1024) :
    pad S2x1024x1152 ![0, 0, 0] ![0, 0, 128] ![0, 0, 0] w z pads_S2x1024x1024_S2x1024x1152_000_000_01280 h_S_ (ix3 1 e ⟨d.val, by omega⟩) = w (ix3 1 e d) := by
  pointwise []

theorem line1024_at (g : FVec Ideal S2x1024 .f32) (d : Fin 1024) : shapeCast S2x1x1024 g shapeCasts_S2x1024_S2x1x1024 (ix3 1 0 d) = g (ix2 1 d) := by
  pointwise []

theorem line256_at (g : FVec Ideal S2x256 .f32) (d : Fin 256) : shapeCast S2x1x256 g shapeCasts_S2x256_S2x1x256 (ix3 1 0 d) = g (ix2 1 d) := by
  pointwise []

end Cert.Kernel3Ideal.Mix
end
-- ==== Proof.Mix.Ref.lean ====
/- The reference's result at an index. -/
module

public import proofs.«01_k».proof.Proof.Gen.Reference3Ideal.Run
public import proofs.«01_k».proof.Proof.Mix.Gated
public import Idealize.ShloMosaic.PureOps.Ideal
public import Idealize.ShloMosaic.Lib.Pointwise
public import Idealize.ShloMosaic.Lib.IdealHost

@[expose] public section

set_option synthInstance.maxSize 4096
set_option maxRecDepth 16384

noncomputable section

namespace Cert.Reference3Ideal.Mix

open Cert.Reference3Ideal Cert.Reference3Ideal.Gen Idealize.ShloMosaic Idealize.ShloMosaic.TcCoe Idealize.SL.Sem Idealize.ShloMosaic.StableHlo

section
variable {F : FTy → Type} [FloatOps F]

/-- A sample's line on each of its tokens. -/
def perSample (v : FVec F S2x1x1024 .f32) : FVec F S2x8192x1024 .f32 :=
  broadcastInDim S2x8192x1024 ![0, 1, 2] bcast_S2x1x1024_S2x8192x1024_0_1_2 v

/-- One of the second layer's modulation lines of every sample. -/
def line (n : ℕ) (h : S2x8x6x1024.Slices ![1, 0, n, 0] S1x2x1x1024) (m : FVec F S2x8x6x1024 .f32) : FVec F S2x1x1024 .f32 :=
  broadcastInDim S2x1x1024 ![0, 2] bcast_S2x1024_S2x1x1024_0_2 (shapeCast S2x1024 (extractStridedSlice S1x2x1x1024 ![1, 0, n, 0] m h) shapeCasts_S1x2x1x1024_S2x1024)

/-- The second layer's gains on every token. -/
def gains (g : FVec F S2x1024 .f32) : FVec F S2x8192x1024 .f32 :=
  broadcastInDim S2x8192x1024 ![0, 1, 2] bcast_S1x1x1024_S2x8192x1024_0_1_2 (broadcastInDim S1x1x1024 ![2] bcast_S1024_S1x1x1024_2
    (shapeCast S1024 (extractStridedSlice S1x1024 ![1, 0] g slices_S2x1024_S1x1024_1_0) shapeCasts_S1x1024_S1024))

def squares (x : FVec F S2x8192x1024 .f32) : FVec F S2x8192 .f32 :=
  Host.reduceAdd (mulf x x) (constant S_ .f32 0x00000000#32) reducesTo_S2x8192x1024_S2x8192_d2 h_S_

def scales (s : FVec F S2x8192 .f32) : FVec F S2x8192x1024 .f32 :=
  broadcastInDim S2x8192x1024 ![0, 1, 2] bcast_S2x8192x1_S2x8192x1024_0_1_2 (Host.rsqrt (addf (Host.divf (broadcastInDim S2x8192x1 ![0, 1] bcast_S2x8192_S2x8192x1_0_1 s)
    (broadcastInDim S2x8192x1 ![] bcast_S_S2x8192x1 (constant S_ .f32 0x44800000#32))) (broadcastInDim S2x8192x1 ![] bcast_S_S2x8192x1 (constant S_ .f32 0x358637BD#32))))

def norms (x : FVec F S2x8192x1024 .f32) (g : FVec F S2x1024 .f32) : FVec F S2x8192x1024 .f32 :=
  mulf (mulf x (scales (squares x))) (gains g)

def modulate (x : FVec F S2x8192x1024 .f32) (sh sc : FVec F S2x1x1024 .f32) : FVec F S2x8192x1024 .f32 :=
  addf (mulf x (perSample (addf (broadcastInDim S2x1x1024 ![] bcast_S_S2x1x1024 (constant S_ .f32 0x3F800000#32)) sc))) (perSample sh)

/-- The products that the three gates are taken of. -/
def logits (h : FVec F S2x8192x1024 .f32) (w : FVec F S2x1024x5024 .f32) : FVec F S2x8192x3072 .f32 :=
  Host.dotGeneral dot_S2x8192x1024_S1024x3072_S2x8192x3072_2_0_01_1_n_n none h
    (extractStridedSlice S1024x3072 ![0, 1952] (shapeCast S1024x5024 (extractStridedSlice S1x1024x5024 ![1, 0, 0] w slices_S2x1024x5024_S1x1024x5024_1_0_0) shapeCasts_S1x1024x5024_S1024x5024)
      slices_S1024x5024_S1024x3072_0_1952)

def sigmoids (z : FVec F S2x8192x3072 .f32) : FVec F S2x8192x3072 .f32 :=
  Host.divf (broadcastInDim S2x8192x3072 ![] bcast_S_S2x8192x3072 (constant S_ .f32 0x3F800000#32))
    (addf (broadcastInDim S2x8192x3072 ![] bcast_S_S2x8192x3072 (constant S_ .f32 0x3F800000#32)) (Host.exp (Host.negf z)))

def gates (x : FVec F S2x8192x1024 .f32) (m : FVec F S2x8x6x1024 .f32) (g : FVec F S2x1024 .f32) (w : FVec F S2x1024x5024 .f32) : FVec F S2x8192x3072 .f32 :=
  sigmoids (logits (modulate (norms x g) (line 0 slices_S2x8x6x1024_S1x2x1x1024_1_0_0_0 m) (line 1 slices_S2x8x6x1024_S1x2x1x1024_1_0_1_0 m)) w)

/-- The second layer's line of 256 on every token. -/
def offsets (g : FVec F S2x256 .f32) : FVec F S2x8192x256 .f32 :=
  broadcastInDim S2x8192x256 ![0, 1, 2] bcast_S1x1x256_S2x8192x256_0_1_2 (broadcastInDim S1x1x256 ![2] bcast_S256_S1x1x256_2
    (shapeCast S256 (extractStridedSlice S1x256 ![1, 0] g slices_S2x256_S1x256_1_0) shapeCasts_S1x256_S256))

/-- Each token's mean over the 256 channels. -/
def means (u : FVec F S2x8192x256 .f32) : FVec F S2x8192x1 .f32 :=
  Host.divf (broadcastInDim S2x8192x1 ![0, 1] bcast_S2x8192_S2x8192x1_0_1 (Host.reduceAdd u (constant S_ .f32 0x00000000#32) reducesTo_S2x8192x256_S2x8192_d2 h_S_))
    (broadcastInDim S2x8192x1 ![] bcast_S_S2x8192x1 (constant S_ .f32 0x43800000#32))

def across (v : FVec F S2x8192x1 .f32) : FVec F S2x8192x256 .f32 := broadcastInDim S2x8192x256 ![0, 1, 2] bcast_S2x8192x1_S2x8192x256_0_1_2 v

def centred (u : FVec F S2x8192x256 .f32) : FVec F S2x8192x256 .f32 := subf u (across (means u))

def layerNorm (u : FVec F S2x8192x256 .f32) (g b : FVec F S2x256 .f32) : FVec F S2x8192x256 .f32 :=
  addf (mulf (mulf (centred u) (across (Host.rsqrt (addf (means (mulf (centred u) (centred u))) (broadcastInDim S2x8192x1 ![] bcast_S_S2x8192x1 (constant S_ .f32 0x358637BD#32))))))
    (offsets g)) (offsets b)

def silu (u : FVec F S2x8192x256 .f32) : FVec F S2x8192x256 .f32 :=
  mulf u (Host.divf (broadcastInDim S2x8192x256 ![] bcast_S_S2x8192x256 (constant S_ .f32 0x3F800000#32))
    (addf (broadcastInDim S2x8192x256 ![] bcast_S_S2x8192x256 (constant S_ .f32 0x3F800000#32)) (Host.exp (Host.negf u))))

def tap31 (k : ℕ) (h : S2x8222x256.Slices ![0, k, 0] S2x8192x256) (h' : S31x256.Slices ![k, 0] S1x256) (p : FVec F S2x8222x256 .f32) (w : FVec F S31x256 .f32) : FVec F S2x8192x256 .f32 :=
  mulf (extractStridedSlice S2x8192x256 ![0, k, 0] p h) (broadcastInDim S2x8192x256 ![0, 1, 2] bcast_S1x1x256_S2x8192x256_0_1_2 (broadcastInDim S1x1x256 ![2] bcast_S256_S1x1x256_2
    (shapeCast S256 (extractStridedSlice S1x256 ![k, 0] w h') shapeCasts_S1x256_S256)))

def tap3 (k : ℕ) (h : S2x8194x256.Slices ![0, k, 0] S2x8192x256) (h' : S3x256.Slices ![k, 0] S1x256) (p : FVec F S2x8194x256 .f32) (w : FVec F S3x256 .f32) : FVec F S2x8192x256 .f32 :=
  mulf (extractStridedSlice S2x8192x256 ![0, k, 0] p h) (broadcastInDim S2x8192x256 ![0, 1, 2] bcast_S1x1x256_S2x8192x256_0_1_2 (broadcastInDim S1x1x256 ![2] bcast_S256_S1x1x256_2
    (shapeCast S256 (extractStridedSlice S1x256 ![k, 0] w h') shapeCasts_S1x256_S256)))

def pad31 (u : FVec F S2x8448x256 .f32) : FVec F S2x8222x256 .f32 :=
  pad S2x8222x256 ![0, 15, 0] ![0, 15, 0] ![0, 0, 0] (extractStridedSlice S2x8192x256 ![0, 0, 0] u slices_S2x8448x256_S2x8192x256_0_0_0) (sitofp .f32 (constantI S_ 32 0#32))
    pads_S2x8192x256_S2x8222x256_000_15150_000 h_S_

def pad3 (u : FVec F S2x8448x256 .f32) : FVec F S2x8194x256 .f32 :=
  pad S2x8194x256 ![0, 1, 0] ![0, 1, 0] ![0, 0, 0] (extractStridedSlice S2x8192x256 ![0, 0, 0] u slices_S2x8448x256_S2x8192x256_0_0_0) (sitofp .f32 (constantI S_ 32 0#32))
    pads_S2x8192x256_S2x8194x256_000_110_000 h_S_

def weights31 (w : FVec F S2x31x256 .f32) : FVec F S31x256 .f32 := shapeCast S31x256 (extractStridedSlice S1x31x256 ![1, 0, 0] w slices_S2x31x256_S1x31x256_1_0_0) shapeCasts_S1x31x256_S31x256

def weights3 (w : FVec F S2x3x256 .f32) : FVec F S3x256 .f32 := shapeCast S3x256 (extractStridedSlice S1x3x256 ![1, 0, 0] w slices_S2x3x256_S1x3x256_1_0_0) shapeCasts_S1x3x256_S3x256

/-- The width-31 convolution of the second layer and its bias. -/
def long (u : FVec F S2x8448x256 .f32) (w : FVec F S2x31x256 .f32) (b : FVec F S2x256 .f32) : FVec F S2x8192x256 .f32 :=
  let t (k : ℕ) (h : S2x8222x256.Slices ![0, k, 0] S2x8192x256) (h' : S31x256.Slices ![k, 0] S1x256) := tap31 k h h' (pad31 u) (weights31 w)
  addf (addf (addf (addf (addf (addf (addf (addf (addf (addf (addf (addf (addf (addf (addf (addf (addf (addf (addf (addf (addf (addf (addf (addf (addf (addf (addf (addf (addf (addf (addf
    (t 0 slices_S2x8222x256_S2x8192x256_0_0_0 slices_S31x256_S1x256_0_0) (t 1 slices_S2x8222x256_S2x8192x256_0_1_0 slices_S31x256_S1x256_1_0))
    (t 2 slices_S2x8222x256_S2x8192x256_0_2_0 slices_S31x256_S1x256_2_0)) (t 3 slices_S2x8222x256_S2x8192x256_0_3_0 slices_S31x256_S1x256_3_0))
    (t 4 slices_S2x8222x256_S2x8192x256_0_4_0 slices_S31x256_S1x256_4_0)) (t 5 slices_S2x8222x256_S2x8192x256_0_5_0 slices_S31x256_S1x256_5_0))
    (t 6 slices_S2x8222x256_S2x8192x256_0_6_0 slices_S31x256_S1x256_6_0)) (t 7 slices_S2x8222x256_S2x8192x256_0_7_0 slices_S31x256_S1x256_7_0))
    (t 8 slices_S2x8222x256_S2x8192x256_0_8_0 slices_S31x256_S1x256_8_0)) (t 9 slices_S2x8222x256_S2x8192x256_0_9_0 slices_S31x256_S1x256_9_0))
    (t 10 slices_S2x8222x256_S2x8192x256_0_10_0 slices_S31x256_S1x256_10_0)) (t 11 slices_S2x8222x256_S2x8192x256_0_11_0 slices_S31x256_S1x256_11_0))
    (t 12 slices_S2x8222x256_S2x8192x256_0_12_0 slices_S31x256_S1x256_12_0)) (t 13 slices_S2x8222x256_S2x8192x256_0_13_0 slices_S31x256_S1x256_13_0))
    (t 14 slices_S2x8222x256_S2x8192x256_0_14_0 slices_S31x256_S1x256_14_0)) (t 15 slices_S2x8222x256_S2x8192x256_0_15_0 slices_S31x256_S1x256_15_0))
    (t 16 slices_S2x8222x256_S2x8192x256_0_16_0 slices_S31x256_S1x256_16_0)) (t 17 slices_S2x8222x256_S2x8192x256_0_17_0 slices_S31x256_S1x256_17_0))
    (t 18 slices_S2x8222x256_S2x8192x256_0_18_0 slices_S31x256_S1x256_18_0)) (t 19 slices_S2x8222x256_S2x8192x256_0_19_0 slices_S31x256_S1x256_19_0))
    (t 20 slices_S2x8222x256_S2x8192x256_0_20_0 slices_S31x256_S1x256_20_0)) (t 21 slices_S2x8222x256_S2x8192x256_0_21_0 slices_S31x256_S1x256_21_0))
    (t 22 slices_S2x8222x256_S2x8192x256_0_22_0 slices_S31x256_S1x256_22_0)) (t 23 slices_S2x8222x256_S2x8192x256_0_23_0 slices_S31x256_S1x256_23_0))
    (t 24 slices_S2x8222x256_S2x8192x256_0_24_0 slices_S31x256_S1x256_24_0)) (t 25 slices_S2x8222x256_S2x8192x256_0_25_0 slices_S31x256_S1x256_25_0))
    (t 26 slices_S2x8222x256_S2x8192x256_0_26_0 slices_S31x256_S1x256_26_0)) (t 27 slices_S2x8222x256_S2x8192x256_0_27_0 slices_S31x256_S1x256_27_0))
    (t 28 slices_S2x8222x256_S2x8192x256_0_28_0 slices_S31x256_S1x256_28_0)) (t 29 slices_S2x8222x256_S2x8192x256_0_29_0 slices_S31x256_S1x256_29_0))
    (t 30 slices_S2x8222x256_S2x8192x256_0_30_0 slices_S31x256_S1x256_30_0)) (offsets b)

/-- The width-3 convolution of the second layer times its gate. -/
def short (u v : FVec F S2x8448x256 .f32) (w : FVec F S2x3x256 .f32) : FVec F S2x8192x256 .f32 :=
  mulf (extractStridedSlice S2x8192x256 ![0, 0, 0] v slices_S2x8448x256_S2x8192x256_0_0_0)
    (addf (addf (tap3 0 slices_S2x8194x256_S2x8192x256_0_0_0 slices_S3x256_S1x256_0_0 (pad3 u) (weights3 w)) (tap3 1 slices_S2x8194x256_S2x8192x256_0_1_0 slices_S3x256_S1x256_1_0 (pad3 u) (weights3 w)))
      (tap3 2 slices_S2x8194x256_S2x8192x256_0_2_0 slices_S3x256_S1x256_2_0 (pad3 u) (weights3 w)))

def proj512 (a : FVec F S2x8192x512 .f32) (w : FVec F S2x512x1024 .f32) : FVec F S2x8192x1024 .f32 :=
  Host.dotGeneral dot_S2x8192x512_S512x1024_S2x8192x1024_2_0_01_1_n_n none a
    (shapeCast S512x1024 (extractStridedSlice S1x512x1024 ![1, 0, 0] w slices_S2x512x1024_S1x512x1024_1_0_0) shapeCasts_S1x512x1024_S512x1024)

def proj256 (a : FVec F S2x8192x256 .f32) (w : FVec F S2x256x1024 .f32) : FVec F S2x8192x1024 .f32 :=
  Host.dotGeneral dot_S2x8192x256_S256x1024_S2x8192x1024_2_0_01_1_n_n none a
    (shapeCast S256x1024 (extractStridedSlice S1x256x1024 ![1, 0, 0] w slices_S2x256x1024_S1x256x1024_1_0_0) shapeCasts_S1x256x1024_S256x1024)

def proj1024 (a : FVec F S2x8192x1024 .f32) (w : FVec F S2x1024x1024 .f32) : FVec F S2x8192x1024 .f32 :=
  Host.dotGeneral dot_S2x8192x1024_S1024x1024_S2x8192x1024_2_0_01_1_n_n none a
    (shapeCast S1024x1024 (extractStridedSlice S1x1024x1024 ![1, 0, 0] w slices_S2x1024x1024_S1x1024x1024_1_0_0) shapeCasts_S1x1024x1024_S1024x1024)

/-- The three gated lines summed. -/
def sum3 (z : FVec F S2x8192x3072 .f32) (p q r : FVec F S2x8192x1024 .f32) : FVec F S2x8192x1024 .f32 :=
  addf (addf (mulf (extractStridedSlice S2x8192x1024 ![0, 0, 0] z slices_S2x8192x3072_S2x8192x1024_0_0_0) p)
    (mulf (extractStridedSlice S2x8192x1024 ![0, 0, 1024] z slices_S2x8192x3072_S2x8192x1024_0_0_1024) q))
    (mulf (extractStridedSlice S2x8192x1024 ![0, 0, 2048] z slices_S2x8192x3072_S2x8192x1024_0_0_2048) r)

/-- The tokens after the mixing part of the second layer. -/
def out (x : FVec F S2x8192x1024 .f32) (att : FVec F S2x8192x512 .f32) (m : FVec F S2x8x6x1024 .f32) (u v s : FVec F S2x8448x256 .f32) (g : FVec F S2x1024 .f32)
    (wi : FVec F S2x1024x5024 .f32) (wm : FVec F S2x512x1024 .f32) (dw : FVec F S2x31x256 .f32) (db cg cb : FVec F S2x256 .f32) (wc : FVec F S2x256x1024 .f32)
    (sw : FVec F S2x3x256 .f32) (ws : FVec F S2x256x1024 .f32) (wo : FVec F S2x1024x1024 .f32) : FVec F S2x8192x1024 .f32 :=
  addf x (mulf (perSample (line 2 slices_S2x8x6x1024_S1x2x1x1024_1_0_2_0 m))
    (proj1024 (sum3 (gates x m g wi) (proj512 att wm) (proj256 (silu (layerNorm (long u dw db) cg cb)) wc) (proj256 (short v s sw) ws)) wo))
end

section
variable (x : FVec Ideal S2x8192x1024 .f32) (u : FVec Ideal S2x8192x256 .f32) (v sh sc : FVec Ideal S2x1x1024 .f32) (b : Fin 2) (n : Fin 8192) (d : Fin 1024) (c : Fin 256)

theorem perSample_at : perSample v (ix3 b n d) = v (ix3 b 0 d) := by
  pointwise [perSample]

theorem line_at (k : Fin 6) (h : S2x8x6x1024.Slices ![1, 0, k.val, 0] S1x2x1x1024) (m : FVec Ideal S2x8x6x1024 .f32) :
    line k.val h m (ix3 b 0 d) = m (ix4 1 ⟨b, by omega⟩ k d) := by
  pointwise [line]

theorem gains_at (g : FVec Ideal S2x1024 .f32) : gains g (ix3 b n d) = g (ix2 1 d) := by
  pointwise [gains]

theorem squares_at : squares x (ix2 b n) = ∑ d, x (ix3 b n d) * x (ix3 b n d) := by
  pointwise [squares]

theorem scales_at (s : FVec Ideal S2x8192 .f32) : scales s (ix3 b n d) = Ideal.rsqrt (Ideal.div (s (ix2 b n)) (Ideal.ofBits .f32 0x44800000#32) + Ideal.ofBits .f32 0x358637BD#32) := by
  pointwise [scales]

theorem norms_at (g : FVec Ideal S2x1024 .f32) : norms x g (ix3 b n d) = Cert.Ffn.normed (fun d => x (ix3 b n d)) (fun d => g (ix2 1 d)) d := by
  show x (ix3 b n d) * scales (squares x) (ix3 b n d) * gains g (ix3 b n d) = _
  rw [scales_at, squares_at, gains_at]
  rfl

theorem modulate_at : modulate x sh sc (ix3 b n d) = Cert.Ffn.modulated (fun d => x (ix3 b n d)) (fun d => sh (ix3 b 0 d)) (fun d => sc (ix3 b 0 d)) d := by
  show x (ix3 b n d) * perSample (F := Ideal) _ (ix3 b n d) + perSample sh (ix3 b n d) = _
  rw [perSample_at, perSample_at]
  show x (ix3 b n d) * (Ideal.ofBits .f32 0x3F800000#32 + sc (ix3 b 0 d)) + sh (ix3 b 0 d) = _
  rw [Ideal.ofBits_one_f32]
  rfl

theorem logits_at (w : FVec Ideal S2x1024x5024 .f32) (j : Fin 3072) : logits x w (ix3 b n j) = ∑ e, x (ix3 b n e) * w (ix3 1 e ⟨1952 + j.val, by omega⟩) := by
  pointwise [logits]

theorem sigmoids_at (z : FVec Ideal S2x8192x3072 .f32) (j : Fin 3072) : sigmoids z (ix3 b n j) = Ideal.logistic (z (ix3 b n j)) := by
  show Ideal.div (Ideal.ofBits .f32 0x3F800000#32) (Ideal.ofBits .f32 0x3F800000#32 + Ideal.exp (-(z (ix3 b n j)))) = _
  rw [Ideal.ofBits_one_f32]
  rfl

theorem gates_at (m : FVec Ideal S2x8x6x1024 .f32) (g : FVec Ideal S2x1024 .f32) (w : FVec Ideal S2x1024x5024 .f32) (j : Fin 3072) :
    gates x m g w (ix3 b n j) = Ideal.logistic (∑ e, Cert.Mix.normed (fun d => x (ix3 b n d)) (fun d => g (ix2 1 d)) (fun d => m (ix4 1 ⟨b, by omega⟩ 0 d)) (fun d => m (ix4 1 ⟨b, by omega⟩ 1 d)) e
      * w (ix3 1 e ⟨1952 + j.val, by omega⟩)) := by
  have e0 : ∀ d, line 0 slices_S2x8x6x1024_S1x2x1x1024_1_0_0_0 m (ix3 b 0 d) = m (ix4 1 ⟨b, by omega⟩ 0 d) := fun d => line_at b d 0 _ m
  have e1 : ∀ d, line 1 slices_S2x8x6x1024_S1x2x1x1024_1_0_1_0 m (ix3 b 0 d) = m (ix4 1 ⟨b, by omega⟩ 1 d) := fun d => line_at b d 1 _ m
  rw [gates, sigmoids_at, logits_at]
  simp only [modulate_at, norms_at, e0, e1]
  rfl

theorem offsets_at (g : FVec Ideal S2x256 .f32) : offsets g (ix3 b n c) = g (ix2 1 c) := by
  pointwise [offsets]

theorem means_at : means u (ix3 b n 0) = Cert.Mix.mean fun c => u (ix3 b n c) := by
  pointwise [means, Cert.Mix.mean]

theorem across_at (t : FVec Ideal S2x8192x1 .f32) : across t (ix3 b n c) = t (ix3 b n 0) := by
  pointwise [across]

theorem centred_at : centred u (ix3 b n c) = u (ix3 b n c) - Cert.Mix.mean fun c => u (ix3 b n c) := by
  show u (ix3 b n c) - across (means u) (ix3 b n c) = _
  rw [across_at, means_at]

theorem layerNorm_at (g o : FVec Ideal S2x256 .f32) : layerNorm u g o (ix3 b n c) = Cert.Mix.layered (fun c => u (ix3 b n c)) (fun c => g (ix2 1 c)) (fun c => o (ix2 1 c)) c := by
  show centred u (ix3 b n c) * across (F := Ideal) _ (ix3 b n c) * offsets g (ix3 b n c) + offsets o (ix3 b n c) = _
  rw [across_at, offsets_at, offsets_at]
  show centred u (ix3 b n c) * Ideal.rsqrt (means (F := Ideal) (mulf (centred u) (centred u)) (ix3 b n 0) + Ideal.ofBits .f32 0x358637BD#32) * _ + _ = _
  rw [means_at]
  show centred u (ix3 b n c) * Ideal.rsqrt (Cert.Mix.mean (fun c => centred u (ix3 b n c) * centred u (ix3 b n c)) + Ideal.ofBits .f32 0x358637BD#32) * _ + _ = _
  simp only [centred_at]
  rfl

theorem silu_at : silu u (ix3 b n c) = Cert.Mix.silu (u (ix3 b n c)) := by
  show u (ix3 b n c) * Ideal.div (Ideal.ofBits .f32 0x3F800000#32) (Ideal.ofBits .f32 0x3F800000#32 + Ideal.exp (-(u (ix3 b n c)))) = _
  rw [Ideal.ofBits_one_f32]
  rfl

theorem tap31_at (k : ℕ) (h : S2x8222x256.Slices ![0, k, 0] S2x8192x256) (h' : S31x256.Slices ![k, 0] S1x256) (hk : k < 31) (p : FVec Ideal S2x8222x256 .f32) (w : FVec Ideal S31x256 .f32) :
    tap31 k h h' p w (ix3 b n c) = p (ix3 b ⟨k + n.val, by omega⟩ c) * w (ix2 ⟨k, hk⟩ c) := by
  pointwise [tap31]

theorem tap3_at (k : ℕ) (h : S2x8194x256.Slices ![0, k, 0] S2x8192x256) (h' : S3x256.Slices ![k, 0] S1x256) (hk : k < 3) (p : FVec Ideal S2x8194x256 .f32) (w : FVec Ideal S3x256 .f32) :
    tap3 k h h' p w (ix3 b n c) = p (ix3 b ⟨k + n.val, by omega⟩ c) * w (ix2 ⟨k, hk⟩ c) := by
  pointwise [tap3]

theorem weights31_at (w : FVec Ideal S2x31x256 .f32) (k : Fin 31) : weights31 w (ix2 k c) = w (ix3 1 k c) := by
  pointwise [weights31]

theorem weights3_at (w : FVec Ideal S2x3x256 .f32) (k : Fin 3) : weights3 w (ix2 k c) = w (ix3 1 k c) := by
  pointwise [weights3]

theorem proj512_at (a : FVec Ideal S2x8192x512 .f32) (w : FVec Ideal S2x512x1024 .f32) : proj512 a w (ix3 b n d) = ∑ j, a (ix3 b n j) * w (ix3 1 j d) := by
  pointwise [proj512]

theorem proj256_at (w : FVec Ideal S2x256x1024 .f32) : proj256 u w (ix3 b n d) = ∑ j, u (ix3 b n j) * w (ix3 1 j d) := by
  pointwise [proj256]

theorem proj1024_at (w : FVec Ideal S2x1024x1024 .f32) : proj1024 x w (ix3 b n d) = ∑ j, x (ix3 b n j) * w (ix3 1 j d) := by
  pointwise [proj1024]

theorem sum3_at (z : FVec Ideal S2x8192x3072 .f32) (p q r : FVec Ideal S2x8192x1024 .f32) : sum3 z p q r (ix3 b n d)
    = z (ix3 b n ⟨d.val, by omega⟩) * p (ix3 b n d) + z (ix3 b n ⟨1024 + d.val, by omega⟩) * q (ix3 b n d) + z (ix3 b n ⟨2048 + d.val, by omega⟩) * r (ix3 b n d) := by
  pointwise [sum3]

theorem zero_at (i : S_.Idx) : sitofp (F := Ideal) .f32 (constantI S_ 32 0#32) i = 0 := by
  show (((0#32 : BitVec 32).toInt : ℝ) : EReal) = 0
  simp

theorem pad31_at (a : FVec Ideal S2x8448x256 .f32) (r : Fin 8222) :
    pad31 a (ix3 b r c) = Cert.Mix.padded (fun n => a (ix3 b ⟨n.val, by omega⟩ c)) (r.val + 1) := by
  by_cases hr : 15 ≤ r.val ∧ r.val < 8207
  · rw [Cert.Mix.padded, dif_pos (by omega)]
    pointwise [pad31]
    rw [dif_pos (by omega)]
    exact congrArg (fun n => a (ix3 b n c)) (Fin.ext (by show r.val - 15 = r.val + 1 - 16; omega))
  · rw [Cert.Mix.padded, dif_neg (by omega), pad31, pad_apply, dif_neg, zero_at]
    intro h
    have h1 := h 1
    have h2 : 15 ≤ r.val ∧ (r.val - 15) % (0 + 1) = 0 ∧ (r.val - 15) / (0 + 1) < 8192 := h1
    omega

theorem pad3_at (a : FVec Ideal S2x8448x256 .f32) (r : Fin 8194) :
    pad3 a (ix3 b r c) = Cert.Mix.padded (fun n => a (ix3 b ⟨n.val, by omega⟩ c)) (r.val + 15) := by
  by_cases hr : 1 ≤ r.val ∧ r.val < 8193
  · rw [Cert.Mix.padded, dif_pos (by omega)]
    pointwise [pad3]
    rw [dif_pos (by omega)]
    exact congrArg (fun n => a (ix3 b n c)) (Fin.ext (by show r.val - 1 = r.val + 15 - 16; omega))
  · rw [Cert.Mix.padded, dif_neg (by omega), pad3, pad_apply, dif_neg, zero_at]
    intro h
    have h1 := h 1
    have h2 : 1 ≤ r.val ∧ (r.val - 1) % (0 + 1) = 0 ∧ (r.val - 1) / (0 + 1) < 8192 := h1
    omega

/-- One of the 31 products, of the padded channel and the weights. -/
theorem term31 (k : ℕ) (h : S2x8222x256.Slices ![0, k, 0] S2x8192x256) (h' : S31x256.Slices ![k, 0] S1x256) (hk : k < 31) (a : FVec Ideal S2x8448x256 .f32) (w : FVec Ideal S2x31x256 .f32) :
    tap31 k h h' (pad31 a) (weights31 w) (ix3 b n c) = w (ix3 1 ⟨k, hk⟩ c) * Cert.Mix.padded (fun n => a (ix3 b ⟨n.val, by omega⟩ c)) (n.val + 1 + k) := by
  rw [tap31_at b n c k h h' hk, pad31_at, weights31_at, mul_comm, show (⟨k + n.val, by omega⟩ : Fin 8222).val + 1 = n.val + 1 + k from by show k + n.val + 1 = _; omega]

theorem term3 (k : ℕ) (h : S2x8194x256.Slices ![0, k, 0] S2x8192x256) (h' : S3x256.Slices ![k, 0] S1x256) (hk : k < 3) (a : FVec Ideal S2x8448x256 .f32) (w : FVec Ideal S2x3x256 .f32) :
    tap3 k h h' (pad3 a) (weights3 w) (ix3 b n c) = w (ix3 1 ⟨k, hk⟩ c) * Cert.Mix.padded (fun n => a (ix3 b ⟨n.val, by omega⟩ c)) (n.val + 15 + k) := by
  rw [tap3_at b n c k h h' hk, pad3_at, weights3_at, mul_comm, show (⟨k + n.val, by omega⟩ : Fin 8194).val + 15 = n.val + 15 + k from by show k + n.val + 15 = _; omega]

theorem long_at (a : FVec Ideal S2x8448x256 .f32) (w : FVec Ideal S2x31x256 .f32) (o : FVec Ideal S2x256 .f32) :
    long a w o (ix3 b n c) = Cert.Mix.conv (fun k => w (ix3 1 k c)) (Cert.Mix.padded fun n => a (ix3 b ⟨n.val, by omega⟩ c)) (n.val + 1) + o (ix2 1 c) := by
  simp only [long, addf_apply, Ideal.addf_def, offsets_at]
  refine congrArg (· + o (ix2 1 c)) ?_
  rw [Cert.Mix.conv]
  simp only [Fin.sum_univ_castSucc, Fin.sum_univ_zero, zero_add]
  repeat' first
    | exact term31 b n c _ _ _ (by omega) a w
    | refine congrArg₂ (· + ·) ?_ ?_

theorem short_at (a v : FVec Ideal S2x8448x256 .f32) (w : FVec Ideal S2x3x256 .f32) :
    short a v w (ix3 b n c) = v (ix3 b ⟨n.val, by omega⟩ c) * Cert.Mix.conv (fun k => w (ix3 1 k c)) (Cert.Mix.padded fun n => a (ix3 b ⟨n.val, by omega⟩ c)) (n.val + 15) := by
  show extractStridedSlice S2x8192x256 ![0, 0, 0] v slices_S2x8448x256_S2x8192x256_0_0_0 (ix3 b n c)
    * (tap3 (F := Ideal) 0 _ _ _ _ (ix3 b n c) + tap3 (F := Ideal) 1 _ _ _ _ (ix3 b n c) + tap3 (F := Ideal) 2 _ _ _ _ (ix3 b n c)) = _
  rw [term3 b n c 0 _ _ (by omega), term3 b n c 1 _ _ (by omega), term3 b n c 2 _ _ (by omega), Cert.Mix.conv, Fin.sum_univ_three]
  refine congrArg (· * _) ?_
  pointwise []

/-- The reference's result: every token's line after the mixing part. -/
theorem out_at (att : FVec Ideal S2x8192x512 .f32) (m : FVec Ideal S2x8x6x1024 .f32) (u v s : FVec Ideal S2x8448x256 .f32) (g : FVec Ideal S2x1024 .f32)
    (wi : FVec Ideal S2x1024x5024 .f32) (wm : FVec Ideal S2x512x1024 .f32) (dw : FVec Ideal S2x31x256 .f32) (db cg cb : FVec Ideal S2x256 .f32) (wc : FVec Ideal S2x256x1024 .f32)
    (sw : FVec Ideal S2x3x256 .f32) (ws : FVec Ideal S2x256x1024 .f32) (wo : FVec Ideal S2x1024x1024 .f32) :
    out x att m u v s g wi wm dw db cg cb wc sw ws wo (ix3 b n d) = Cert.Mix.token (fun d => x (ix3 b n d)) (fun d => m (ix4 1 ⟨b, by omega⟩ 2 d))
      (Cert.Mix.merged (Cert.Mix.normed (fun d => x (ix3 b n d)) (fun d => g (ix2 1 d)) (fun d => m (ix4 1 ⟨b, by omega⟩ 0 d)) (fun d => m (ix4 1 ⟨b, by omega⟩ 1 d)))
        (fun e d => wi (ix3 1 e ⟨1952 + d.val, by omega⟩)) (fun e d => wi (ix3 1 e ⟨1952 + (1024 + d.val), by omega⟩)) (fun e d => wi (ix3 1 e ⟨1952 + (2048 + d.val), by omega⟩))
        (fun j => att (ix3 b n j)) (fun j d => wm (ix3 1 j d))
        (Cert.Mix.branch (fun c => Cert.Mix.conv (fun k => dw (ix3 1 k c)) (Cert.Mix.padded fun n => u (ix3 b ⟨n.val, by omega⟩ c)) (n.val + 1) + db (ix2 1 c)) (fun c => cg (ix2 1 c)) (fun c => cb (ix2 1 c)))
        (fun c d => wc (ix3 1 c d))
        (fun c => s (ix3 b ⟨n.val, by omega⟩ c) * Cert.Mix.conv (fun k => sw (ix3 1 k c)) (Cert.Mix.padded fun n => v (ix3 b ⟨n.val, by omega⟩ c)) (n.val + 15))
        (fun c d => ws (ix3 1 c d)))
      (fun e d => wo (ix3 1 e d)) d := by
  have e2 : ∀ d, line 2 slices_S2x8x6x1024_S1x2x1x1024_1_0_2_0 m (ix3 b 0 d) = m (ix4 1 ⟨b, by omega⟩ 2 d) := fun d => line_at b d 2 _ m
  show x (ix3 b n d) + perSample (F := Ideal) _ (ix3 b n d) * proj1024 (F := Ideal) _ _ (ix3 b n d) = _
  rw [perSample_at, proj1024_at, e2]
  simp only [sum3_at, gates_at, proj512_at, proj256_at, silu_at, layerNorm_at, long_at, short_at]
  rfl
end

/-- The result the run ends with, named as above. -/
theorem res_eq (m : (ℓ : Loc nD τ sig) → Buf (Elt Ideal) ℓ) (c : Dev nD) :
    Value.val6 (launchContents m c) (Proc.devRef .tc main_v342) = out (F := Ideal) (m (c.tc.loc main_arg0)) (m (c.tc.loc main_arg1)) (m (c.tc.loc main_arg2)) (m (c.tc.loc main_arg3)) (m (c.tc.loc main_arg4))
        (m (c.tc.loc main_arg5)) (m (c.tc.loc main_arg6)) (m (c.tc.loc main_arg7)) (m (c.tc.loc main_arg8)) (m (c.tc.loc main_arg9)) (m (c.tc.loc main_arg10)) (m (c.tc.loc main_arg11))
        (m (c.tc.loc main_arg12)) (m (c.tc.loc main_arg13)) (m (c.tc.loc main_arg14)) (m (c.tc.loc main_arg15)) (m (c.tc.loc main_arg16)) :=
  (Value.val6_main_v342 (launchContents m c)).trans (by
    unfold Value.res_main_v330 Value.res_main_v286 Value.res_main_v268 Value.res_main_v266 Value.res_main_v258 Value.res_main_v204 Value.res_main_v120 Value.res_main_v292 Value.res_main_v291
      Value.res_main_v37 Value.res_main_v36
    rfl)

end Cert.Reference3Ideal.Mix
end
-- ==== Proof.Mix.Tie.lean ====
/- The merge call's result array is the reference's, of memories that agree on the arguments. -/
module

public import proofs.«01_k».proof.Defs
public import proofs.«01_k».proof.Proof.Mix.Array
public import proofs.«01_k».proof.Proof.Mix.Entry
public import proofs.«01_k».proof.Proof.Mix.Ref

@[expose] public section

set_option synthInstance.maxSize 4096
set_option maxRecDepth 16384

noncomputable section

namespace Cert.Mix

open Idealize.ShloMosaic Idealize.ShloMosaic.TcCoe Idealize.SL.Sem

abbrev MemK := (ℓ : Loc Kernel3Ideal.nD Kernel3Ideal.τ Kernel3Ideal.sig) → Buf (Elt Ideal) ℓ
abbrev MemR := (ℓ : Loc Reference3Ideal.nD Reference3Ideal.τ Reference3Ideal.sig) → Buf (Elt Ideal) ℓ

section
open Kernel3Ideal Kernel3Ideal.Gen Kernel3Ideal.Mix

variable (x : FVec Ideal S2x8192x1024 .f32) (att : FVec Ideal S2x8192x512 .f32) (mo : FVec Ideal S2x8x6x1024 .f32) (u : FVec Ideal S2x8448x256 .f32) (v : FVec Ideal S2x8448x256 .f32) (s : FVec Ideal S2x8448x256 .f32) (g : FVec Ideal S2x1024 .f32) (wi : FVec Ideal S2x1024x5024 .f32) (wm : FVec Ideal S2x512x1024 .f32) (dw : FVec Ideal S2x31x256 .f32) (db : FVec Ideal S2x256 .f32) (cg : FVec Ideal S2x256 .f32) (cb : FVec Ideal S2x256 .f32) (wc : FVec Ideal S2x256x1024 .f32) (sw : FVec Ideal S2x3x256 .f32) (ws : FVec Ideal S2x256x1024 .f32) (wo : FVec Ideal S2x1024x1024 .f32)
variable (A : FVec Ideal S2x512x8192 .bf16) (G : FVec Ideal S2x1x1024 .f32) (WG : FVec Ideal S2x1024x3200 .bf16) (WM : FVec Ideal S2x512x1152 .bf16) (DB CG CB : FVec Ideal S2x1x256 .f32)
  (WC WS : FVec Ideal S2x256x1152 .bf16) (WO : FVec Ideal S2x1024x1152 .bf16)

/-- The kernel's element is the reference's, when the operands' elements are the arguments'. -/
theorem row_eq (b : Fin 2) (n : Fin 8192) (d : Fin 1024) (hA : ∀ j, A (ix3 b j n) = att (ix3 b n j)) (hG : ∀ d, G (ix3 1 0 d) = g (ix2 1 d))
    (hWG : ∀ e (d : Fin 3072), WG (ix3 1 e ⟨d.val, by omega⟩) = wi (ix3 1 e ⟨1952 + d.val, by omega⟩)) (hWM : ∀ e (d : Fin 1024), WM (ix3 1 e ⟨d.val, by omega⟩) = wm (ix3 1 e d))
    (hDB : ∀ k, DB (ix3 1 0 k) = db (ix2 1 k)) (hCG : ∀ k, CG (ix3 1 0 k) = cg (ix2 1 k)) (hCB : ∀ k, CB (ix3 1 0 k) = cb (ix2 1 k))
    (hWC : ∀ e (d : Fin 1024), WC (ix3 1 e ⟨d.val, by omega⟩) = wc (ix3 1 e d)) (hWS : ∀ e (d : Fin 1024), WS (ix3 1 e ⟨d.val, by omega⟩) = ws (ix3 1 e d))
    (hWO : ∀ e (d : Fin 1024), WO (ix3 1 e ⟨d.val, by omega⟩) = wo (ix3 1 e d)) :
    Row x A mo u v s G WG WM dw DB CG CB WC sw WS WO b n d = Reference3Ideal.Mix.out (F := Ideal) x att mo u v s g wi wm dw db cg cb wc sw ws wo (ix3 b n d) := by
  refine Eq.trans ?_ (Reference3Ideal.Mix.out_at ..).symm
  unfold Row
  exact token_congr (fun e => padded (channel u b e)) (fun e => padded (channel v b e)) (n.val + 1) (n.val + 15) d rfl rfl (funext hG) rfl rfl
    (funext fun e => funext fun d => hWG e ⟨d.val, by omega⟩) (funext fun e => funext fun d => hWG e ⟨1024 + d.val, by omega⟩) (funext fun e => funext fun d => hWG e ⟨2048 + d.val, by omega⟩)
    (funext hA) (funext fun j => funext fun d => hWM j d) rfl (funext hDB) (funext hCG) (funext hCB) (funext fun k => funext fun d => hWC k d) rfl rfl (funext fun k => funext fun d => hWS k d)
    (funext fun e => funext fun d => hWO e d)
end

section
open Kernel3Ideal Kernel3Ideal.Gen Kernel3Ideal.Mix

/-- The kernel's result at an index is the reference's, of the arguments. -/
theorem kernel_at (m : MemK) (c : Dev nD) (b : Fin 2) (n : Fin 8192) (d : Fin 1024) :
    (dats m 0 c).arrAt 21 cfg0.N (ix3 b n d) = Reference3Ideal.Mix.out (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (ix3 b n d) := by
  refine (arr_at m c (ix3 b n d)).trans ?_
  rw [V_main_arg0, V_main_arg2, V_main_arg3, V_main_arg4, V_main_arg5, V_main_arg9, V_main_arg14]
  exact row_eq (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) _ _ _ _ _ _ _ _ _ _ b n d
    (fun j => (congrFun (V_att m c) _).trans (att_at _ b j n)) (fun d => (congrFun (V_gain m c) _).trans (line1024_at _ d)) (fun e d => (congrFun (V_gate m c) _).trans (gate_at _ _ e d))
    (fun e d => (congrFun (V_wm m c) _).trans (proj512_at _ _ e d)) (fun k => (congrFun (V_bias m c) _).trans (line256_at _ k)) (fun k => (congrFun (V_cg m c) _).trans (line256_at _ k))
    (fun k => (congrFun (V_cb m c) _).trans (line256_at _ k)) (fun e d => (congrFun (V_wc m c) _).trans (proj256_at _ _ e d)) (fun e d => (congrFun (V_ws m c) _).trans (proj256_at _ _ e d))
    (fun e d => (congrFun (V_wo m c) _).trans (proj1024_at _ _ e d))
end

theorem out_eq (m : MemK) (m' : MemR) (c : Dev Kernel3Ideal.nD)
    (h0 : m' ((c.tc : Thread Reference3Ideal.nD Reference3Ideal.τ).loc Reference3Ideal.main_arg0) = m ((c.tc : Thread Kernel3Ideal.nD Kernel3Ideal.τ).loc Kernel3Ideal.main_arg0))
    (h1 : m' ((c.tc : Thread Reference3Ideal.nD Reference3Ideal.τ).loc Reference3Ideal.main_arg1) = m ((c.tc : Thread Kernel3Ideal.nD Kernel3Ideal.τ).loc Kernel3Ideal.main_arg1))
    (h2 : m' ((c.tc : Thread Reference3Ideal.nD Reference3Ideal.τ).loc Reference3Ideal.main_arg2) = m ((c.tc : Thread Kernel3Ideal.nD Kernel3Ideal.τ).loc Kernel3Ideal.main_arg2))
    (h3 : m' ((c.tc : Thread Reference3Ideal.nD Reference3Ideal.τ).loc Reference3Ideal.main_arg3) = m ((c.tc : Thread Kernel3Ideal.nD Kernel3Ideal.τ).loc Kernel3Ideal.main_arg3))
    (h4 : m' ((c.tc : Thread Reference3Ideal.nD Reference3Ideal.τ).loc Reference3Ideal.main_arg4) = m ((c.tc : Thread Kernel3Ideal.nD Kernel3Ideal.τ).loc Kernel3Ideal.main_arg4))
    (h5 : m' ((c.tc : Thread Reference3Ideal.nD Reference3Ideal.τ).loc Reference3Ideal.main_arg5) = m ((c.tc : Thread Kernel3Ideal.nD Kernel3Ideal.τ).loc Kernel3Ideal.main_arg5))
    (h6 : m' ((c.tc : Thread Reference3Ideal.nD Reference3Ideal.τ).loc Reference3Ideal.main_arg6) = m ((c.tc : Thread Kernel3Ideal.nD Kernel3Ideal.τ).loc Kernel3Ideal.main_arg6))
    (h7 : m' ((c.tc : Thread Reference3Ideal.nD Reference3Ideal.τ).loc Reference3Ideal.main_arg7) = m ((c.tc : Thread Kernel3Ideal.nD Kernel3Ideal.τ).loc Kernel3Ideal.main_arg7))
    (h8 : m' ((c.tc : Thread Reference3Ideal.nD Reference3Ideal.τ).loc Reference3Ideal.main_arg8) = m ((c.tc : Thread Kernel3Ideal.nD Kernel3Ideal.τ).loc Kernel3Ideal.main_arg8))
    (h9 : m' ((c.tc : Thread Reference3Ideal.nD Reference3Ideal.τ).loc Reference3Ideal.main_arg9) = m ((c.tc : Thread Kernel3Ideal.nD Kernel3Ideal.τ).loc Kernel3Ideal.main_arg9))
    (h10 : m' ((c.tc : Thread Reference3Ideal.nD Reference3Ideal.τ).loc Reference3Ideal.main_arg10) = m ((c.tc : Thread Kernel3Ideal.nD Kernel3Ideal.τ).loc Kernel3Ideal.main_arg10))
    (h11 : m' ((c.tc : Thread Reference3Ideal.nD Reference3Ideal.τ).loc Reference3Ideal.main_arg11) = m ((c.tc : Thread Kernel3Ideal.nD Kernel3Ideal.τ).loc Kernel3Ideal.main_arg11))
    (h12 : m' ((c.tc : Thread Reference3Ideal.nD Reference3Ideal.τ).loc Reference3Ideal.main_arg12) = m ((c.tc : Thread Kernel3Ideal.nD Kernel3Ideal.τ).loc Kernel3Ideal.main_arg12))
    (h13 : m' ((c.tc : Thread Reference3Ideal.nD Reference3Ideal.τ).loc Reference3Ideal.main_arg13) = m ((c.tc : Thread Kernel3Ideal.nD Kernel3Ideal.τ).loc Kernel3Ideal.main_arg13))
    (h14 : m' ((c.tc : Thread Reference3Ideal.nD Reference3Ideal.τ).loc Reference3Ideal.main_arg14) = m ((c.tc : Thread Kernel3Ideal.nD Kernel3Ideal.τ).loc Kernel3Ideal.main_arg14))
    (h15 : m' ((c.tc : Thread Reference3Ideal.nD Reference3Ideal.τ).loc Reference3Ideal.main_arg15) = m ((c.tc : Thread Kernel3Ideal.nD Kernel3Ideal.τ).loc Kernel3Ideal.main_arg15))
    (h16 : m' ((c.tc : Thread Reference3Ideal.nD Reference3Ideal.τ).loc Reference3Ideal.main_arg16) = m ((c.tc : Thread Kernel3Ideal.nD Kernel3Ideal.τ).loc Kernel3Ideal.main_arg16)) :
    (Kernel3Ideal.Gen.dats m 0 c).arrAt 21 Kernel3Ideal.cfg0.N = Reference3Ideal.Mix.out (F := Ideal) (m' (c.tc.loc Reference3Ideal.main_arg0)) (m' (c.tc.loc Reference3Ideal.main_arg1)) (m' (c.tc.loc Reference3Ideal.main_arg2)) (m' (c.tc.loc Reference3Ideal.main_arg3)) (m' (c.tc.loc Reference3Ideal.main_arg4)) (m' (c.tc.loc Reference3Ideal.main_arg5)) (m' (c.tc.loc Reference3Ideal.main_arg6)) (m' (c.tc.loc Reference3Ideal.main_arg7)) (m' (c.tc.loc Reference3Ideal.main_arg8)) (m' (c.tc.loc Reference3Ideal.main_arg9)) (m' (c.tc.loc Reference3Ideal.main_arg10)) (m' (c.tc.loc Reference3Ideal.main_arg11)) (m' (c.tc.loc Reference3Ideal.main_arg12)) (m' (c.tc.loc Reference3Ideal.main_arg13)) (m' (c.tc.loc Reference3Ideal.main_arg14)) (m' (c.tc.loc Reference3Ideal.main_arg15)) (m' (c.tc.loc Reference3Ideal.main_arg16)) := by
  rw [h0, h1, h2, h3, h4, h5, h6, h7, h8, h9, h10, h11, h12, h13, h14, h15, h16]
  funext i
  obtain ⟨b, n, d, rfl⟩ : ∃ (b : Fin 2) (n : Fin 8192) (d : Fin 1024), i = ix3 b n d := ⟨i 0, i 1, i 2, ValueIdx.eq_ix3 i⟩
  exact kernel_at m c b n d

end Cert.Mix
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite_queries_keys
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Attn.Tie
public import proofs.«01_k».proof.Proof.Ffn.Tie
public import proofs.«01_k».proof.Proof.Mix.Same
public import proofs.«01_k».proof.Proof.Mix.Tie
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Gen.frame m ρ

theorem frame_kernelIdeal : Cert.quiescent_KernelIdeal := fun m ρ _ => Cert.KernelIdeal.Gen.frame m ρ

theorem frame_kernelIdeal_pre : Cert.quiescent_KernelIdeal_pre_finite_queries_keys := fun m ρ _ => Cert.KernelIdeal.Gen.frame m ρ

theorem frame_reference : Cert.quiescent_ReferenceIdeal := by
  intro m ρ _
  exact (θ_run ReferenceIdeal.defs _ _).mono (fun r h => ⟨fun c => (h c).2, sem_eq_zero_of_no_sems (by decide) r.2⟩)
    (ReferenceIdeal.Value.run m ρ)

theorem frame_reference_pre : Cert.quiescent_ReferenceIdeal_pre_finite_queries_keys := fun m ρ _ => frame_reference m ρ trivial

/-- The two runs end with the same array. -/
theorem algebraic : Cert.algebraic_KernelIdeal_ReferenceIdeal_pre_finite_queries_keys := by
  intro m ρ m' ρ' hP hargs
  refine ⟨fun c => (KernelIdeal.Gen.dats m 0 c).arrAt 3 KernelIdeal.cfg0.N, KernelIdeal.Value.run_blocks m ρ, ?_⟩
  refine (θ_run ReferenceIdeal.defs _ _).mono (fun r h c => ⟨(h c).1.trans ?_, (h c).2⟩) (ReferenceIdeal.Value.run m' ρ')
  obtain ⟨h0, h1, h2, h3, h4⟩ := hargs c
  exact (Attn.out_eq m m' hP c h0 h1 h2 h3 h4).symm

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2 : Cert.quiescent_Reference2Ideal := by
  intro m ρ _
  exact (θ_run Reference2Ideal.defs _ _).mono (fun r h => ⟨fun c => (h c).2, sem_eq_zero_of_no_sems (by decide) r.2⟩)
    (Reference2Ideal.Value.run m ρ)

/-- The two runs of the channel part end with the same array. -/
theorem algebraic2 : Cert.algebraic_Kernel2Ideal_Reference2Ideal := by
  intro m ρ m' ρ' _ hargs
  refine ⟨fun c => (Kernel2Ideal.Gen.dats m 0 c).arrAt 8 Kernel2Ideal.cfg0.N, Kernel2Ideal.Value.run_blocks m ρ, ?_⟩
  refine (θ_run Reference2Ideal.defs _ _).mono (fun r h c => ⟨(h c).1.trans ?_, (h c).2⟩) (Reference2Ideal.Value.run m' ρ')
  obtain ⟨h0, h1, h2, h3, h4, h5, h6⟩ := hargs c
  exact (Ffn.out_eq m m' c h0 h1 h2 h3 h4 h5 h6).symm

set_option maxRecDepth 16384 in
set_option maxHeartbeats 4000000 in
/-- The program and its ideal form have one text, so that one run is both frames. -/
theorem frame_kernel3 : Cert.quiescent_Kernel3 := by
  intro m ρ _
  rw [Mix.defs_same, Mix.main_same]
  exact Cert.Kernel3Ideal.Gen.frame (F := Bits) m ρ

theorem frame_kernel3Ideal : Cert.quiescent_Kernel3Ideal := fun m ρ _ => Cert.Kernel3Ideal.Gen.frame m ρ

theorem frame_reference3 : Cert.quiescent_Reference3Ideal := by
  intro m ρ _
  exact (θ_run Reference3Ideal.defs _ _).mono (fun r h => ⟨fun c => (h c).2, sem_eq_zero_of_no_sems (by decide) r.2⟩)
    (Reference3Ideal.Value.run m ρ)

/-- The two runs of the merge end with the same array. -/
theorem algebraic3 : Cert.algebraic_Kernel3Ideal_Reference3Ideal := by
  intro m ρ m' ρ' _ hargs
  refine ⟨fun c => (Kernel3Ideal.Gen.dats m 0 c).arrAt 21 Kernel3Ideal.cfg0.N, Kernel3Ideal.Value.run_blocks m ρ, ?_⟩
  refine (θ_run Reference3Ideal.defs _ _).mono (fun r h c => ⟨((h c).1.trans (Reference3Ideal.Value.val6_main_v342 (StableHlo.launchContents m' c)).symm).trans ?_, (h c).2⟩) (Reference3Ideal.Value.run m' ρ')
  obtain ⟨h0, h1, h2, h3, h4, h5, h6, h7, h8, h9, h10, h11, h12, h13, h14, h15, h16⟩ := hargs c
  exact (Reference3Ideal.Mix.res_eq m' c).trans (Mix.out_eq m m' c h0 h1 h2 h3 h4 h5 h6 h7 h8 h9 h10 h11 h12 h13 h14 h15 h16).symm

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_finite_queries_keys.Gen.facts,
    frame_kernel, frame_kernelIdeal, frame_kernelIdeal_pre, frame_reference, frame_reference_pre, frame_kernel2, frame_kernel2Ideal, frame_reference2,
    frame_kernel3, frame_kernel3Ideal, frame_reference3, trivial, algebraic, trivial, algebraic2, trivial, algebraic3⟩

end Cert.Proof

end
